-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionRefIdeal (m : (ℓ : Loc Cert.RetentionRefIdeal.nD Cert.RetentionRefIdeal.τ Cert.RetentionRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_FinalNormSample (m : (ℓ : Loc Cert.FinalNormSample.nD Cert.FinalNormSample.τ Cert.FinalNormSample.sig) → Buf (Elt Bits) ℓ) : Prop :=
  True

def Pre_FinalNormSampleIdeal (m : (ℓ : Loc Cert.FinalNormSampleIdeal.nD Cert.FinalNormSampleIdeal.τ Cert.FinalNormSampleIdeal.sig) → Buf (Elt Ideal) ℓ) : Prop :=
  True

def Pre_FinalNormSampleRefIdeal (m : (ℓ : Loc Cert.FinalNormSampleRefIdeal.nD Cert.FinalNormSampleRefIdeal.τ Cert.FinalNormSampleRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_RetentionSample (m : (ℓ : Loc Cert.RetentionSample.nD Cert.RetentionSample.τ Cert.RetentionSample.sig) → Buf (Elt Bits) ℓ) : Prop :=
  True

def Pre_RetentionSampleIdeal (m : (ℓ : Loc Cert.RetentionSampleIdeal.nD Cert.RetentionSampleIdeal.τ Cert.RetentionSampleIdeal.sig) → Buf (Elt Ideal) ℓ) : Prop :=
  True

def Pre_RetentionSampleRefIdeal (m : (ℓ : Loc Cert.RetentionSampleRefIdeal.nD Cert.RetentionSampleRefIdeal.τ Cert.RetentionSampleRefIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_FinalNormSample [hFinalNormSample : Cert.FinalNormSample.Facts] : Prop :=
  ∀ (m : (ℓ : Loc Cert.FinalNormSample.nD Cert.FinalNormSample.τ Cert.FinalNormSample.sig) → Buf (Elt Bits) ℓ) (g : Dev Cert.FinalNormSample.nD → PrngReg), Pre_FinalNormSample m →
    θ_run (Cert.FinalNormSample.defs (F := Bits)) (onTc (τ := Cert.FinalNormSample.τ) (Cert.FinalNormSample.main (F := Bits))) ⟨m, fun _ => 0, g⟩ (fun r => (∀ c : Dev Cert.FinalNormSample.nD,
      r.2.mem ((c.tc : Thread Cert.FinalNormSample.nD Cert.FinalNormSample.τ).loc Cert.FinalNormSample.main_arg0) = m ((c.tc : Thread Cert.FinalNormSample.nD Cert.FinalNormSample.τ).loc Cert.FinalNormSample.main_arg0)
      ∧ r.2.mem ((c.tc : Thread Cert.FinalNormSample.nD Cert.FinalNormSample.τ).loc Cert.FinalNormSample.main_arg1) = m ((c.tc : Thread Cert.FinalNormSample.nD Cert.FinalNormSample.τ).loc Cert.FinalNormSample.main_arg1))
      ∧ r.2.sem = fun _ => 0)

def quiescent_FinalNormSampleIdeal [hFinalNormSampleIdeal : Cert.FinalNormSampleIdeal.Facts] : Prop :=
  ∀ (m : (ℓ : Loc Cert.FinalNormSampleIdeal.nD Cert.FinalNormSampleIdeal.τ Cert.FinalNormSampleIdeal.sig) → Buf (Elt Ideal) ℓ) (g : Dev Cert.FinalNormSampleIdeal.nD → PrngReg), Pre_FinalNormSampleIdeal m →
    θ_run (Cert.FinalNormSampleIdeal.defs (F := Ideal)) (onTc (τ := Cert.FinalNormSampleIdeal.τ) (Cert.FinalNormSampleIdeal.main (F := Ideal))) ⟨m, fun _ => 0, g⟩ (fun r => (∀ c : Dev Cert.FinalNormSampleIdeal.nD,
      r.2.mem ((c.tc : Thread Cert.FinalNormSampleIdeal.nD Cert.FinalNormSampleIdeal.τ).loc Cert.FinalNormSampleIdeal.main_arg0) = m ((c.tc : Thread Cert.FinalNormSampleIdeal.nD Cert.FinalNormSampleIdeal.τ).loc Cert.FinalNormSampleIdeal.main_arg0)
      ∧ r.2.mem ((c.tc : Thread Cert.FinalNormSampleIdeal.nD Cert.FinalNormSampleIdeal.τ).loc Cert.FinalNormSampleIdeal.main_arg1) = m ((c.tc : Thread Cert.FinalNormSampleIdeal.nD Cert.FinalNormSampleIdeal.τ).loc Cert.FinalNormSampleIdeal.main_arg1))
      ∧ r.2.sem = fun _ => 0)

def quiescent_FinalNormSampleRefIdeal [hFinalNormSampleRefIdeal : Cert.FinalNormSampleRefIdeal.Facts] : Prop :=
  ∀ (m : (ℓ : Loc Cert.FinalNormSampleRefIdeal.nD Cert.FinalNormSampleRefIdeal.τ Cert.FinalNormSampleRefIdeal.sig) → Buf (Elt Ideal) ℓ) (g : Dev Cert.FinalNormSampleRefIdeal.nD → PrngReg), Pre_FinalNormSampleRefIdeal m →
    θ_run (Cert.FinalNormSampleRefIdeal.defs (F := Ideal)) (onTc (τ := Cert.FinalNormSampleRefIdeal.τ) (Cert.FinalNormSampleRefIdeal.main (F := Ideal))) ⟨m, fun _ => 0, g⟩ (fun r => (∀ c : Dev Cert.FinalNormSampleRefIdeal.nD,
      r.2.mem ((c.tc : Thread Cert.FinalNormSampleRefIdeal.nD Cert.FinalNormSampleRefIdeal.τ).loc Cert.FinalNormSampleRefIdeal.main_arg0) = m ((c.tc : Thread Cert.FinalNormSampleRefIdeal.nD Cert.FinalNormSampleRefIdeal.τ).loc Cert.FinalNormSampleRefIdeal.main_arg0)
      ∧ r.2.mem ((c.tc : Thread Cert.FinalNormSampleRefIdeal.nD Cert.FinalNormSampleRefIdeal.τ).loc Cert.FinalNormSampleRefIdeal.main_arg1) = m ((c.tc : Thread Cert.FinalNormSampleRefIdeal.nD Cert.FinalNormSampleRefIdeal.τ).loc Cert.FinalNormSampleRefIdeal.main_arg1))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2))
      ∧ r.2.sem = fun _ => 0)

def quiescent_RetentionSample [hRetentionSample : Cert.RetentionSample.Facts] : Prop :=
  ∀ (m : (ℓ : Loc Cert.RetentionSample.nD Cert.RetentionSample.τ Cert.RetentionSample.sig) → Buf (Elt Bits) ℓ) (g : Dev Cert.RetentionSample.nD → PrngReg), Pre_RetentionSample m →
    θ_run (Cert.RetentionSample.defs (F := Bits)) (onTc (τ := Cert.RetentionSample.τ) (Cert.RetentionSample.main (F := Bits))) ⟨m, fun _ => 0, g⟩ (fun r => (∀ c : Dev Cert.RetentionSample.nD,
      r.2.mem ((c.tc : Thread Cert.RetentionSample.nD Cert.RetentionSample.τ).loc Cert.RetentionSample.main_arg0) = m ((c.tc : Thread Cert.RetentionSample.nD Cert.RetentionSample.τ).loc Cert.RetentionSample.main_arg0)
      ∧ r.2.mem ((c.tc : Thread Cert.RetentionSample.nD Cert.RetentionSample.τ).loc Cert.RetentionSample.main_arg1) = m ((c.tc : Thread Cert.RetentionSample.nD Cert.RetentionSample.τ).loc Cert.RetentionSample.main_arg1)
      ∧ r.2.mem ((c.tc : Thread Cert.RetentionSample.nD Cert.RetentionSample.τ).loc Cert.RetentionSample.main_arg2) = m ((c.tc : Thread Cert.RetentionSample.nD Cert.RetentionSample.τ).loc Cert.RetentionSample.main_arg2))
      ∧ r.2.sem = fun _ => 0)

def quiescent_RetentionSampleIdeal [hRetentionSampleIdeal : Cert.RetentionSampleIdeal.Facts] : Prop :=
  ∀ (m : (ℓ : Loc Cert.RetentionSampleIdeal.nD Cert.RetentionSampleIdeal.τ Cert.RetentionSampleIdeal.sig) → Buf (Elt Ideal) ℓ) (g : Dev Cert.RetentionSampleIdeal.nD → PrngReg), Pre_RetentionSampleIdeal m →
    θ_run (Cert.RetentionSampleIdeal.defs (F := Ideal)) (onTc (τ := Cert.RetentionSampleIdeal.τ) (Cert.RetentionSampleIdeal.main (F := Ideal))) ⟨m, fun _ => 0, g⟩ (fun r => (∀ c : Dev Cert.RetentionSampleIdeal.nD,
      r.2.mem ((c.tc : Thread Cert.RetentionSampleIdeal.nD Cert.RetentionSampleIdeal.τ).loc Cert.RetentionSampleIdeal.main_arg0) = m ((c.tc : Thread Cert.RetentionSampleIdeal.nD Cert.RetentionSampleIdeal.τ).loc Cert.RetentionSampleIdeal.main_arg0)
      ∧ r.2.mem ((c.tc : Thread Cert.RetentionSampleIdeal.nD Cert.RetentionSampleIdeal.τ).loc Cert.RetentionSampleIdeal.main_arg1) = m ((c.tc : Thread Cert.RetentionSampleIdeal.nD Cert.RetentionSampleIdeal.τ).loc Cert.RetentionSampleIdeal.main_arg1)
      ∧ r.2.mem ((c.tc : Thread Cert.RetentionSampleIdeal.nD Cert.RetentionSampleIdeal.τ).loc Cert.RetentionSampleIdeal.main_arg2) = m ((c.tc : Thread Cert.RetentionSampleIdeal.nD Cert.RetentionSampleIdeal.τ).loc Cert.RetentionSampleIdeal.main_arg2))
      ∧ r.2.sem = fun _ => 0)

def quiescent_RetentionSampleRefIdeal [hRetentionSampleRefIdeal : Cert.RetentionSampleRefIdeal.Facts] : Prop :=
  ∀ (m : (ℓ : Loc Cert.RetentionSampleRefIdeal.nD Cert.RetentionSampleRefIdeal.τ Cert.RetentionSampleRefIdeal.sig) → Buf (Elt Ideal) ℓ) (g : Dev Cert.RetentionSampleRefIdeal.nD → PrngReg), Pre_RetentionSampleRefIdeal m →
    θ_run (Cert.RetentionSampleRefIdeal.defs (F := Ideal)) (onTc (τ := Cert.RetentionSampleRefIdeal.τ) (Cert.RetentionSampleRefIdeal.main (F := Ideal))) ⟨m, fun _ => 0, g⟩ (fun r => (∀ c : Dev Cert.RetentionSampleRefIdeal.nD,
      r.2.mem ((c.tc : Thread Cert.RetentionSampleRefIdeal.nD Cert.RetentionSampleRefIdeal.τ).loc Cert.RetentionSampleRefIdeal.main_arg0) = m ((c.tc : Thread Cert.RetentionSampleRefIdeal.nD Cert.RetentionSampleRefIdeal.τ).loc Cert.RetentionSampleRefIdeal.main_arg0)
      ∧ r.2.mem ((c.tc : Thread Cert.RetentionSampleRefIdeal.nD Cert.RetentionSampleRefIdeal.τ).loc Cert.RetentionSampleRefIdeal.main_arg1) = m ((c.tc : Thread Cert.RetentionSampleRefIdeal.nD Cert.RetentionSampleRefIdeal.τ).loc Cert.RetentionSampleRefIdeal.main_arg1)
      ∧ r.2.mem ((c.tc : Thread Cert.RetentionSampleRefIdeal.nD Cert.RetentionSampleRefIdeal.τ).loc Cert.RetentionSampleRefIdeal.main_arg2) = m ((c.tc : Thread Cert.RetentionSampleRefIdeal.nD Cert.RetentionSampleRefIdeal.τ).loc Cert.RetentionSampleRefIdeal.main_arg2))
      ∧ r.2.sem = fun _ => 0)

def preserves_Retention_RetentionIdeal : Prop :=
  True

def algebraic_RetentionIdeal_RetentionRefIdeal [hRetentionIdeal : Cert.RetentionIdeal.Facts] [hRetentionRefIdeal : Cert.RetentionRefIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)
      ∧ m' ((c.tc : Thread Cert.RetentionRefIdeal.nD Cert.RetentionRefIdeal.τ).loc Cert.RetentionRefIdeal.main_arg1) = m ((c.tc : Thread Cert.RetentionIdeal.nD Cert.RetentionIdeal.τ).loc Cert.RetentionIdeal.main_arg1)) →
    ∃ (v0 : (c : Dev Cert.RetentionIdeal.nD) → Buf (Elt Ideal) ((c.tc : Thread Cert.RetentionIdeal.nD Cert.RetentionIdeal.τ).loc Cert.RetentionIdeal.main_v62_0)) (v1 : (c : Dev Cert.RetentionIdeal.nD) → Buf (Elt Ideal) ((c.tc : Thread Cert.RetentionIdeal.nD Cert.RetentionIdeal.τ).loc Cert.RetentionIdeal.main_v62_1)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v62_0) = v0 c
          ∧ r.2.mem ((c.tc : Thread Cert.RetentionIdeal.nD Cert.RetentionIdeal.τ).loc Cert.RetentionIdeal.main_v62_1) = v1 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v50) = v0 c
          ∧ r.2.mem ((c.tc : Thread Cert.RetentionRefIdeal.nD Cert.RetentionRefIdeal.τ).loc Cert.RetentionRefIdeal.main_v22_5) = v1 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v20) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v39_0)) (v1 : (c : Dev Cert.InprojIdeal.nD) → Buf (Elt Ideal) ((c.tc : Thread Cert.InprojIdeal.nD Cert.InprojIdeal.τ).loc Cert.InprojIdeal.main_v39_1)) (v2 : (c : Dev Cert.InprojIdeal.nD) → Buf (Elt Ideal) ((c.tc : Thread Cert.InprojIdeal.nD Cert.InprojIdeal.τ).loc Cert.InprojIdeal.main_v39_2)) (v3 : (c : Dev Cert.InprojIdeal.nD) → Buf (Elt Ideal) ((c.tc : Thread Cert.InprojIdeal.nD Cert.InprojIdeal.τ).loc Cert.InprojIdeal.main_v39_3)) (v4 : (c : Dev Cert.InprojIdeal.nD) → Buf (Elt Ideal) ((c.tc : Thread Cert.InprojIdeal.nD Cert.InprojIdeal.τ).loc Cert.InprojIdeal.main_v39_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v39_0) = v0 c
          ∧ r.2.mem ((c.tc : Thread Cert.InprojIdeal.nD Cert.InprojIdeal.τ).loc Cert.InprojIdeal.main_v39_1) = v1 c
          ∧ r.2.mem ((c.tc : Thread Cert.InprojIdeal.nD Cert.InprojIdeal.τ).loc Cert.InprojIdeal.main_v39_2) = v2 c
          ∧ r.2.mem ((c.tc : Thread Cert.InprojIdeal.nD Cert.InprojIdeal.τ).loc Cert.InprojIdeal.main_v39_3) = v3 c
          ∧ r.2.mem ((c.tc : Thread Cert.InprojIdeal.nD Cert.InprojIdeal.τ).loc Cert.InprojIdeal.main_v39_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v149) = v0 c
          ∧ r.2.mem ((c.tc : Thread Cert.InprojRefIdeal.nD Cert.InprojRefIdeal.τ).loc Cert.InprojRefIdeal.main_v150) = v1 c
          ∧ r.2.mem ((c.tc : Thread Cert.InprojRefIdeal.nD Cert.InprojRefIdeal.τ).loc Cert.InprojRefIdeal.main_v151) = v2 c
          ∧ r.2.mem ((c.tc : Thread Cert.InprojRefIdeal.nD Cert.InprojRefIdeal.τ).loc Cert.InprojRefIdeal.main_v152) = v3 c
          ∧ r.2.mem ((c.tc : Thread Cert.InprojRefIdeal.nD Cert.InprojRefIdeal.τ).loc Cert.InprojRefIdeal.main_v153) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_FinalNormSample_FinalNormSampleIdeal : Prop :=
  True

def algebraic_FinalNormSampleIdeal_FinalNormSampleRefIdeal [hFinalNormSampleIdeal : Cert.FinalNormSampleIdeal.Facts] [hFinalNormSampleRefIdeal : Cert.FinalNormSampleRefIdeal.Facts] : Prop :=
  ∀ (m : (ℓ : Loc Cert.FinalNormSampleIdeal.nD Cert.FinalNormSampleIdeal.τ Cert.FinalNormSampleIdeal.sig) → Buf (Elt Ideal) ℓ) (g : Dev Cert.FinalNormSampleIdeal.nD → PrngReg)
    (m' : (ℓ : Loc Cert.FinalNormSampleRefIdeal.nD Cert.FinalNormSampleRefIdeal.τ Cert.FinalNormSampleRefIdeal.sig) → Buf (Elt Ideal) ℓ) (g' : Dev Cert.FinalNormSampleRefIdeal.nD → PrngReg), Pre_FinalNormSampleIdeal m →
    (∀ c : Dev Cert.FinalNormSampleIdeal.nD,
      m' ((c.tc : Thread Cert.FinalNormSampleRefIdeal.nD Cert.FinalNormSampleRefIdeal.τ).loc Cert.FinalNormSampleRefIdeal.main_arg0) = m ((c.tc : Thread Cert.FinalNormSampleIdeal.nD Cert.FinalNormSampleIdeal.τ).loc Cert.FinalNormSampleIdeal.main_arg0)
      ∧ m' ((c.tc : Thread Cert.FinalNormSampleRefIdeal.nD Cert.FinalNormSampleRefIdeal.τ).loc Cert.FinalNormSampleRefIdeal.main_arg1) = m ((c.tc : Thread Cert.FinalNormSampleIdeal.nD Cert.FinalNormSampleIdeal.τ).loc Cert.FinalNormSampleIdeal.main_arg1)) →
    ∃ (v0 : (c : Dev Cert.FinalNormSampleIdeal.nD) → Buf (Elt Ideal) ((c.tc : Thread Cert.FinalNormSampleIdeal.nD Cert.FinalNormSampleIdeal.τ).loc Cert.FinalNormSampleIdeal.main_v1)),
      θ_run (Cert.FinalNormSampleIdeal.defs (F := Ideal)) (onTc (τ := Cert.FinalNormSampleIdeal.τ) (Cert.FinalNormSampleIdeal.main (F := Ideal))) ⟨m, fun _ => 0, g⟩ (fun r => ∀ c : Dev Cert.FinalNormSampleIdeal.nD,
          r.2.mem ((c.tc : Thread Cert.FinalNormSampleIdeal.nD Cert.FinalNormSampleIdeal.τ).loc Cert.FinalNormSampleIdeal.main_v1) = v0 c
          ∧ r.2.mem ((c.tc : Thread Cert.FinalNormSampleIdeal.nD Cert.FinalNormSampleIdeal.τ).loc Cert.FinalNormSampleIdeal.main_arg0) = m ((c.tc : Thread Cert.FinalNormSampleIdeal.nD Cert.FinalNormSampleIdeal.τ).loc Cert.FinalNormSampleIdeal.main_arg0)
          ∧ r.2.mem ((c.tc : Thread Cert.FinalNormSampleIdeal.nD Cert.FinalNormSampleIdeal.τ).loc Cert.FinalNormSampleIdeal.main_arg1) = m ((c.tc : Thread Cert.FinalNormSampleIdeal.nD Cert.FinalNormSampleIdeal.τ).loc Cert.FinalNormSampleIdeal.main_arg1))
      ∧ θ_run (Cert.FinalNormSampleRefIdeal.defs (F := Ideal)) (onTc (τ := Cert.FinalNormSampleRefIdeal.τ) (Cert.FinalNormSampleRefIdeal.main (F := Ideal))) ⟨m', fun _ => 0, g'⟩ (fun r => ∀ c : Dev Cert.FinalNormSampleRefIdeal.nD,
          r.2.mem ((c.tc : Thread Cert.FinalNormSampleRefIdeal.nD Cert.FinalNormSampleRefIdeal.τ).loc Cert.FinalNormSampleRefIdeal.main_v12) = v0 c
          ∧ r.2.mem ((c.tc : Thread Cert.FinalNormSampleRefIdeal.nD Cert.FinalNormSampleRefIdeal.τ).loc Cert.FinalNormSampleRefIdeal.main_arg0) = m' ((c.tc : Thread Cert.FinalNormSampleRefIdeal.nD Cert.FinalNormSampleRefIdeal.τ).loc Cert.FinalNormSampleRefIdeal.main_arg0)
          ∧ r.2.mem ((c.tc : Thread Cert.FinalNormSampleRefIdeal.nD Cert.FinalNormSampleRefIdeal.τ).loc Cert.FinalNormSampleRefIdeal.main_arg1) = m' ((c.tc : Thread Cert.FinalNormSampleRefIdeal.nD Cert.FinalNormSampleRefIdeal.τ).loc Cert.FinalNormSampleRefIdeal.main_arg1))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)) →
    ∃ (v0 : (c : Dev Cert.InprojSampleIdeal.nD) → Buf (Elt Ideal) ((c.tc : Thread Cert.InprojSampleIdeal.nD Cert.InprojSampleIdeal.τ).loc Cert.InprojSampleIdeal.main_v41_0)) (v1 : (c : Dev Cert.InprojSampleIdeal.nD) → Buf (Elt Ideal) ((c.tc : Thread Cert.InprojSampleIdeal.nD Cert.InprojSampleIdeal.τ).loc Cert.InprojSampleIdeal.main_v41_1)) (v2 : (c : Dev Cert.InprojSampleIdeal.nD) → Buf (Elt Ideal) ((c.tc : Thread Cert.InprojSampleIdeal.nD Cert.InprojSampleIdeal.τ).loc Cert.InprojSampleIdeal.main_v41_2)) (v3 : (c : Dev Cert.InprojSampleIdeal.nD) → Buf (Elt Ideal) ((c.tc : Thread Cert.InprojSampleIdeal.nD Cert.InprojSampleIdeal.τ).loc Cert.InprojSampleIdeal.main_v41_3)) (v4 : (c : Dev Cert.InprojSampleIdeal.nD) → Buf (Elt Ideal) ((c.tc : Thread Cert.InprojSampleIdeal.nD Cert.InprojSampleIdeal.τ).loc Cert.InprojSampleIdeal.main_v41_4)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v41_0) = v0 c
          ∧ r.2.mem ((c.tc : Thread Cert.InprojSampleIdeal.nD Cert.InprojSampleIdeal.τ).loc Cert.InprojSampleIdeal.main_v41_1) = v1 c
          ∧ r.2.mem ((c.tc : Thread Cert.InprojSampleIdeal.nD Cert.InprojSampleIdeal.τ).loc Cert.InprojSampleIdeal.main_v41_2) = v2 c
          ∧ r.2.mem ((c.tc : Thread Cert.InprojSampleIdeal.nD Cert.InprojSampleIdeal.τ).loc Cert.InprojSampleIdeal.main_v41_3) = v3 c
          ∧ r.2.mem ((c.tc : Thread Cert.InprojSampleIdeal.nD Cert.InprojSampleIdeal.τ).loc Cert.InprojSampleIdeal.main_v41_4) = v4 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v151) = v0 c
          ∧ r.2.mem ((c.tc : Thread Cert.InprojSampleRefIdeal.nD Cert.InprojSampleRefIdeal.τ).loc Cert.InprojSampleRefIdeal.main_v152) = v1 c
          ∧ r.2.mem ((c.tc : Thread Cert.InprojSampleRefIdeal.nD Cert.InprojSampleRefIdeal.τ).loc Cert.InprojSampleRefIdeal.main_v153) = v2 c
          ∧ r.2.mem ((c.tc : Thread Cert.InprojSampleRefIdeal.nD Cert.InprojSampleRefIdeal.τ).loc Cert.InprojSampleRefIdeal.main_v154) = v3 c
          ∧ r.2.mem ((c.tc : Thread Cert.InprojSampleRefIdeal.nD Cert.InprojSampleRefIdeal.τ).loc Cert.InprojSampleRefIdeal.main_v155) = v4 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2))

def preserves_RetentionSample_RetentionSampleIdeal : Prop :=
  True

def algebraic_RetentionSampleIdeal_RetentionSampleRefIdeal [hRetentionSampleIdeal : Cert.RetentionSampleIdeal.Facts] [hRetentionSampleRefIdeal : Cert.RetentionSampleRefIdeal.Facts] : Prop :=
  ∀ (m : (ℓ : Loc Cert.RetentionSampleIdeal.nD Cert.RetentionSampleIdeal.τ Cert.RetentionSampleIdeal.sig) → Buf (Elt Ideal) ℓ) (g : Dev Cert.RetentionSampleIdeal.nD → PrngReg)
    (m' : (ℓ : Loc Cert.RetentionSampleRefIdeal.nD Cert.RetentionSampleRefIdeal.τ Cert.RetentionSampleRefIdeal.sig) → Buf (Elt Ideal) ℓ) (g' : Dev Cert.RetentionSampleRefIdeal.nD → PrngReg), Pre_RetentionSampleIdeal m →
    (∀ c : Dev Cert.RetentionSampleIdeal.nD,
      m' ((c.tc : Thread Cert.RetentionSampleRefIdeal.nD Cert.RetentionSampleRefIdeal.τ).loc Cert.RetentionSampleRefIdeal.main_arg0) = m ((c.tc : Thread Cert.RetentionSampleIdeal.nD Cert.RetentionSampleIdeal.τ).loc Cert.RetentionSampleIdeal.main_arg0)
      ∧ m' ((c.tc : Thread Cert.RetentionSampleRefIdeal.nD Cert.RetentionSampleRefIdeal.τ).loc Cert.RetentionSampleRefIdeal.main_arg1) = m ((c.tc : Thread Cert.RetentionSampleIdeal.nD Cert.RetentionSampleIdeal.τ).loc Cert.RetentionSampleIdeal.main_arg1)
      ∧ m' ((c.tc : Thread Cert.RetentionSampleRefIdeal.nD Cert.RetentionSampleRefIdeal.τ).loc Cert.RetentionSampleRefIdeal.main_arg2) = m ((c.tc : Thread Cert.RetentionSampleIdeal.nD Cert.RetentionSampleIdeal.τ).loc Cert.RetentionSampleIdeal.main_arg2)) →
    ∃ (v0 : (c : Dev Cert.RetentionSampleIdeal.nD) → Buf (Elt Ideal) ((c.tc : Thread Cert.RetentionSampleIdeal.nD Cert.RetentionSampleIdeal.τ).loc Cert.RetentionSampleIdeal.main_v62_1)),
      θ_run (Cert.RetentionSampleIdeal.defs (F := Ideal)) (onTc (τ := Cert.RetentionSampleIdeal.τ) (Cert.RetentionSampleIdeal.main (F := Ideal))) ⟨m, fun _ => 0, g⟩ (fun r => ∀ c : Dev Cert.RetentionSampleIdeal.nD,
          r.2.mem ((c.tc : Thread Cert.RetentionSampleIdeal.nD Cert.RetentionSampleIdeal.τ).loc Cert.RetentionSampleIdeal.main_v62_1) = v0 c
          ∧ r.2.mem ((c.tc : Thread Cert.RetentionSampleIdeal.nD Cert.RetentionSampleIdeal.τ).loc Cert.RetentionSampleIdeal.main_arg0) = m ((c.tc : Thread Cert.RetentionSampleIdeal.nD Cert.RetentionSampleIdeal.τ).loc Cert.RetentionSampleIdeal.main_arg0)
          ∧ r.2.mem ((c.tc : Thread Cert.RetentionSampleIdeal.nD Cert.RetentionSampleIdeal.τ).loc Cert.RetentionSampleIdeal.main_arg1) = m ((c.tc : Thread Cert.RetentionSampleIdeal.nD Cert.RetentionSampleIdeal.τ).loc Cert.RetentionSampleIdeal.main_arg1)
          ∧ r.2.mem ((c.tc : Thread Cert.RetentionSampleIdeal.nD Cert.RetentionSampleIdeal.τ).loc Cert.RetentionSampleIdeal.main_arg2) = m ((c.tc : Thread Cert.RetentionSampleIdeal.nD Cert.RetentionSampleIdeal.τ).loc Cert.RetentionSampleIdeal.main_arg2))
      ∧ θ_run (Cert.RetentionSampleRefIdeal.defs (F := Ideal)) (onTc (τ := Cert.RetentionSampleRefIdeal.τ) (Cert.RetentionSampleRefIdeal.main (F := Ideal))) ⟨m', fun _ => 0, g'⟩ (fun r => ∀ c : Dev Cert.RetentionSampleRefIdeal.nD,
          r.2.mem ((c.tc : Thread Cert.RetentionSampleRefIdeal.nD Cert.RetentionSampleRefIdeal.τ).loc Cert.RetentionSampleRefIdeal.main_v71) = v0 c
          ∧ r.2.mem ((c.tc : Thread Cert.RetentionSampleRefIdeal.nD Cert.RetentionSampleRefIdeal.τ).loc Cert.RetentionSampleRefIdeal.main_arg0) = m' ((c.tc : Thread Cert.RetentionSampleRefIdeal.nD Cert.RetentionSampleRefIdeal.τ).loc Cert.RetentionSampleRefIdeal.main_arg0)
          ∧ r.2.mem ((c.tc : Thread Cert.RetentionSampleRefIdeal.nD Cert.RetentionSampleRefIdeal.τ).loc Cert.RetentionSampleRefIdeal.main_arg1) = m' ((c.tc : Thread Cert.RetentionSampleRefIdeal.nD Cert.RetentionSampleRefIdeal.τ).loc Cert.RetentionSampleRefIdeal.main_arg1)
          ∧ r.2.mem ((c.tc : Thread Cert.RetentionSampleRefIdeal.nD Cert.RetentionSampleRefIdeal.τ).loc Cert.RetentionSampleRefIdeal.main_arg2) = m' ((c.tc : Thread Cert.RetentionSampleRefIdeal.nD Cert.RetentionSampleRefIdeal.τ).loc Cert.RetentionSampleRefIdeal.main_arg2))

def Claim : Prop :=
  ∃ (hRetention : Cert.Retention.Facts) (hRetentionIdeal : Cert.RetentionIdeal.Facts) (hRetentionRefIdeal : Cert.RetentionRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hFinalNorm : Cert.FinalNorm.Facts) (hFinalNormIdeal : Cert.FinalNormIdeal.Facts) (hFinalNormRefIdeal : Cert.FinalNormRefIdeal.Facts) (hInproj : Cert.Inproj.Facts) (hInprojIdeal : Cert.InprojIdeal.Facts) (hInprojRefIdeal : Cert.InprojRefIdeal.Facts) (hFinalNormSample : Cert.FinalNormSample.Facts) (hFinalNormSampleIdeal : Cert.FinalNormSampleIdeal.Facts) (hFinalNormSampleRefIdeal : Cert.FinalNormSampleRefIdeal.Facts) (hInprojSample : Cert.InprojSample.Facts) (hInprojSampleIdeal : Cert.InprojSampleIdeal.Facts) (hInprojSampleRefIdeal : Cert.InprojSampleRefIdeal.Facts) (hRetentionSample : Cert.RetentionSample.Facts) (hRetentionSampleIdeal : Cert.RetentionSampleIdeal.Facts) (hRetentionSampleRefIdeal : Cert.RetentionSampleRefIdeal.Facts),
    quiescent_Retention (hRetention := hRetention)
    ∧ quiescent_RetentionIdeal (hRetentionIdeal := hRetentionIdeal)
    ∧ quiescent_RetentionRefIdeal (hRetentionRefIdeal := hRetentionRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Inproj (hInproj := hInproj)
    ∧ quiescent_InprojIdeal (hInprojIdeal := hInprojIdeal)
    ∧ quiescent_InprojRefIdeal (hInprojRefIdeal := hInprojRefIdeal)
    ∧ quiescent_FinalNormSample (hFinalNormSample := hFinalNormSample)
    ∧ quiescent_FinalNormSampleIdeal (hFinalNormSampleIdeal := hFinalNormSampleIdeal)
    ∧ quiescent_FinalNormSampleRefIdeal (hFinalNormSampleRefIdeal := hFinalNormSampleRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_RetentionSample (hRetentionSample := hRetentionSample)
    ∧ quiescent_RetentionSampleIdeal (hRetentionSampleIdeal := hRetentionSampleIdeal)
    ∧ quiescent_RetentionSampleRefIdeal (hRetentionSampleRefIdeal := hRetentionSampleRefIdeal)
    ∧ preserves_Retention_RetentionIdeal
    ∧ algebraic_RetentionIdeal_RetentionRefIdeal (hRetentionIdeal := hRetentionIdeal) (hRetentionRefIdeal := hRetentionRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Inproj_InprojIdeal
    ∧ algebraic_InprojIdeal_InprojRefIdeal (hInprojIdeal := hInprojIdeal) (hInprojRefIdeal := hInprojRefIdeal)
    ∧ preserves_FinalNormSample_FinalNormSampleIdeal
    ∧ algebraic_FinalNormSampleIdeal_FinalNormSampleRefIdeal (hFinalNormSampleIdeal := hFinalNormSampleIdeal) (hFinalNormSampleRefIdeal := hFinalNormSampleRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_RetentionSample_RetentionSampleIdeal
    ∧ algebraic_RetentionSampleIdeal_RetentionSampleRefIdeal (hRetentionSampleIdeal := hRetentionSampleIdeal) (hRetentionSampleRefIdeal := hRetentionSampleRefIdeal)
-- ==== Retention.lean ====
abbrev S8192x16384 : Shape := ⟨2, ![8192, 16384]⟩
abbrev S1024 : Shape := ⟨1, ![1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x128x1 : Shape := ⟨3, ![1, 128, 1]⟩
abbrev S1x1x128 : Shape := ⟨3, ![1, 1, 128]⟩
abbrev S8x1 : Shape := ⟨2, ![8, 1]⟩
abbrev S8x128 : Shape := ⟨2, ![8, 128]⟩
abbrev S8x128x1 : Shape := ⟨3, ![8, 128, 1]⟩
abbrev S8x1x128 : Shape := ⟨3, ![8, 1, 128]⟩
abbrev S1x1024 : Shape := ⟨2, ![1, 1024]⟩
abbrev S8192x1024 : Shape := ⟨2, ![8192, 1024]⟩
abbrev S4x8x128x128 : Shape := ⟨4, ![4, 8, 128, 128]⟩
abbrev S2048x512 : Shape := ⟨2, ![2048, 512]⟩
abbrev S4x128x128 : Shape := ⟨3, ![4, 128, 128]⟩
abbrev S4x1x128 : Shape := ⟨3, ![4, 1, 128]⟩
abbrev S1x512 : Shape := ⟨2, ![1, 512]⟩
abbrev S1x4x128x128 : Shape := ⟨4, ![1, 4, 128, 128]⟩
abbrev S1x1x128x128 : Shape := ⟨4, ![1, 1, 128, 128]⟩

abbrev nBuf : Space → Nat
  | .hbm => 86
  | .vmem => 22
  | .smem => 0
  | _ => 0

abbrev bufTy : (tb : Table) → Fin (tcTables nBuf tb) → BufTy
  | .hbm, ⟨0, _⟩ => ⟨S8192x16384, .f32⟩
  | .hbm, ⟨1, _⟩ => ⟨S1024, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .i1⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S8x1x1, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S8x128x128, .f32⟩
  | .hbm, ⟨30, _⟩ => ⟨S8x128x128, .f32⟩
  | .hbm, ⟨31, _⟩ => ⟨S8x128x128, .f32⟩
  | .hbm, ⟨32, _⟩ => ⟨S8x128x128, .f32⟩
  | .hbm, ⟨33, _⟩ => ⟨S_, .f32⟩
  | .hbm, ⟨34, _⟩ => ⟨S_, .f32⟩
  | .hbm, ⟨35, _⟩ => ⟨S8x128x128, .i1⟩
  | .hbm, ⟨36, _⟩ => ⟨S8x128x128, .f32⟩
  | .hbm, ⟨37, _⟩ => ⟨S8x128x128, .f32⟩
  | .hbm, ⟨38, _⟩ => ⟨S1x128x1, .i1⟩
  | .hbm, ⟨39, _⟩ => ⟨S1x1x128, .i1⟩
  | .hbm, ⟨40, _⟩ => ⟨S1x128x128, .i1⟩
  | .hbm, ⟨41, _⟩ => ⟨S1x128x128, .i1⟩
  | .hbm, ⟨42, _⟩ => ⟨S1x128x128, .i1⟩
  | .hbm, ⟨43, _⟩ => ⟨S_, .f32⟩
  | .hbm, ⟨44, _⟩ => ⟨S_, .f32⟩
  | .hbm, ⟨45, _⟩ => ⟨S8x128x128, .i1⟩
  | .hbm, ⟨46, _⟩ => ⟨S8x128x128, .f32⟩
  | .hbm, ⟨47, _⟩ => ⟨S8x128x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S8x1, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S1x128, .i1⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S8x1, .f32⟩
  | .hbm, ⟨63, _⟩ => ⟨S8x128, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S_, .f32⟩
  | .hbm, ⟨68, _⟩ => ⟨S_, .f32⟩
  | .hbm, ⟨69, _⟩ => ⟨S8x128, .i1⟩
  | .hbm, ⟨70, _⟩ => ⟨S8x128, .f32⟩
  | .hbm, ⟨71, _⟩ => ⟨S8x128, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S8x128x1, .f32⟩
  | .hbm, ⟨77, _⟩ => ⟨S8x128x128, .f32⟩
  | .hbm, ⟨78, _⟩ => ⟨S8x128x1, .f32⟩
  | .hbm, ⟨79, _⟩ => ⟨S8x128x128, .f32⟩
  | .hbm, ⟨80, _⟩ => ⟨S8x1, .f32⟩
  | .hbm, ⟨81, _⟩ => ⟨S8x1x1, .f32⟩
  | .hbm, ⟨82, _⟩ => ⟨S8x1x128, .f32⟩
  | .hbm, ⟨83, _⟩ => ⟨S1x1024, .f32⟩
  | .hbm, ⟨84, _⟩ => ⟨S8192x1024, .bf16⟩
  | .hbm, ⟨85, _⟩ => ⟨S4x8x128x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x1x128, .f32⟩
  | .local _ .vmem, ⟨15, _⟩ => ⟨S4x1x128, .f32⟩
  | .local _ .vmem, ⟨16, _⟩ => ⟨S1x512, .f32⟩
  | .local _ .vmem, ⟨17, _⟩ => ⟨S1x512, .f32⟩
  | .local _ .vmem, ⟨18, _⟩ => ⟨S2048x512, .bf16⟩
  | .local _ .vmem, ⟨19, _⟩ => ⟨S2048x512, .bf16⟩
  | .local _ .vmem, ⟨20, _⟩ => ⟨S1x4x128x128, .f32⟩
  | .local _ .vmem, ⟨21, _⟩ => ⟨S1x4x128x128, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  v18
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v20 : Index := Scalar.indexCast v19
  let c0_16 : Index := 0#32
  ![v20.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v85 : Index := Scalar.indexCast v19
  let c128 : Index := 128#32
  ![v85.toNat, 128]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v150 : Index := Scalar.indexCast v19
  let c256 : Index := 256#32
  ![v150.toNat, 256]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v215 : Index := Scalar.indexCast v19
  let c384 : Index := 384#32
  ![v215.toNat, 384]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetentionRefIdeal.lean ====
abbrev S8192x16384 : Shape := ⟨2, ![8192, 16384]⟩
abbrev S1024 : Shape := ⟨1, ![1024]⟩
abbrev S8192x1024 : Shape := ⟨2, ![8192, 1024]⟩
abbrev S8 : Shape := ⟨1, ![8]⟩
abbrev S_ : Shape := ⟨0, ![]⟩
abbrev S4x2048x8x128 : Shape := ⟨4, ![4, 2048, 8, 128]⟩
abbrev S4x8x128x128 : Shape := ⟨4, ![4, 8, 128, 128]⟩
abbrev S4x16x128x8x128 : Shape := ⟨5, ![4, 16, 128, 8, 128]⟩
abbrev S16x4x128x8x128 : Shape := ⟨5, ![16, 4, 128, 8, 128]⟩
abbrev S1x4x128x8x128 : Shape := ⟨5, ![1, 4, 128, 8, 128]⟩
abbrev S4x128x8x128 : Shape := ⟨4, ![4, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8x128x128 : Shape := ⟨4, ![1, 8, 128, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S4x2048x8 : Shape := ⟨3, ![4, 2048, 8]⟩
abbrev S4x2048x8x1 : Shape := ⟨4, ![4, 2048, 8, 1]⟩
abbrev S1x1024 : Shape := ⟨2, ![1, 1024]⟩

abbrev nBuf : Space → Nat
  | .hbm => 170
  | .vmem => 0
  | .smem => 0
  | _ => 0

abbrev hbmTy0_0 (i : Nat) : BufTy := match i % 128 with
  | 0 => ⟨S8192x16384, .f32⟩
  | 1 => ⟨S1024, .f32⟩
  | 2 => ⟨S8192x1024, .f32⟩
  | 3 => ⟨S8192x1024, .f32⟩
  | 4 => ⟨S8192x1024, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S8, .f32⟩
  | 14 => ⟨S8, .f32⟩
  | 15 => ⟨S4x2048x8x128, .f32⟩
  | 16 => ⟨S4x2048x8x128, .f32⟩
  | 17 => ⟨S4x2048x8x128, .f32⟩
  | 18 => ⟨S_, .f32⟩
  | 19 => ⟨S4x8x128x128, .f32⟩
  | 20 => ⟨S4x16x128x8x128, .f32⟩
  | 21 => ⟨S16x4x128x8x128, .f32⟩
  | 22 => ⟨S4x16x128x8x128, .f32⟩
  | 23 => ⟨S16x4x128x8x128, .f32⟩
  | 24 => ⟨S4x16x128x8x128, .f32⟩
  | 25 => ⟨S16x4x128x8x128, .f32⟩
  | 26 => ⟨S_, .f32⟩
  | 27 => ⟨S16x4x128x8x128, .f32⟩
  | 28 => ⟨S_, .i32⟩
  | 29 => ⟨S16x4x128x8x128, .f32⟩
  | 30 => ⟨S16x4x128x8x128, .f32⟩
  | 31 => ⟨S16x4x128x8x128, .f32⟩
  | 32 => ⟨S8, .f32⟩
  | 33 => ⟨S_, .i32⟩
  | 34 => ⟨S4x8x128x128, .f32⟩
  | 35 => ⟨S16x4x128x8x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x4x128x8x128, .f32⟩
  | 43 => ⟨S4x128x8x128, .f32⟩
  | 44 => ⟨S_, .i32⟩
  | 45 => ⟨S_, .i32⟩
  | 46 => ⟨S_, .i32⟩
  | 47 => ⟨S_, .i32⟩
  | 48 => ⟨S1x4x128x8x128, .f32⟩
  | 49 => ⟨S4x128x8x128, .f32⟩
  | 50 => ⟨S_, .i32⟩
  | 51 => ⟨S_, .i32⟩
  | 52 => ⟨S_, .i32⟩
  | 53 => ⟨S_, .i32⟩
  | 54 => ⟨S1x4x128x8x128, .f32⟩
  | 55 => ⟨S4x128x8x128, .f32⟩
  | 56 => ⟨S128, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .i1⟩
  | 65 => ⟨S8x1x1, .f32⟩
  | 66 => ⟨S_, .f32⟩
  | 67 => ⟨S128x128, .f32⟩
  | 68 => ⟨S128x128, .f32⟩
  | 69 => ⟨S1x128x128, .f32⟩
  | 70 => ⟨S8x128x128, .f32⟩
  | 71 => ⟨S8x128x128, .f32⟩
  | 72 => ⟨S8x128x128, .f32⟩
  | 73 => ⟨S8x128x128, .f32⟩
  | 74 => ⟨S_, .f32⟩
  | 75 => ⟨S_, .f32⟩
  | 76 => ⟨S8x128x128, .i1⟩
  | 77 => ⟨S8x128x128, .f32⟩
  | 78 => ⟨S8x128x128, .f32⟩
  | 79 => ⟨S4x8x128x128, .f32⟩
  | 80 => ⟨S1x8x128x128, .f32⟩
  | 81 => ⟨S4x8x128x128, .f32⟩
  | 82 => ⟨S4x8x128x128, .f32⟩
  | 83 => ⟨S4x8x128x128, .f32⟩
  | 84 => ⟨S4x128x8x128, .f32⟩
  | 85 => ⟨S128x1, .f32⟩
  | 86 => ⟨S_, .f32⟩
  | 87 => ⟨S128x1, .f32⟩
  | 88 => ⟨S128x1, .f32⟩
  | 89 => ⟨S1x8, .f32⟩
  | 90 => ⟨S128x8, .f32⟩
  | 91 => ⟨S128x8, .f32⟩
  | 92 => ⟨S128x8, .f32⟩
  | 93 => ⟨S128x8, .f32⟩
  | 94 => ⟨S4x8x128x128, .f32⟩
  | 95 => ⟨S4x128x8x128, .f32⟩
  | 96 => ⟨S1x128x8x1, .f32⟩
  | 97 => ⟨S4x128x8x128, .f32⟩
  | 98 => ⟨S4x128x8x128, .f32⟩
  | 99 => ⟨S4x128x8x128, .f32⟩
  | 100 => ⟨S_, .f32⟩
  | 101 => ⟨S128, .f32⟩
  | 102 => ⟨S128, .f32⟩
  | 103 => ⟨S128x1, .f32⟩
  | 104 => ⟨S1x8, .f32⟩
  | 105 => ⟨S128x8, .f32⟩
  | 106 => ⟨S128x8, .f32⟩
  | 107 => ⟨S128x8, .f32⟩
  | 108 => ⟨S128x8, .f32⟩
  | 109 => ⟨S_, .f32⟩
  | 110 => ⟨S8, .f32⟩
  | 111 => ⟨S8, .f32⟩
  | 112 => ⟨S8, .f32⟩
  | 113 => ⟨S1x8x1x1, .f32⟩
  | 114 => ⟨S4x8x128x128, .f32⟩
  | 115 => ⟨S4x8x128x128, .f32⟩
  | 116 => ⟨S1x128x8x1, .f32⟩
  | 117 => ⟨S4x128x8x128, .f32⟩
  | 118 => ⟨S4x128x8x128, .f32⟩
  | 119 => ⟨S4x8x128x128, .f32⟩
  | 120 => ⟨S4x8x128x128, .f32⟩
  | 121 => ⟨S1x4x128x8x128, .f32⟩
  | 122 => ⟨S_, .i32⟩
  | 123 => ⟨S_, .i32⟩
  | 124 => ⟨S_, .i32⟩
  | 125 => ⟨S_, .i32⟩
  | 126 => ⟨S16x4x128x8x128, .f32⟩
  | 127 => ⟨S_, .i32⟩
  | _ => ⟨S8192x16384, .f32⟩

abbrev hbmTy0_1 (i : Nat) : BufTy := match i % 128 with
  | 0 => ⟨S_, .i32⟩
  | 1 => ⟨S4x16x128x8x128, .f32⟩
  | 2 => ⟨S4x2048x8x128, .f32⟩
  | 3 => ⟨S8192x1024, .f32⟩
  | 4 => ⟨S_, .f32⟩
  | 5 => ⟨S4x2048x8, .f32⟩
  | 6 => ⟨S4x2048x8x1, .f32⟩
  | 7 => ⟨S_, .f32⟩
  | 8 => ⟨S4x2048x8x1, .f32⟩
  | 9 => ⟨S4x2048x8x1, .f32⟩
  | 10 => ⟨S4x2048x8x128, .f32⟩
  | 11 => ⟨S4x2048x8x128, .f32⟩
  | 12 => ⟨S4x2048x8x128, .f32⟩
  | 13 => ⟨S_, .f32⟩
  | 14 => ⟨S4x2048x8, .f32⟩
  | 15 => ⟨S4x2048x8x1, .f32⟩
  | 16 => ⟨S_, .f32⟩
  | 17 => ⟨S4x2048x8x1, .f32⟩
  | 18 => ⟨S4x2048x8x1, .f32⟩
  | 19 => ⟨S4x2048x8x128, .f32⟩
  | 20 => ⟨S4x2048x8x128, .f32⟩
  | 21 => ⟨S_, .f32⟩
  | 22 => ⟨S4x2048x8x1, .f32⟩
  | 23 => ⟨S4x2048x8x1, .f32⟩
  | 24 => ⟨S4x2048x8x1, .f32⟩
  | 25 => ⟨S4x2048x8x128, .f32⟩
  | 26 => ⟨S4x2048x8x128, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .bf16⟩
  | _ => ⟨S8192x16384, .f32⟩

abbrev hbmTy (i : Nat) : BufTy := match i / 128 with
  | 0 => hbmTy0_0 i
  | 1 => hbmTy0_1 i
  | _ => ⟨S8192x16384, .f32⟩

abbrev bufTy : (tb : Table) → Fin (tcTables nBuf tb) → BufTy
  | .hbm, ⟨i, _⟩ => hbmTy i
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_c : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev main_v22_5 : Ref sig .tc := ⟨.hbm, 34, rfl⟩
abbrev main_v22_6 : Ref sig .tc := ⟨.hbm, 35, rfl⟩
abbrev main_while0c_c_14 : Ref sig .tc := ⟨.hbm, 36, rfl⟩
abbrev main_while0c_v51 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v51 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v52 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v53 : Ref sig .tc := ⟨.hbm, 55, rfl⟩
abbrev main_while0b_v54 : Ref sig .tc := ⟨.hbm, 56, rfl⟩
abbrev main_while0b_v55 : Ref sig .tc := ⟨.hbm, 57, rfl⟩
abbrev main_while0b_v56 : Ref sig .tc := ⟨.hbm, 58, rfl⟩
abbrev main_while0b_v57 : Ref sig .tc := ⟨.hbm, 59, rfl⟩
abbrev main_while0b_v58 : Ref sig .tc := ⟨.hbm, 60, rfl⟩
abbrev main_while0b_v59 : Ref sig .tc := ⟨.hbm, 61, rfl⟩
abbrev main_while0b_cst_14 : Ref sig .tc := ⟨.hbm, 62, rfl⟩
abbrev main_while0b_v60 : Ref sig .tc := ⟨.hbm, 63, rfl⟩
abbrev main_while0b_v61 : Ref sig .tc := ⟨.hbm, 64, rfl⟩
abbrev main_while0b_v62 : Ref sig .tc := ⟨.hbm, 65, rfl⟩
abbrev main_while0b_cst_15 : Ref sig .tc := ⟨.hbm, 66, rfl⟩
abbrev main_while0b_v63 : Ref sig .tc := ⟨.hbm, 67, rfl⟩
abbrev main_while0b_v64 : Ref sig .tc := ⟨.hbm, 68, rfl⟩
abbrev main_while0b_v65 : Ref sig .tc := ⟨.hbm, 69, rfl⟩
abbrev main_while0b_v66 : Ref sig .tc := ⟨.hbm, 70, rfl⟩
abbrev main_while0b_v67 : Ref sig .tc := ⟨.hbm, 71, rfl⟩
abbrev main_while0b_v68 : Ref sig .tc := ⟨.hbm, 72, rfl⟩
abbrev main_while0b_v69 : Ref sig .tc := ⟨.hbm, 73, rfl⟩
abbrev main_while0b_cst_16 : Ref sig .tc := ⟨.hbm, 74, rfl⟩
abbrev main_while0b_call3_v0 : Ref sig .tc := ⟨.hbm, 75, rfl⟩
abbrev main_while0b_call3_v1 : Ref sig .tc := ⟨.hbm, 76, rfl⟩
abbrev main_while0b_call3_v2 : Ref sig .tc := ⟨.hbm, 77, rfl⟩
abbrev main_while0b_v70 : Ref sig .tc := ⟨.hbm, 78, rfl⟩
abbrev main_while0b_v71 : Ref sig .tc := ⟨.hbm, 79, rfl⟩
abbrev main_while0b_v72 : Ref sig .tc := ⟨.hbm, 80, rfl⟩
abbrev main_while0b_v73 : Ref sig .tc := ⟨.hbm, 81, rfl⟩
abbrev main_while0b_v74 : Ref sig .tc := ⟨.hbm, 82, rfl⟩
abbrev main_while0b_v75 : Ref sig .tc := ⟨.hbm, 83, rfl⟩
abbrev main_while0b_v76 : Ref sig .tc := ⟨.hbm, 84, rfl⟩
abbrev main_while0b_v77 : Ref sig .tc := ⟨.hbm, 85, rfl⟩
abbrev main_while0b_cst_17 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_v81 : Ref sig .tc := ⟨.hbm, 90, rfl⟩
abbrev main_while0b_v82 : Ref sig .tc := ⟨.hbm, 91, rfl⟩
abbrev main_while0b_v83 : Ref sig .tc := ⟨.hbm, 92, rfl⟩
abbrev main_while0b_v84 : Ref sig .tc := ⟨.hbm, 93, rfl⟩
abbrev main_while0b_v85 : Ref sig .tc := ⟨.hbm, 94, rfl⟩
abbrev main_while0b_v86 : Ref sig .tc := ⟨.hbm, 95, rfl⟩
abbrev main_while0b_v87 : Ref sig .tc := ⟨.hbm, 96, rfl⟩
abbrev main_while0b_v88 : Ref sig .tc := ⟨.hbm, 97, rfl⟩
abbrev main_while0b_v89 : Ref sig .tc := ⟨.hbm, 98, rfl⟩
abbrev main_while0b_v90 : Ref sig .tc := ⟨.hbm, 99, rfl⟩
abbrev main_while0b_cst_18 : Ref sig .tc := ⟨.hbm, 100, rfl⟩
abbrev main_while0b_v91 : Ref sig .tc := ⟨.hbm, 101, rfl⟩
abbrev main_while0b_v92 : Ref sig .tc := ⟨.hbm, 102, rfl⟩
abbrev main_while0b_v93 : Ref sig .tc := ⟨.hbm, 103, rfl⟩
abbrev main_while0b_v94 : Ref sig .tc := ⟨.hbm, 104, rfl⟩
abbrev main_while0b_v95 : Ref sig .tc := ⟨.hbm, 105, rfl⟩
abbrev main_while0b_v96 : Ref sig .tc := ⟨.hbm, 106, rfl⟩
abbrev main_while0b_v97 : Ref sig .tc := ⟨.hbm, 107, rfl⟩
abbrev main_while0b_v98 : Ref sig .tc := ⟨.hbm, 108, rfl⟩
abbrev main_while0b_cst_19 : Ref sig .tc := ⟨.hbm, 109, rfl⟩
abbrev main_while0b_v99 : Ref sig .tc := ⟨.hbm, 110, rfl⟩
abbrev main_while0b_v100 : Ref sig .tc := ⟨.hbm, 111, rfl⟩
abbrev main_while0b_v101 : Ref sig .tc := ⟨.hbm, 112, rfl⟩
abbrev main_while0b_v102 : Ref sig .tc := ⟨.hbm, 113, rfl⟩
abbrev main_while0b_v103 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_v110 : Ref sig .tc := ⟨.hbm, 126, rfl⟩
abbrev main_while0b_c_20 : Ref sig .tc := ⟨.hbm, 127, rfl⟩
abbrev main_while0b_v111 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_cst_3 : Ref sig .tc := ⟨.hbm, 132, rfl⟩
abbrev main_v26 : Ref sig .tc := ⟨.hbm, 133, rfl⟩
abbrev main_v27 : Ref sig .tc := ⟨.hbm, 134, rfl⟩
abbrev main_cst_4 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_cst_5 : Ref sig .tc := ⟨.hbm, 141, rfl⟩
abbrev main_v33 : Ref sig .tc := ⟨.hbm, 142, rfl⟩
abbrev main_v34 : Ref sig .tc := ⟨.hbm, 143, rfl⟩
abbrev main_cst_6 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_cst_7 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩

abbrev nD : Nat := 1
abbrev τ : Topo := Topo.v7x

variable {F : FTy → Type} [FloatOps F]

abbrev main_while0_count : Scf.Loop 32 := ⟨0#32, 16#32, 1#32⟩
-- ==== FfnUp.lean ====
abbrev S8192x2048 : Shape := ⟨2, ![8192, 2048]⟩
abbrev S2048 : Shape := ⟨1, ![2048]⟩
abbrev S4x2048x11264 : Shape := ⟨3, ![4, 2048, 11264]⟩
abbrev S1x2048 : Shape := ⟨2, ![1, 2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11264, .f32⟩
  | .hbm, ⟨3, _⟩ => ⟨S4x2048x11264, .bf16⟩
  | .hbm, ⟨4, _⟩ => ⟨S1x2048, .f32⟩
  | .hbm, ⟨5, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S8192x2048 : Shape := ⟨2, ![8192, 2048]⟩
abbrev S2048 : Shape := ⟨1, ![2048]⟩
abbrev S4x2048x11264 : Shape := ⟨3, ![4, 2048, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11264, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x11264, .f32⟩
  | .hbm, ⟨20, _⟩ => ⟨S2048x11264, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== FfnDown.lean ====
abbrev S8192x5632 : Shape := ⟨2, ![8192, 5632]⟩
abbrev S4x5632x2048 : Shape := ⟨3, ![4, 5632, 2048]⟩
abbrev S8192x2048 : Shape := ⟨2, ![8192, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S4x5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8192x5632 : Shape := ⟨2, ![8192, 5632]⟩
abbrev S4x5632x2048 : Shape := ⟨3, ![4, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S4x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S8192x1024 : Shape := ⟨2, ![8192, 1024]⟩
abbrev S4x1024x2048 : Shape := ⟨3, ![4, 1024, 2048]⟩
abbrev S8192x16384 : Shape := ⟨2, ![8192, 16384]⟩
abbrev S8192x2048 : Shape := ⟨2, ![8192, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S8192x16384, .f32⟩
  | .hbm, ⟨7, _⟩ => ⟨S4x1024x2048, .bf16⟩
  | .hbm, ⟨8, _⟩ => ⟨S4x1024x2048, .bf16⟩
  | .hbm, ⟨9, _⟩ => ⟨S4x1024x2048, .bf16⟩
  | .hbm, ⟨10, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S4x1024x2048 : Shape := ⟨3, ![4, 1024, 2048]⟩
abbrev S8192x16384 : Shape := ⟨2, ![8192, 16384]⟩
abbrev S8192x2048 : Shape := ⟨2, ![8192, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S8192x16384, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S1x1024x2048, .f32⟩
  | .hbm, ⟨12, _⟩ => ⟨S1024x2048, .f32⟩
  | .hbm, ⟨13, _⟩ => ⟨S8192x2048, .f32⟩
  | .hbm, ⟨14, _⟩ => ⟨S8192x1024, .f32⟩
  | .hbm, ⟨15, _⟩ => ⟨S1x1024x2048, .f32⟩
  | .hbm, ⟨16, _⟩ => ⟨S1024x2048, .f32⟩
  | .hbm, ⟨17, _⟩ => ⟨S8192x2048, .f32⟩
  | .hbm, ⟨18, _⟩ => ⟨S8192x1024, .f32⟩
  | .hbm, ⟨19, _⟩ => ⟨S1x1024x2048, .f32⟩
  | .hbm, ⟨20, _⟩ => ⟨S1024x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Inproj.lean ====
abbrev S8192x2048 : Shape := ⟨2, ![8192, 2048]⟩
abbrev S2048 : Shape := ⟨1, ![2048]⟩
abbrev S4x2048x16384 : Shape := ⟨3, ![4, 2048, 16384]⟩
abbrev S1x2048 : Shape := ⟨2, ![1, 2048]⟩
abbrev S4x2048 : Shape := ⟨2, ![4, 2048]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S64 : Shape := ⟨1, ![64]⟩
abbrev S1x64 : Shape := ⟨2, ![1, 64]⟩
abbrev S8192x64 : Shape := ⟨2, ![8192, 64]⟩
abbrev S8192x16384 : Shape := ⟨2, ![8192, 16384]⟩
abbrev S65536x128 : Shape := ⟨2, ![65536, 128]⟩
abbrev S512x2048 : Shape := ⟨2, ![512, 2048]⟩
abbrev S1x2048x1024 : Shape := ⟨3, ![1, 2048, 1024]⟩
abbrev S512x128 : Shape := ⟨2, ![512, 128]⟩
abbrev S512x1024 : Shape := ⟨2, ![512, 1024]⟩
abbrev S4096x128 : Shape := ⟨2, ![4096, 128]⟩
abbrev S512 : Shape := ⟨1, ![512]⟩
abbrev S512x1 : Shape := ⟨2, ![512, 1]⟩
abbrev S2048x1024 : Shape := ⟨2, ![2048, 1024]⟩

abbrev nBuf : Space → Nat
  | .hbm => 52
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x16384, .f32⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S8192, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S8192x1, .f32⟩
  | .hbm, ⟨14, _⟩ => ⟨S1x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x96, .f32⟩
  | .hbm, ⟨22, _⟩ => ⟨S_, .f32⟩
  | .hbm, ⟨23, _⟩ => ⟨S8192x16, .f32⟩
  | .hbm, ⟨24, _⟩ => ⟨S_, .f32⟩
  | .hbm, ⟨25, _⟩ => ⟨S8192x96, .f32⟩
  | .hbm, ⟨26, _⟩ => ⟨S8192x128, .f32⟩
  | .hbm, ⟨27, _⟩ => ⟨S8192x16, .f32⟩
  | .hbm, ⟨28, _⟩ => ⟨S8192x128, .f32⟩
  | .hbm, ⟨29, _⟩ => ⟨S8192x128, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S8192x1, .f32⟩
  | .hbm, ⟨36, _⟩ => ⟨S1x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x128, .f32⟩
  | .hbm, ⟨43, _⟩ => ⟨S8192x64, .f32⟩
  | .hbm, ⟨44, _⟩ => ⟨S8192x128, .f32⟩
  | .hbm, ⟨45, _⟩ => ⟨S4x2048x16384, .bf16⟩
  | .hbm, ⟨46, _⟩ => ⟨S1x2048, .f32⟩
  | .hbm, ⟨47, _⟩ => ⟨S8192x16384, .f32⟩
  | .hbm, ⟨48, _⟩ => ⟨S65536x128, .f32⟩
  | .hbm, ⟨49, _⟩ => ⟨S65536x128, .f32⟩
  | .hbm, ⟨50, _⟩ => ⟨S65536x128, .f32⟩
  | .hbm, ⟨51, _⟩ => ⟨S65536x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev main_v39_2 : Ref sig .tc := ⟨.hbm, 49, rfl⟩
abbrev main_v39_3 : Ref sig .tc := ⟨.hbm, 50, rfl⟩
abbrev main_v39_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let v13 : BitVec 32 := Scalar.extui v9
  let c0_i32_5 : BitVec 32 := 0#32
  let v14 : BitVec 1 := Scalar.cmpi .ne v13 c0_i32_5
  v14

def k0_cond4 (i : grid0.Coords) : BitVec 1 :=
  let arg1 : BitVec 32 := BitVec.ofNat 32 (i 1).val
  let c6_i32 : BitVec 32 := 6#32
  let v10 : BitVec 1 := Scalar.cmpi .eq arg1 c6_i32
  let c7_i32 : BitVec 32 := 7#32
  let v11 : BitVec 1 := Scalar.cmpi .eq arg1 c7_i32
  let v12 : BitVec 1 := Scalar.ori v10 v11
  let v15 : BitVec 32 := Scalar.extui v12
  let c0_i32_6 : BitVec 32 := 0#32
  let v16 : BitVec 1 := Scalar.cmpi .ne v15 c0_i32_6
  v16

def k0_cond5 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let c6_i32 : BitVec 32 := 6#32
  let v10 : BitVec 1 := Scalar.cmpi .eq arg1 c6_i32
  let c7_i32 : BitVec 32 := 7#32
  let v11 : BitVec 1 := Scalar.cmpi .eq arg1 c7_i32
  let v12 : BitVec 1 := Scalar.ori v10 v11
  let v17 : BitVec 1 := Scalar.ori v9 v12
  let v_true : BitVec 1 := 1#1
  let v18 : BitVec 1 := Scalar.xori v17 v_true
  let v19 : BitVec 32 := Scalar.extui v18
  let c0_i32_7 : BitVec 32 := 0#32
  let v20 : BitVec 1 := Scalar.cmpi .ne v19 c0_i32_7
  v20

def k0_cond6 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_10 : BitVec 32 := 0#32
  let v24 : BitVec 1 := Scalar.cmpi .ne v23 c0_i32_10
  v24

def k0_cond7 (i : grid0.Coords) : BitVec 1 :=
  let arg1 : BitVec 32 := BitVec.ofNat 32 (i 1).val
  let c2_i32 : BitVec 32 := 2#32
  let v25 : BitVec 1 := Scalar.cmpi .eq arg1 c2_i32
  let v26 : BitVec 32 := Scalar.extui v25
  let c0_i32_11 : BitVec 32 := 0#32
  let v27 : BitVec 1 := Scalar.cmpi .ne v26 c0_i32_11
  v27

def k0_cond3 (i : grid0.Coords) : BitVec 1 :=
  let arg1 : BitVec 32 := BitVec.ofNat 32 (i 1).val
  let c4_i32_37 : BitVec 32 := 4#32
  let v99 : BitVec 1 := Scalar.cmpi .eq arg1 c4_i32_37
  let v100 : BitVec 32 := Scalar.extui v99
  let c0_i32_38 : BitVec 32 := 0#32
  let v101 : BitVec 1 := Scalar.cmpi .ne v100 c0_i32_38
  v101

def k0_cond8 (i : grid0.Coords) : BitVec 1 :=
  let arg1 : BitVec 32 := BitVec.ofNat 32 (i 1).val
  let c5_i32 : BitVec 32 := 5#32
  let v28 : BitVec 1 := Scalar.cmpi .eq arg1 c5_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== InprojRefIdeal.lean ====
abbrev S8192x2048 : Shape := ⟨2, ![8192, 2048]⟩
abbrev S2048 : Shape := ⟨1, ![2048]⟩
abbrev S4x2048x16384 : Shape := ⟨3, ![4, 2048, 16384]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x16384 : Shape := ⟨3, ![1, 2048, 16384]⟩
abbrev S2048x16384 : Shape := ⟨2, ![2048, 16384]⟩
abbrev S8192x16384 : Shape := ⟨2, ![8192, 16384]⟩
abbrev S4x2048 : Shape := ⟨2, ![4, 2048]⟩
abbrev S8192x1024 : Shape := ⟨2, ![8192, 1024]⟩
abbrev S8192x8192 : Shape := ⟨2, ![8192, 8192]⟩
abbrev S8192x8x128 : Shape := ⟨3, ![8192, 8, 128]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x8x96 : Shape := ⟨3, ![8192, 8, 96]⟩
abbrev S64 : Shape := ⟨1, ![64]⟩
abbrev S1x64 : Shape := ⟨2, ![1, 64]⟩
abbrev S8192x64 : Shape := ⟨2, ![8192, 64]⟩
abbrev S8192x1x64 : Shape := ⟨3, ![8192, 1, 64]⟩
abbrev S8192x8x64 : Shape := ⟨3, ![8192, 8, 64]⟩
abbrev S65536x128 : Shape := ⟨2, ![65536, 128]⟩

abbrev nBuf : Space → Nat
  | .hbm => 165
  | .vmem => 0
  | .smem => 0
  | _ => 0

abbrev hbmTy0_0 (i : Nat) : BufTy := match i % 128 with
  | 0 => ⟨S8192x2048, .f32⟩
  | 1 => ⟨S2048, .f32⟩
  | 2 => ⟨S4x2048x16384, .f32⟩
  | 3 => ⟨S8192x2048, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x1, .f32⟩
  | 14 => ⟨S8192x2048, .f32⟩
  | 15 => ⟨S8192x2048, .f32⟩
  | 16 => ⟨S1x2048, .f32⟩
  | 17 => ⟨S8192x2048, .f32⟩
  | 18 => ⟨S8192x2048, .f32⟩
  | 19 => ⟨S1x2048x16384, .f32⟩
  | 20 => ⟨S2048x16384, .f32⟩
  | 21 => ⟨S8192x16384, .f32⟩
  | 22 => ⟨S2048, .i32⟩
  | 23 => ⟨S1x2048, .i32⟩
  | 24 => ⟨S4x2048, .i32⟩
  | 25 => ⟨S8192, .i32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x8192, .f32⟩
  | 35 => ⟨S8192x8x128, .f32⟩
  | 36 => ⟨S16, .f32⟩
  | 37 => ⟨S_, .f32⟩
  | 38 => ⟨S16, .f32⟩
  | 39 => ⟨S16, .f32⟩
  | 40 => ⟨S16, .f32⟩
  | 41 => ⟨S8192, .f32⟩
  | 42 => ⟨S8192x1, .f32⟩
  | 43 => ⟨S1x16, .f32⟩
  | 44 => ⟨S8192x16, .f32⟩
  | 45 => ⟨S8192x16, .f32⟩
  | 46 => ⟨S8192x16, .f32⟩
  | 47 => ⟨S8192x16, .f32⟩
  | 48 => ⟨S8192x1x16, .f32⟩
  | 49 => ⟨S8192x16, .f32⟩
  | 50 => ⟨S8192x1x16, .f32⟩
  | 51 => ⟨S8192x8x16, .f32⟩
  | 52 => ⟨S8192x8x16, .f32⟩
  | 53 => ⟨S8192x8x96, .f32⟩
  | 54 => ⟨S8192x8x16, .f32⟩
  | 55 => ⟨S8192x8x16, .f32⟩
  | 56 => ⟨S8192x8x16, .f32⟩
  | 57 => ⟨S8192x8x16, .f32⟩
  | 58 => ⟨S8192x8x16, .f32⟩
  | 59 => ⟨S8192x8x16, .f32⟩
  | 60 => ⟨S8192x8x16, .f32⟩
  | 61 => ⟨S8192x8x16, .f32⟩
  | 62 => ⟨S8192x8x16, .f32⟩
  | 63 => ⟨S8192x8x16, .f32⟩
  | 64 => ⟨S8192x8x128, .f32⟩
  | 65 => ⟨S8192x8x128, .f32⟩
  | 66 => ⟨S16, .f32⟩
  | 67 => ⟨S_, .f32⟩
  | 68 => ⟨S16, .f32⟩
  | 69 => ⟨S16, .f32⟩
  | 70 => ⟨S16, .f32⟩
  | 71 => ⟨S8192, .f32⟩
  | 72 => ⟨S8192x1, .f32⟩
  | 73 => ⟨S1x16, .f32⟩
  | 74 => ⟨S8192x16, .f32⟩
  | 75 => ⟨S8192x16, .f32⟩
  | 76 => ⟨S8192x16, .f32⟩
  | 77 => ⟨S8192x16, .f32⟩
  | 78 => ⟨S8192x1x16, .f32⟩
  | 79 => ⟨S8192x16, .f32⟩
  | 80 => ⟨S8192x1x16, .f32⟩
  | 81 => ⟨S8192x8x16, .f32⟩
  | 82 => ⟨S8192x8x16, .f32⟩
  | 83 => ⟨S8192x8x96, .f32⟩
  | 84 => ⟨S8192x8x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x16, .f32⟩
  | 90 => ⟨S8192x8x16, .f32⟩
  | 91 => ⟨S8192x8x16, .f32⟩
  | 92 => ⟨S8192x8x16, .f32⟩
  | 93 => ⟨S8192x8x16, .f32⟩
  | 94 => ⟨S8192x8x128, .f32⟩
  | 95 => ⟨S8192x8x128, .f32⟩
  | 96 => ⟨S64, .f32⟩
  | 97 => ⟨S_, .f32⟩
  | 98 => ⟨S64, .f32⟩
  | 99 => ⟨S64, .f32⟩
  | 100 => ⟨S64, .f32⟩
  | 101 => ⟨S8192, .f32⟩
  | 102 => ⟨S8192x1, .f32⟩
  | 103 => ⟨S1x64, .f32⟩
  | 104 => ⟨S8192x64, .f32⟩
  | 105 => ⟨S8192x64, .f32⟩
  | 106 => ⟨S8192x64, .f32⟩
  | 107 => ⟨S8192x64, .f32⟩
  | 108 => ⟨S8192x1x64, .f32⟩
  | 109 => ⟨S8192x64, .f32⟩
  | 110 => ⟨S8192x1x64, .f32⟩
  | 111 => ⟨S8192x8x64, .f32⟩
  | 112 => ⟨S8192x8x64, .f32⟩
  | 113 => ⟨S8192x8x64, .f32⟩
  | 114 => ⟨S8192x8x64, .f32⟩
  | 115 => ⟨S8192x8x64, .f32⟩
  | 116 => ⟨S8192x8x64, .f32⟩
  | 117 => ⟨S8192x8x64, .f32⟩
  | 118 => ⟨S8192x8x64, .f32⟩
  | 119 => ⟨S8192x8x64, .f32⟩
  | 120 => ⟨S8192x8x64, .f32⟩
  | 121 => ⟨S8192x8x64, .f32⟩
  | 122 => ⟨S8192x8x64, .f32⟩
  | 123 => ⟨S8192x8x128, .f32⟩
  | 124 => ⟨S8192x8x128, .f32⟩
  | 125 => ⟨S64, .f32⟩
  | 126 => ⟨S_, .f32⟩
  | 127 => ⟨S64, .f32⟩
  | _ => ⟨S8192x2048, .f32⟩

abbrev hbmTy0_1 (i : Nat) : BufTy := match i % 128 with
  | 0 => ⟨S64, .f32⟩
  | 1 => ⟨S64, .f32⟩
  | 2 => ⟨S8192, .f32⟩
  | 3 => ⟨S8192x1, .f32⟩
  | 4 => ⟨S1x64, .f32⟩
  | 5 => ⟨S8192x64, .f32⟩
  | 6 => ⟨S8192x64, .f32⟩
  | 7 => ⟨S8192x64, .f32⟩
  | 8 => ⟨S8192x64, .f32⟩
  | 9 => ⟨S8192x1x64, .f32⟩
  | 10 => ⟨S8192x64, .f32⟩
  | 11 => ⟨S8192x1x64, .f32⟩
  | 12 => ⟨S8192x8x64, .f32⟩
  | 13 => ⟨S8192x8x64, .f32⟩
  | 14 => ⟨S8192x8x64, .f32⟩
  | 15 => ⟨S8192x8x64, .f32⟩
  | 16 => ⟨S8192x8x64, .f32⟩
  | 17 => ⟨S8192x8x64, .f32⟩
  | 18 => ⟨S8192x8x64, .f32⟩
  | 19 => ⟨S8192x8x64, .f32⟩
  | 20 => ⟨S8192x8x64, .f32⟩
  | 21 => ⟨S8192x8x64, .f32⟩
  | 22 => ⟨S8192x8x64, .f32⟩
  | 23 => ⟨S8192x8x64, .f32⟩
  | 24 => ⟨S8192x8x128, .f32⟩
  | 25 => ⟨S_, .f32⟩
  | 26 => ⟨S8192x8x128, .f32⟩
  | 27 => ⟨S8192x8x128, .f32⟩
  | 28 => ⟨S8192x1024, .f32⟩
  | 29 => ⟨S8192x1024, .f32⟩
  | 30 => ⟨S8192x1024, .f32⟩
  | 31 => ⟨S8192x1024, .f32⟩
  | 32 => ⟨S8192x16384, .f32⟩
  | 33 => ⟨S65536x128, .f32⟩
  | 34 => ⟨S65536x128, .f32⟩
  | 35 => ⟨S65536x128, .f32⟩
  | 36 => ⟨S65536x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_4 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_5 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_cst_6 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩

abbrev nD : Nat := 1
abbrev τ : Topo := Topo.v7x

variable {F : FTy → Type} [FloatOps F]
-- ==== FinalNormSample.lean ====
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S1x2048, .f32⟩
  | .hbm, ⟨3, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalNormSampleRefIdeal.lean ====
abbrev S64x2048 : Shape := ⟨2, ![64, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S64x2048, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x2048, .f32⟩
  | .hbm, ⟨14, _⟩ => ⟨S64x2048, .f32⟩
  | .hbm, ⟨15, _⟩ => ⟨S1x2048, .f32⟩
  | .hbm, ⟨16, _⟩ => ⟨S64x2048, .f32⟩
  | .hbm, ⟨17, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InprojSample.lean ====
abbrev S64x2048 : Shape := ⟨2, ![64, 2048]⟩
abbrev S2048 : Shape := ⟨1, ![2048]⟩
abbrev S4x2048x16384 : Shape := ⟨3, ![4, 2048, 16384]⟩
abbrev S8 : Shape := ⟨1, ![8]⟩
abbrev S_ : Shape := ⟨0, ![]⟩
abbrev S1x8 : Shape := ⟨2, ![1, 8]⟩
abbrev S8x8 : Shape := ⟨2, ![8, 8]⟩
abbrev S64 : Shape := ⟨1, ![64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x96 : Shape := ⟨2, ![64, 96]⟩
abbrev S64x128 : Shape := ⟨2, ![64, 128]⟩
abbrev S1x64 : Shape := ⟨2, ![1, 64]⟩
abbrev S64x64 : Shape := ⟨2, ![64, 64]⟩
abbrev S1x2048 : Shape := ⟨2, ![1, 2048]⟩
abbrev S64x16384 : Shape := ⟨2, ![64, 16384]⟩
abbrev S512x128 : Shape := ⟨2, ![512, 128]⟩
abbrev S1x2048x1024 : Shape := ⟨3, ![1, 2048, 1024]⟩
abbrev S64x1024 : Shape := ⟨2, ![64, 1024]⟩
abbrev S2048x1024 : Shape := ⟨2, ![2048, 1024]⟩

abbrev nBuf : Space → Nat
  | .hbm => 55
  | .vmem => 16
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S4x2048x16384, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S8x8, .i32⟩
  | .hbm, ⟨9, _⟩ => ⟨S64, .i32⟩
  | .hbm, ⟨10, _⟩ => ⟨S64, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S64x1, .f32⟩
  | .hbm, ⟨17, _⟩ => ⟨S1x16, .f32⟩
  | .hbm, ⟨18, _⟩ => ⟨S64x16, .f32⟩
  | .hbm, ⟨19, _⟩ => ⟨S64x16, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S_, .f32⟩
  | .hbm, ⟨24, _⟩ => ⟨S64x96, .f32⟩
  | .hbm, ⟨25, _⟩ => ⟨S_, .f32⟩
  | .hbm, ⟨26, _⟩ => ⟨S64x16, .f32⟩
  | .hbm, ⟨27, _⟩ => ⟨S_, .f32⟩
  | .hbm, ⟨28, _⟩ => ⟨S64x96, .f32⟩
  | .hbm, ⟨29, _⟩ => ⟨S64x128, .f32⟩
  | .hbm, ⟨30, _⟩ => ⟨S64x16, .f32⟩
  | .hbm, ⟨31, _⟩ => ⟨S64x128, .f32⟩
  | .hbm, ⟨32, _⟩ => ⟨S64x128, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S1x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x128, .f32⟩
  | .hbm, ⟨46, _⟩ => ⟨S64x64, .f32⟩
  | .hbm, ⟨47, _⟩ => ⟨S64x128, .f32⟩
  | .hbm, ⟨48, _⟩ => ⟨S4x2048x16384, .bf16⟩
  | .hbm, ⟨49, _⟩ => ⟨S1x2048, .f32⟩
  | .hbm, ⟨50, _⟩ => ⟨S64x16384, .f32⟩
  | .hbm, ⟨51, _⟩ => ⟨S512x128, .f32⟩
  | .hbm, ⟨52, _⟩ => ⟨S512x128, .f32⟩
  | .hbm, ⟨53, _⟩ => ⟨S512x128, .f32⟩
  | .hbm, ⟨54, _⟩ => ⟨S512x128, .f32⟩
  | .local _ .vmem, ⟨0, _⟩ => ⟨S64x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x1024, .f32⟩
  | .local _ .vmem, ⟨10, _⟩ => ⟨S64x1024, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev main_v41_4 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let v13 : BitVec 32 := Scalar.extui v9
  let c0_i32_5 : BitVec 32 := 0#32
  let v14 : BitVec 1 := Scalar.cmpi .ne v13 c0_i32_5
  v14

def k0_cond4 (i : grid0.Coords) : BitVec 1 :=
  let arg1 : BitVec 32 := BitVec.ofNat 32 (i 1).val
  let c6_i32 : BitVec 32 := 6#32
  let v10 : BitVec 1 := Scalar.cmpi .eq arg1 c6_i32
  let c7_i32 : BitVec 32 := 7#32
  let v11 : BitVec 1 := Scalar.cmpi .eq arg1 c7_i32
  let v12 : BitVec 1 := Scalar.ori v10 v11
  let v15 : BitVec 32 := Scalar.extui v12
  let c0_i32_6 : BitVec 32 := 0#32
  let v16 : BitVec 1 := Scalar.cmpi .ne v15 c0_i32_6
  v16

def k0_cond5 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let c6_i32 : BitVec 32 := 6#32
  let v10 : BitVec 1 := Scalar.cmpi .eq arg1 c6_i32
  let c7_i32 : BitVec 32 := 7#32
  let v11 : BitVec 1 := Scalar.cmpi .eq arg1 c7_i32
  let v12 : BitVec 1 := Scalar.ori v10 v11
  let v17 : BitVec 1 := Scalar.ori v9 v12
  let v_true : BitVec 1 := 1#1
  let v18 : BitVec 1 := Scalar.xori v17 v_true
  let v19 : BitVec 32 := Scalar.extui v18
  let c0_i32_7 : BitVec 32 := 0#32
  let v20 : BitVec 1 := Scalar.cmpi .ne v19 c0_i32_7
  v20

def k0_cond6 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_10 : BitVec 32 := 0#32
  let v24 : BitVec 1 := Scalar.cmpi .ne v23 c0_i32_10
  v24

def k0_cond7 (i : grid0.Coords) : BitVec 1 :=
  let arg1 : BitVec 32 := BitVec.ofNat 32 (i 1).val
  let c2_i32 : BitVec 32 := 2#32
  let v25 : BitVec 1 := Scalar.cmpi .eq arg1 c2_i32
  let v26 : BitVec 32 := Scalar.extui v25
  let c0_i32_11 : BitVec 32 := 0#32
  let v27 : BitVec 1 := Scalar.cmpi .ne v26 c0_i32_11
  v27

def k0_cond3 (i : grid0.Coords) : BitVec 1 :=
  let arg1 : BitVec 32 := BitVec.ofNat 32 (i 1).val
  let c4_i32_37 : BitVec 32 := 4#32
  let v99 : BitVec 1 := Scalar.cmpi .eq arg1 c4_i32_37
  let v100 : BitVec 32 := Scalar.extui v99
  let c0_i32_38 : BitVec 32 := 0#32
  let v101 : BitVec 1 := Scalar.cmpi .ne v100 c0_i32_38
  v101

def k0_cond8 (i : grid0.Coords) : BitVec 1 :=
  let arg1 : BitVec 32 := BitVec.ofNat 32 (i 1).val
  let c5_i32 : BitVec 32 := 5#32
  let v28 : BitVec 1 := Scalar.cmpi .eq arg1 c5_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== InprojSampleRefIdeal.lean ====
abbrev S64x2048 : Shape := ⟨2, ![64, 2048]⟩
abbrev S2048 : Shape := ⟨1, ![2048]⟩
abbrev S4x2048x16384 : Shape := ⟨3, ![4, 2048, 16384]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S1x2048x16384 : Shape := ⟨3, ![1, 2048, 16384]⟩
abbrev S2048x16384 : Shape := ⟨2, ![2048, 16384]⟩
abbrev S64x16384 : Shape := ⟨2, ![64, 16384]⟩
abbrev S8 : Shape := ⟨1, ![8]⟩
abbrev S1x8 : Shape := ⟨2, ![1, 8]⟩
abbrev S8x8 : Shape := ⟨2, ![8, 8]⟩
abbrev S64x1024 : Shape := ⟨2, ![64, 1024]⟩
abbrev S64x8192 : Shape := ⟨2, ![64, 8192]⟩
abbrev S64x8x128 : Shape := ⟨3, ![64, 8, 128]⟩
abbrev S16 : Shape := ⟨1, ![16]⟩
abbrev S1x16 : Shape := ⟨2, ![1, 16]⟩
abbrev S64x16 : Shape := ⟨2, ![64, 16]⟩
abbrev S64x1x16 : Shape := ⟨3, ![64, 1, 16]⟩
abbrev S64x8x16 : Shape := ⟨3, ![64, 8, 16]⟩
abbrev S64x8x96 : Shape := ⟨3, ![64, 8, 96]⟩
abbrev S1x64 : Shape := ⟨2, ![1, 64]⟩
abbrev S64x64 : Shape := ⟨2, ![64, 64]⟩
abbrev S64x1x64 : Shape := ⟨3, ![64, 1, 64]⟩
abbrev S64x8x64 : Shape := ⟨3, ![64, 8, 64]⟩
abbrev S512x128 : Shape := ⟨2, ![512, 128]⟩

abbrev nBuf : Space → Nat
  | .hbm => 168
  | .vmem => 0
  | .smem => 0
  | _ => 0

abbrev hbmTy0_0 (i : Nat) : BufTy := match i % 128 with
  | 0 => ⟨S64x2048, .f32⟩
  | 1 => ⟨S2048, .f32⟩
  | 2 => ⟨S4x2048x16384, .f32⟩
  | 3 => ⟨S64x2048, .f32⟩
  | 4 => ⟨S_, .f32⟩
  | 5 => ⟨S64, .f32⟩
  | 6 => ⟨S64x1, .f32⟩
  | 7 => ⟨S_, .f32⟩
  | 8 => ⟨S64x1, .f32⟩
  | 9 => ⟨S64x1, .f32⟩
  | 10 => ⟨S_, .f32⟩
  | 11 => ⟨S64x1, .f32⟩
  | 12 => ⟨S64x1, .f32⟩
  | 13 => ⟨S64x1, .f32⟩
  | 14 => ⟨S64x2048, .f32⟩
  | 15 => ⟨S64x2048, .f32⟩
  | 16 => ⟨S1x2048, .f32⟩
  | 17 => ⟨S64x2048, .f32⟩
  | 18 => ⟨S64x2048, .f32⟩
  | 19 => ⟨S1x2048x16384, .f32⟩
  | 20 => ⟨S2048x16384, .f32⟩
  | 21 => ⟨S64x16384, .f32⟩
  | 22 => ⟨S8, .i32⟩
  | 23 => ⟨S_, .i32⟩
  | 24 => ⟨S8, .i32⟩
  | 25 => ⟨S8, .i32⟩
  | 26 => ⟨S1x8, .i32⟩
  | 27 => ⟨S8x8, .i32⟩
  | 28 => ⟨S64, .i32⟩
  | 29 => ⟨S64x1024, .f32⟩
  | 30 => ⟨S64x1024, .f32⟩
  | 31 => ⟨S64x1024, .f32⟩
  | 32 => ⟨S64x1024, .f32⟩
  | 33 => ⟨S64x1024, .f32⟩
  | 34 => ⟨S64x1024, .f32⟩
  | 35 => ⟨S64x1024, .f32⟩
  | 36 => ⟨S64x1024, .f32⟩
  | 37 => ⟨S64x8192, .f32⟩
  | 38 => ⟨S64x8x128, .f32⟩
  | 39 => ⟨S16, .f32⟩
  | 40 => ⟨S_, .f32⟩
  | 41 => ⟨S16, .f32⟩
  | 42 => ⟨S16, .f32⟩
  | 43 => ⟨S16, .f32⟩
  | 44 => ⟨S64, .f32⟩
  | 45 => ⟨S64x1, .f32⟩
  | 46 => ⟨S1x16, .f32⟩
  | 47 => ⟨S64x16, .f32⟩
  | 48 => ⟨S64x16, .f32⟩
  | 49 => ⟨S64x16, .f32⟩
  | 50 => ⟨S64x16, .f32⟩
  | 51 => ⟨S64x1x16, .f32⟩
  | 52 => ⟨S64x16, .f32⟩
  | 53 => ⟨S64x1x16, .f32⟩
  | 54 => ⟨S64x8x16, .f32⟩
  | 55 => ⟨S64x8x16, .f32⟩
  | 56 => ⟨S64x8x96, .f32⟩
  | 57 => ⟨S64x8x16, .f32⟩
  | 58 => ⟨S64x8x16, .f32⟩
  | 59 => ⟨S64x8x16, .f32⟩
  | 60 => ⟨S64x8x16, .f32⟩
  | 61 => ⟨S64x8x16, .f32⟩
  | 62 => ⟨S64x8x16, .f32⟩
  | 63 => ⟨S64x8x16, .f32⟩
  | 64 => ⟨S64x8x16, .f32⟩
  | 65 => ⟨S64x8x16, .f32⟩
  | 66 => ⟨S64x8x16, .f32⟩
  | 67 => ⟨S64x8x128, .f32⟩
  | 68 => ⟨S64x8x128, .f32⟩
  | 69 => ⟨S16, .f32⟩
  | 70 => ⟨S_, .f32⟩
  | 71 => ⟨S16, .f32⟩
  | 72 => ⟨S16, .f32⟩
  | 73 => ⟨S16, .f32⟩
  | 74 => ⟨S64, .f32⟩
  | 75 => ⟨S64x1, .f32⟩
  | 76 => ⟨S1x16, .f32⟩
  | 77 => ⟨S64x16, .f32⟩
  | 78 => ⟨S64x16, .f32⟩
  | 79 => ⟨S64x16, .f32⟩
  | 80 => ⟨S64x16, .f32⟩
  | 81 => ⟨S64x1x16, .f32⟩
  | 82 => ⟨S64x16, .f32⟩
  | 83 => ⟨S64x1x16, .f32⟩
  | 84 => ⟨S64x8x16, .f32⟩
  | 85 => ⟨S64x8x16, .f32⟩
  | 86 => ⟨S64x8x96, .f32⟩
  | 87 => ⟨S64x8x16, .f32⟩
  | 88 => ⟨S64x8x16, .f32⟩
  | 89 => ⟨S64x8x16, .f32⟩
  | 90 => ⟨S64x8x16, .f32⟩
  | 91 => ⟨S64x8x16, .f32⟩
  | 92 => ⟨S64x8x16, .f32⟩
  | 93 => ⟨S64x8x16, .f32⟩
  | 94 => ⟨S64x8x16, .f32⟩
  | 95 => ⟨S64x8x16, .f32⟩
  | 96 => ⟨S64x8x16, .f32⟩
  | 97 => ⟨S64x8x128, .f32⟩
  | 98 => ⟨S64x8x128, .f32⟩
  | 99 => ⟨S64, .f32⟩
  | 100 => ⟨S_, .f32⟩
  | 101 => ⟨S64, .f32⟩
  | 102 => ⟨S64, .f32⟩
  | 103 => ⟨S64, .f32⟩
  | 104 => ⟨S64, .f32⟩
  | 105 => ⟨S64x1, .f32⟩
  | 106 => ⟨S1x64, .f32⟩
  | 107 => ⟨S64x64, .f32⟩
  | 108 => ⟨S64x64, .f32⟩
  | 109 => ⟨S64x64, .f32⟩
  | 110 => ⟨S64x64, .f32⟩
  | 111 => ⟨S64x1x64, .f32⟩
  | 112 => ⟨S64x64, .f32⟩
  | 113 => ⟨S64x1x64, .f32⟩
  | 114 => ⟨S64x8x64, .f32⟩
  | 115 => ⟨S64x8x64, .f32⟩
  | 116 => ⟨S64x8x64, .f32⟩
  | 117 => ⟨S64x8x64, .f32⟩
  | 118 => ⟨S64x8x64, .f32⟩
  | 119 => ⟨S64x8x64, .f32⟩
  | 120 => ⟨S64x8x64, .f32⟩
  | 121 => ⟨S64x8x64, .f32⟩
  | 122 => ⟨S64x8x64, .f32⟩
  | 123 => ⟨S64x8x64, .f32⟩
  | 124 => ⟨S64x8x64, .f32⟩
  | 125 => ⟨S64x8x64, .f32⟩
  | 126 => ⟨S64x8x128, .f32⟩
  | 127 => ⟨S64x8x128, .f32⟩
  | _ => ⟨S64x2048, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64x1, .f32⟩
  | 7 => ⟨S1x64, .f32⟩
  | 8 => ⟨S64x64, .f32⟩
  | 9 => ⟨S64x64, .f32⟩
  | 10 => ⟨S64x64, .f32⟩
  | 11 => ⟨S64x64, .f32⟩
  | 12 => ⟨S64x1x64, .f32⟩
  | 13 => ⟨S64x64, .f32⟩
  | 14 => ⟨S64x1x64, .f32⟩
  | 15 => ⟨S64x8x64, .f32⟩
  | 16 => ⟨S64x8x64, .f32⟩
  | 17 => ⟨S64x8x64, .f32⟩
  | 18 => ⟨S64x8x64, .f32⟩
  | 19 => ⟨S64x8x64, .f32⟩
  | 20 => ⟨S64x8x64, .f32⟩
  | 21 => ⟨S64x8x64, .f32⟩
  | 22 => ⟨S64x8x64, .f32⟩
  | 23 => ⟨S64x8x64, .f32⟩
  | 24 => ⟨S64x8x64, .f32⟩
  | 25 => ⟨S64x8x64, .f32⟩
  | 26 => ⟨S64x8x64, .f32⟩
  | 27 => ⟨S64x8x128, .f32⟩
  | 28 => ⟨S_, .f32⟩
  | 29 => ⟨S64x8x128, .f32⟩
  | 30 => ⟨S64x8x128, .f32⟩
  | 31 => ⟨S64x1024, .f32⟩
  | 32 => ⟨S64x1024, .f32⟩
  | 33 => ⟨S64x1024, .f32⟩
  | 34 => ⟨S64x1024, .f32⟩
  | 35 => ⟨S64x16384, .f32⟩
  | 36 => ⟨S512x128, .f32⟩
  | 37 => ⟨S512x128, .f32⟩
  | 38 => ⟨S512x128, .f32⟩
  | 39 => ⟨S512x128, .f32⟩
  | _ => ⟨S64x2048, .f32⟩

abbrev hbmTy (i : Nat) : BufTy := match i / 128 with
  | 0 => hbmTy0_0 i
  | 1 => hbmTy0_1 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_cst_4 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_cst_5 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_cst_6 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩

abbrev nD : Nat := 1
abbrev τ : Topo := Topo.v7x

variable {F : FTy → Type} [FloatOps F]
-- ==== RetentionSample.lean ====
abbrev S64x16384 : Shape := ⟨2, ![64, 16384]⟩
abbrev S1024 : Shape := ⟨1, ![1024]⟩
abbrev S8x8x128x128 : Shape := ⟨4, ![8, 8, 128, 128]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S1x8x1 : Shape := ⟨3, ![1, 8, 1]⟩
abbrev S1x1x8 : Shape := ⟨3, ![1, 1, 8]⟩
abbrev S8x8x1 : Shape := ⟨3, ![8, 8, 1]⟩
abbrev S8x8x128 : Shape := ⟨3, ![8, 8, 128]⟩
abbrev S8x1x128 : Shape := ⟨3, ![8, 1, 128]⟩
abbrev S1x1024 : Shape := ⟨2, ![1, 1024]⟩
abbrev S64x1024 : Shape := ⟨2, ![64, 1024]⟩
abbrev S8x512 : Shape := ⟨2, ![8, 512]⟩
abbrev S4x8x8 : Shape := ⟨3, ![4, 8, 8]⟩
abbrev S4x8x128 : Shape := ⟨3, ![4, 8, 128]⟩
abbrev S4x1x128 : Shape := ⟨3, ![4, 1, 128]⟩
abbrev S1x512 : Shape := ⟨2, ![1, 512]⟩
abbrev S1x4x128x128 : Shape := ⟨4, ![1, 4, 128, 128]⟩
abbrev S1x1x128x128 : Shape := ⟨4, ![1, 1, 128, 128]⟩
abbrev S128x128 : Shape := ⟨2, ![128, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩

abbrev nBuf : Space → Nat
  | .hbm => 87
  | .vmem => 24
  | .smem => 0
  | _ => 0

abbrev bufTy : (tb : Table) → Fin (tcTables nBuf tb) → BufTy
  | .hbm, ⟨0, _⟩ => ⟨S64x16384, .f32⟩
  | .hbm, ⟨1, _⟩ => ⟨S1024, .f32⟩
  | .hbm, ⟨2, _⟩ => ⟨S8x8x128x128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .i1⟩
  | .hbm, ⟨17, _⟩ => ⟨S8x1, .f32⟩
  | .hbm, ⟨18, _⟩ => ⟨S1x8, .f32⟩
  | .hbm, ⟨19, _⟩ => ⟨S8x8, .f32⟩
  | .hbm, ⟨20, _⟩ => ⟨S8x8, .f32⟩
  | .hbm, ⟨21, _⟩ => ⟨S8x8, .f32⟩
  | .hbm, ⟨22, _⟩ => ⟨S_, .f32⟩
  | .hbm, ⟨23, _⟩ => ⟨S8x8, .f32⟩
  | .hbm, ⟨24, _⟩ => ⟨S8x8, .i1⟩
  | .hbm, ⟨25, _⟩ => ⟨S8x1x1, .f32⟩
  | .hbm, ⟨26, _⟩ => ⟨S_, .f32⟩
  | .hbm, ⟨27, _⟩ => ⟨S8x8, .f32⟩
  | .hbm, ⟨28, _⟩ => ⟨S8x8, .f32⟩
  | .hbm, ⟨29, _⟩ => ⟨S1x8x8, .f32⟩
  | .hbm, ⟨30, _⟩ => ⟨S8x8x8, .f32⟩
  | .hbm, ⟨31, _⟩ => ⟨S8x8x8, .f32⟩
  | .hbm, ⟨32, _⟩ => ⟨S8x8x8, .f32⟩
  | .hbm, ⟨33, _⟩ => ⟨S8x8x8, .f32⟩
  | .hbm, ⟨34, _⟩ => ⟨S_, .f32⟩
  | .hbm, ⟨35, _⟩ => ⟨S_, .f32⟩
  | .hbm, ⟨36, _⟩ => ⟨S8x8x8, .i1⟩
  | .hbm, ⟨37, _⟩ => ⟨S8x8x8, .f32⟩
  | .hbm, ⟨38, _⟩ => ⟨S8x8x8, .f32⟩
  | .hbm, ⟨39, _⟩ => ⟨S1x8x1, .i1⟩
  | .hbm, ⟨40, _⟩ => ⟨S1x1x8, .i1⟩
  | .hbm, ⟨41, _⟩ => ⟨S1x8x8, .i1⟩
  | .hbm, ⟨42, _⟩ => ⟨S1x8x8, .i1⟩
  | .hbm, ⟨43, _⟩ => ⟨S1x8x8, .i1⟩
  | .hbm, ⟨44, _⟩ => ⟨S_, .f32⟩
  | .hbm, ⟨45, _⟩ => ⟨S_, .f32⟩
  | .hbm, ⟨46, _⟩ => ⟨S8x8x8, .i1⟩
  | .hbm, ⟨47, _⟩ => ⟨S8x8x8, .f32⟩
  | .hbm, ⟨48, _⟩ => ⟨S8x8x8, .f32⟩
  | .hbm, ⟨49, _⟩ => ⟨S1x8, .f32⟩
  | .hbm, ⟨50, _⟩ => ⟨S_, .f32⟩
  | .hbm, ⟨51, _⟩ => ⟨S1x8, .f32⟩
  | .hbm, ⟨52, _⟩ => ⟨S1x8, .f32⟩
  | .hbm, ⟨53, _⟩ => ⟨S8x1, .f32⟩
  | .hbm, ⟨54, _⟩ => ⟨S8x8, .f32⟩
  | .hbm, ⟨55, _⟩ => ⟨S8x8, .f32⟩
  | .hbm, ⟨56, _⟩ => ⟨S8x8, .f32⟩
  | .hbm, ⟨57, _⟩ => ⟨S8x8, .f32⟩
  | .hbm, ⟨58, _⟩ => ⟨S1x8, .i1⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S1x8, .f32⟩
  | .hbm, ⟨63, _⟩ => ⟨S8x1, .f32⟩
  | .hbm, ⟨64, _⟩ => ⟨S8x8, .f32⟩
  | .hbm, ⟨65, _⟩ => ⟨S8x8, .f32⟩
  | .hbm, ⟨66, _⟩ => ⟨S8x8, .f32⟩
  | .hbm, ⟨67, _⟩ => ⟨S8x8, .f32⟩
  | .hbm, ⟨68, _⟩ => ⟨S_, .f32⟩
  | .hbm, ⟨69, _⟩ => ⟨S_, .f32⟩
  | .hbm, ⟨70, _⟩ => ⟨S8x8, .i1⟩
  | .hbm, ⟨71, _⟩ => ⟨S8x8, .f32⟩
  | .hbm, ⟨72, _⟩ => ⟨S8x8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S8x8x1, .f32⟩
  | .hbm, ⟨78, _⟩ => ⟨S8x8x128, .f32⟩
  | .hbm, ⟨79, _⟩ => ⟨S8x8x1, .f32⟩
  | .hbm, ⟨80, _⟩ => ⟨S8x8x128, .f32⟩
  | .hbm, ⟨81, _⟩ => ⟨S8x1, .f32⟩
  | .hbm, ⟨82, _⟩ => ⟨S8x1x1, .f32⟩
  | .hbm, ⟨83, _⟩ => ⟨S8x1x128, .f32⟩
  | .hbm, ⟨84, _⟩ => ⟨S1x1024, .f32⟩
  | .hbm, ⟨85, _⟩ => ⟨S64x1024, .bf16⟩
  | .hbm, ⟨86, _⟩ => ⟨S8x8x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S4x8x8, .f32⟩
  | .local _ .vmem, ⟨9, _⟩ => ⟨S4x8x8, .f32⟩
  | .local _ .vmem, ⟨10, _⟩ => ⟨S4x8x128, .f32⟩
  | .local _ .vmem, ⟨11, _⟩ => ⟨S4x8x128, .f32⟩
  | .local _ .vmem, ⟨12, _⟩ => ⟨S4x8x128, .f32⟩
  | .local _ .vmem, ⟨13, _⟩ => ⟨S4x8x128, .f32⟩
  | .local _ .vmem, ⟨14, _⟩ => ⟨S4x1x128, .f32⟩
  | .local _ .vmem, ⟨15, _⟩ => ⟨S4x1x128, .f32⟩
  | .local _ .vmem, ⟨16, _⟩ => ⟨S1x512, .f32⟩
  | .local _ .vmem, ⟨17, _⟩ => ⟨S1x512, .f32⟩
  | .local _ .vmem, ⟨18, _⟩ => ⟨S1x4x128x128, .f32⟩
  | .local _ .vmem, ⟨19, _⟩ => ⟨S1x4x128x128, .f32⟩
  | .local _ .vmem, ⟨20, _⟩ => ⟨S8x512, .bf16⟩
  | .local _ .vmem, ⟨21, _⟩ => ⟨S8x512, .bf16⟩
  | .local _ .vmem, ⟨22, _⟩ => ⟨S1x4x128x128, .f32⟩
  | .local _ .vmem, ⟨23, _⟩ => ⟨S1x4x128x128, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c8_i32 : BitVec 32 := 8#32
  let v8 : BitVec 32 := Scalar.muli c0_i32 c8_i32
  v8
def k0_off1 : Fin 2 → Nat :=
  let c0_i32 : BitVec 32 := 0#32
  let c8_i32 : BitVec 32 := 8#32
  let v8 : BitVec 32 := Scalar.muli c0_i32 c8_i32
  let v9 : BitVec 32 := v8
  let v10 : Index := Scalar.indexCast v9
  let c0_12 : Index := 0#32
  ![v10.toNat, 0]
def k0_off2 : Fin 2 → Nat :=
  let c0_i32 : BitVec 32 := 0#32
  let c8_i32 : BitVec 32 := 8#32
  let v8 : BitVec 32 := Scalar.muli c0_i32 c8_i32
  let v9 : BitVec 32 := v8
  let v75 : Index := Scalar.indexCast v9
  let c128 : Index := 128#32
  ![v75.toNat, 128]
def k0_off3 : Fin 2 → Nat :=
  let c0_i32 : BitVec 32 := 0#32
  let c8_i32 : BitVec 32 := 8#32
  let v8 : BitVec 32 := Scalar.muli c0_i32 c8_i32
  let v9 : BitVec 32 := v8
  let v140 : Index := Scalar.indexCast v9
  let c256 : Index := 256#32
  ![v140.toNat, 256]
def k0_off4 : Fin 2 → Nat :=
  let c0_i32 : BitVec 32 := 0#32
  let c8_i32 : BitVec 32 := 8#32
  let v8 : BitVec 32 := Scalar.muli c0_i32 c8_i32
  let v9 : BitVec 32 := v8
  let v205 : Index := Scalar.indexCast v9
  let c384 : Index := 384#32
  ![v205.toNat, 384]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetentionSampleRefIdeal.lean ====
abbrev S64x16384 : Shape := ⟨2, ![64, 16384]⟩
abbrev S1024 : Shape := ⟨1, ![1024]⟩
abbrev S8x8x128x128 : Shape := ⟨4, ![8, 8, 128, 128]⟩
abbrev S8x8x16384 : Shape := ⟨3, ![8, 8, 16384]⟩
abbrev S8x4x16384 : Shape := ⟨3, ![8, 4, 16384]⟩
abbrev S8x4x1024 : Shape := ⟨3, ![8, 4, 1024]⟩
abbrev S8x4x8x128 : Shape := ⟨4, ![8, 4, 8, 128]⟩
abbrev S8 : Shape := ⟨1, ![8]⟩
abbrev S_ : Shape := ⟨0, ![]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S8x1x1 : Shape := ⟨3, ![8, 1, 1]⟩
abbrev S1x4x4 : Shape := ⟨3, ![1, 4, 4]⟩
abbrev S8x4x4 : Shape := ⟨3, ![8, 4, 4]⟩
abbrev S8x8x4x4 : Shape := ⟨4, ![8, 8, 4, 4]⟩
abbrev S1x8x4x4 : Shape := ⟨4, ![1, 8, 4, 4]⟩
abbrev S8x8x128x4 : Shape := ⟨4, ![8, 8, 128, 4]⟩
abbrev S1x8 : Shape := ⟨2, ![1, 8]⟩
abbrev S4x8 : Shape := ⟨2, ![4, 8]⟩
abbrev S1x4x8x1 : Shape := ⟨4, ![1, 4, 8, 1]⟩
abbrev S1x8x1x1 : Shape := ⟨4, ![1, 8, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S1024, .f32⟩
  | .hbm, ⟨2, _⟩ => ⟨S8x8x128x128, .f32⟩
  | .hbm, ⟨3, _⟩ => ⟨S8x8x16384, .f32⟩
  | .hbm, ⟨4, _⟩ => ⟨S8x4x16384, .f32⟩
  | .hbm, ⟨5, _⟩ => ⟨S8x4x1024, .f32⟩
  | .hbm, ⟨6, _⟩ => ⟨S8x4x8x128, .f32⟩
  | .hbm, ⟨7, _⟩ => ⟨S8x4x1024, .f32⟩
  | .hbm, ⟨8, _⟩ => ⟨S8x4x8x128, .f32⟩
  | .hbm, ⟨9, _⟩ => ⟨S8x4x1024, .f32⟩
  | .hbm, ⟨10, _⟩ => ⟨S8x4x8x128, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S4, .f32⟩
  | .hbm, ⟨22, _⟩ => ⟨S4x1, .f32⟩
  | .hbm, ⟨23, _⟩ => ⟨S1x4, .f32⟩
  | .hbm, ⟨24, _⟩ => ⟨S4x4, .f32⟩
  | .hbm, ⟨25, _⟩ => ⟨S4x4, .f32⟩
  | .hbm, ⟨26, _⟩ => ⟨S4x4, .f32⟩
  | .hbm, ⟨27, _⟩ => ⟨S_, .f32⟩
  | .hbm, ⟨28, _⟩ => ⟨S4x4, .f32⟩
  | .hbm, ⟨29, _⟩ => ⟨S4x4, .i1⟩
  | .hbm, ⟨30, _⟩ => ⟨S8x1x1, .f32⟩
  | .hbm, ⟨31, _⟩ => ⟨S_, .f32⟩
  | .hbm, ⟨32, _⟩ => ⟨S4x4, .f32⟩
  | .hbm, ⟨33, _⟩ => ⟨S4x4, .f32⟩
  | .hbm, ⟨34, _⟩ => ⟨S1x4x4, .f32⟩
  | .hbm, ⟨35, _⟩ => ⟨S8x4x4, .f32⟩
  | .hbm, ⟨36, _⟩ => ⟨S8x4x4, .f32⟩
  | .hbm, ⟨37, _⟩ => ⟨S8x4x4, .f32⟩
  | .hbm, ⟨38, _⟩ => ⟨S8x4x4, .f32⟩
  | .hbm, ⟨39, _⟩ => ⟨S_, .f32⟩
  | .hbm, ⟨40, _⟩ => ⟨S_, .f32⟩
  | .hbm, ⟨41, _⟩ => ⟨S8x4x4, .i1⟩
  | .hbm, ⟨42, _⟩ => ⟨S8x4x4, .f32⟩
  | .hbm, ⟨43, _⟩ => ⟨S8x4x4, .f32⟩
  | .hbm, ⟨44, _⟩ => ⟨S8x8x4x4, .f32⟩
  | .hbm, ⟨45, _⟩ => ⟨S1x8x4x4, .f32⟩
  | .hbm, ⟨46, _⟩ => ⟨S8x8x4x4, .f32⟩
  | .hbm, ⟨47, _⟩ => ⟨S8x8x4x4, .f32⟩
  | .hbm, ⟨48, _⟩ => ⟨S8x8x128x4, .f32⟩
  | .hbm, ⟨49, _⟩ => ⟨S8x4x8x128, .f32⟩
  | .hbm, ⟨50, _⟩ => ⟨S4x1, .f32⟩
  | .hbm, ⟨51, _⟩ => ⟨S_, .f32⟩
  | .hbm, ⟨52, _⟩ => ⟨S4x1, .f32⟩
  | .hbm, ⟨53, _⟩ => ⟨S4x1, .f32⟩
  | .hbm, ⟨54, _⟩ => ⟨S1x8, .f32⟩
  | .hbm, ⟨55, _⟩ => ⟨S4x8, .f32⟩
  | .hbm, ⟨56, _⟩ => ⟨S4x8, .f32⟩
  | .hbm, ⟨57, _⟩ => ⟨S4x8, .f32⟩
  | .hbm, ⟨58, _⟩ => ⟨S4x8, .f32⟩
  | .hbm, ⟨59, _⟩ => ⟨S8x8x128x4, .f32⟩
  | .hbm, ⟨60, _⟩ => ⟨S8x4x8x128, .f32⟩
  | .hbm, ⟨61, _⟩ => ⟨S1x4x8x1, .f32⟩
  | .hbm, ⟨62, _⟩ => ⟨S8x4x8x128, .f32⟩
  | .hbm, ⟨63, _⟩ => ⟨S8x4x8x128, .f32⟩
  | .hbm, ⟨64, _⟩ => ⟨S8x4x8x128, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4x1, .f32⟩
  | .hbm, ⟨69, _⟩ => ⟨S1x8, .f32⟩
  | .hbm, ⟨70, _⟩ => ⟨S4x8, .f32⟩
  | .hbm, ⟨71, _⟩ => ⟨S4x8, .f32⟩
  | .hbm, ⟨72, _⟩ => ⟨S4x8, .f32⟩
  | .hbm, ⟨73, _⟩ => ⟨S4x8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S1x8x1x1, .f32⟩
  | .hbm, ⟨79, _⟩ => ⟨S8x8x128x128, .f32⟩
  | .hbm, ⟨80, _⟩ => ⟨S8x8x128x128, .f32⟩
  | .hbm, ⟨81, _⟩ => ⟨S1x4x8x1, .f32⟩
  | .hbm, ⟨82, _⟩ => ⟨S8x4x8x128, .f32⟩
  | .hbm, ⟨83, _⟩ => ⟨S8x4x8x128, .f32⟩
  | .hbm, ⟨84, _⟩ => ⟨S8x8x128x128, .f32⟩
  | .hbm, ⟨85, _⟩ => ⟨S8x8x128x128, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Proof.RetentionTrip.lean ====
/- One trip of the retention kernel's loop, written over two expressions of the kernel: the new state of a head, and the
   rows of output of a head; each trip does both for four heads. -/
module

public import proofs.«01_k».proof.Proof.Gen.RetentionIdeal.Value
public import Idealize.ShloMosaic.Lib.Pipeline.ValueKit
public import Idealize.ShloMosaic.Lib.Pointwise
public import Idealize.ShloMosaic.Lib.Claim

@[expose] public section
set_option maxRecDepth 16384
noncomputable section
namespace Cert.RetentionIdeal.Result

open Idealize.ShloMosaic Idealize.ShloMosaic.TcCoe
open Idealize.SL Idealize.SL.RA Idealize.SL.BI
open Cert.RetentionIdeal Cert.RetentionIdeal.Gen
variable {F : FTy → Type} [FloatOps F]

/-- One head's state after a chunk. -/
abbrev NEW (S k v : FVec F S128x128 .f32) (gt : FVec F S1x1x128 .f32) (kd : FVec F S1x128x128 .f32) : FVec F S128x128 .f32 :=
  k0_pay12 S k v gt kd

/-- One head's rows of the output for a chunk. -/
abbrev OUT (S q k v gr : FVec F S128x128 .f32) (dec qd : FVec F S1x128x128 .f32) (gn : FVec F S1x128 .f32) : FVec F S128x128 .bf16 :=
  k0_pay14 (k0_pay11 S q k v dec qd) (k0_pay13 S q k v dec qd) gn gr

/-- The chunk of a block of columns a rectangle takes. -/
abbrev tl (x : FVec F S2048x512 .f32) (off : Fin 2 → ℕ) (h : ∀ a, off a + S128x128.size a ≤ S2048x512.size a) : FVec F S128x128 .f32 :=
  View.ld (Val := Elt F) (e' := .f32) x (Rect.unit (s := S2048x512) off S128x128.size h)
abbrev tb (x : FVec F S4x128x128 .f32) (off : Fin 3 → ℕ) (h : ∀ a, off a + S1x128x128.size a ≤ S4x128x128.size a) : FVec F S1x128x128 .f32 :=
  View.ld (Val := Elt F) (e' := .f32) x (Rect.unit (s := S4x128x128) off S1x128x128.size h)
abbrev tg (x : FVec F S4x1x128 .f32) (off : Fin 3 → ℕ) (h : ∀ a, off a + S1x1x128.size a ≤ S4x1x128.size a) : FVec F S1x1x128 .f32 :=
  View.ld (Val := Elt F) (e' := .f32) x (Rect.unit (s := S4x1x128) off S1x1x128.size h)
abbrev tn (x : FVec F S1x512 .f32) (off : Fin 2 → ℕ) (h : ∀ a, off a + S1x128.size a ≤ S1x512.size a) : FVec F S1x128 .f32 :=
  View.ld (Val := Elt F) (e' := .f32) x (Rect.unit (s := S1x512) off S1x128.size h)

variable (𝒱 : Variants) (c : Dev nD) (bd : Option 𝒱.V) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S4x128x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x1x128 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S1x4x128x128 .f32) (harg12 : arg12.IsWhole)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty) (X6 : BufTy.Contents (Elt F) arg8.view.ty) (X7 : BufTy.Contents (Elt F) arg9.view.ty) (X8 : BufTy.Contents (Elt F) arg10.view.ty)
theorem tripR_eq (k : Fin k0_t1_loop.trips) (acc) :
    tripR_k0_t1 (F := F) 𝒱 c bd i arg2 harg2 arg3 harg3 arg4 harg4 arg5 harg5 arg6 harg6 arg7 harg7 arg8 harg8 arg9 harg9 arg10 harg10 arg11 harg11 arg12 harg12 X0 X1 X2 X3 X4 X5 X6 X7 X8 k acc
      = (NEW acc.1 (tl (arg3.view.read (Elt F) X1) (k0_off1 k) (k0_off1_inb k)) (tl (arg4.view.read (Elt F) X2) (k0_off1 k) (k0_off1_inb k)) (tg (arg9.view.read (Elt F) X7) ![0, 0, 0] (by decide)) (tb (arg8.view.read (Elt F) X6) ![0, 0, 0] (by decide)),
        NEW acc.2.1 (tl (arg3.view.read (Elt F) X1) (k0_off2 k) (k0_off2_inb k)) (tl (arg4.view.read (Elt F) X2) (k0_off2 k) (k0_off2_inb k)) (tg (arg9.view.read (Elt F) X7) ![1, 0, 0] (by decide)) (tb (arg8.view.read (Elt F) X6) ![1, 0, 0] (by decide)),
        NEW acc.2.2.1 (tl (arg3.view.read (Elt F) X1) (k0_off3 k) (k0_off3_inb k)) (tl (arg4.view.read (Elt F) X2) (k0_off3 k) (k0_off3_inb k)) (tg (arg9.view.read (Elt F) X7) ![2, 0, 0] (by decide)) (tb (arg8.view.read (Elt F) X6) ![2, 0, 0] (by decide)),
        NEW acc.2.2.2 (tl (arg3.view.read (Elt F) X1) (k0_off4 k) (k0_off4_inb k)) (tl (arg4.view.read (Elt F) X2) (k0_off4 k) (k0_off4_inb k)) (tg (arg9.view.read (Elt F) X7) ![3, 0, 0] (by decide)) (tb (arg8.view.read (Elt F) X6) ![3, 0, 0] (by decide))) := by
  unfold tripR_k0_t1 trip_k0_t1
  rfl

theorem tripL_eq (k : Fin k0_t1_loop.trips) (acc) :
    tripL_k0_t1 (F := F) 𝒱 c bd i arg2 harg2 arg3 harg3 arg4 harg4 arg5 harg5 arg6 harg6 arg7 harg7 arg8 harg8 arg9 harg9 arg10 harg10 arg11 harg11 arg12 harg12 X0 X1 X2 X3 X4 X5 X6 X7 X8 k acc
      = [⟨Rect.unit (s := S2048x512) (k0_off4 k) S128x128.size (k0_off4_inb k), OUT acc.2.2.2 (tl (arg2.view.read (Elt F) X0) (k0_off4 k) (k0_off4_inb k)) (tl (arg3.view.read (Elt F) X1) (k0_off4 k) (k0_off4_inb k)) (tl (arg4.view.read (Elt F) X2) (k0_off4 k) (k0_off4_inb k)) (tl (arg5.view.read (Elt F) X3) (k0_off4 k) (k0_off4_inb k)) (tb (arg6.view.read (Elt F) X4) ![3, 0, 0] (by decide)) (tb (arg7.view.read (Elt F) X5) ![3, 0, 0] (by decide)) (tn (arg10.view.read (Elt F) X8) ![0, 384] (by decide))⟩,
         ⟨Rect.unit (s := S2048x512) (k0_off3 k) S128x128.size (k0_off3_inb k), OUT acc.2.2.1 (tl (arg2.view.read (Elt F) X0) (k0_off3 k) (k0_off3_inb k)) (tl (arg3.view.read (Elt F) X1) (k0_off3 k) (k0_off3_inb k)) (tl (arg4.view.read (Elt F) X2) (k0_off3 k) (k0_off3_inb k)) (tl (arg5.view.read (Elt F) X3) (k0_off3 k) (k0_off3_inb k)) (tb (arg6.view.read (Elt F) X4) ![2, 0, 0] (by decide)) (tb (arg7.view.read (Elt F) X5) ![2, 0, 0] (by decide)) (tn (arg10.view.read (Elt F) X8) ![0, 256] (by decide))⟩,
         ⟨Rect.unit (s := S2048x512) (k0_off2 k) S128x128.size (k0_off2_inb k), OUT acc.2.1 (tl (arg2.view.read (Elt F) X0) (k0_off2 k) (k0_off2_inb k)) (tl (arg3.view.read (Elt F) X1) (k0_off2 k) (k0_off2_inb k)) (tl (arg4.view.read (Elt F) X2) (k0_off2 k) (k0_off2_inb k)) (tl (arg5.view.read (Elt F) X3) (k0_off2 k) (k0_off2_inb k)) (tb (arg6.view.read (Elt F) X4) ![1, 0, 0] (by decide)) (tb (arg7.view.read (Elt F) X5) ![1, 0, 0] (by decide)) (tn (arg10.view.read (Elt F) X8) ![0, 128] (by decide))⟩,
         ⟨Rect.unit (s := S2048x512) (k0_off1 k) S128x128.size (k0_off1_inb k), OUT acc.1 (tl (arg2.view.read (Elt F) X0) (k0_off1 k) (k0_off1_inb k)) (tl (arg3.view.read (Elt F) X1) (k0_off1 k) (k0_off1_inb k)) (tl (arg4.view.read (Elt F) X2) (k0_off1 k) (k0_off1_inb k)) (tl (arg5.view.read (Elt F) X3) (k0_off1 k) (k0_off1_inb k)) (tb (arg6.view.read (Elt F) X4) ![0, 0, 0] (by decide)) (tb (arg7.view.read (Elt F) X5) ![0, 0, 0] (by decide)) (tn (arg10.view.read (Elt F) X8) ![0, 0] (by decide))⟩] := by
  unfold tripL_k0_t1 trip_k0_t1
  rfl

end Cert.RetentionIdeal.Result

end
-- ==== Proof.RetentionSpec.lean ====
/- Retention over one chunk of a sequence, for one head, over the extended reals: the state a chunk leaves behind,
   and the chunk's attention output before its normalisation. Both programs compute these. -/
module

public import Idealize.ShloMosaic.Lib.Pipeline.ValueKit
public import Idealize.ShloMosaic.Lib.Pointwise

@[expose] public section

noncomputable section

open Idealize.ShloMosaic

namespace Cert.RetentionSpec

/-- A row's number as a float. -/
def flt (x : ℕ) : EReal := FloatOps.sitofp (F := Ideal) FTy.f32 (BitVec.ofNat 32 x)

/-- The weight of key row `c` on query row `r`: the decay over their distance, nothing for a later key. -/
def weight (lg : EReal) (r c : ℕ) : EReal :=
  if 0 ≤ flt r - flt c then Ideal.exp (lg * max (flt r - flt c) 0) else 0

/-- The state after a chunk: the old one decayed over the chunk, plus the decayed keys against the values. -/
def newS (lg : EReal) (S k v : Fin 128 → Fin 128 → EReal) (d e : Fin 128) : EReal :=
  Ideal.exp (Ideal.ofBits FTy.f32 1124073472#32 * lg) * S d e
    + ∑ x : Fin 128, k x d * Ideal.exp ((Ideal.ofBits FTy.f32 1123942400#32 - flt x.val) * lg) * v x e

/-- A chunk's attention: the decayed scores within the chunk against the values, plus the decayed queries against the state. -/
def att (lg : EReal) (S q k v : Fin 128 → Fin 128 → EReal) (r e : Fin 128) : EReal :=
  ∑ x : Fin 128, (∑ y : Fin 128, q r y * k x y) * weight lg r.val x.val * v x e
    + (∑ x : Fin 128, q r x * S x e) * Ideal.exp ((flt r.val + 1) * lg)

/-- The decay's logarithm of head `h`: `log (1 - 2 ^ (-5 - h))`. -/
def logG (h : Fin 8) : EReal :=
  Ideal.log1p (-Ideal.exp (Ideal.ofBits FTy.f32 1060205080#32 * (Ideal.ofBits FTy.f32 3231711232#32 - flt h.val)))

/-- Chunk `n` of sequence `b` and head `h` of the projections `z`, from the columns at `base`. -/
def chunk (z : (⟨2, ![8192, 16384]⟩ : Shape).Idx → EReal) (base : ℕ) (hb : base ≤ 15360) (b : Fin 4) (h : Fin 8) (n : Fin 16) (r e : Fin 128) : EReal :=
  z (ix2 ⟨b.val * 2048 + n.val * 128 + r.val, by omega⟩ ⟨base + (h.val * 128 + e.val), by omega⟩)

/-- The queries, the keys and the values of a chunk. -/
abbrev qs (z : (⟨2, ![8192, 16384]⟩ : Shape).Idx → EReal) := chunk z 6144 (by decide)
abbrev ks (z : (⟨2, ![8192, 16384]⟩ : Shape).Idx → EReal) := chunk z 7168 (by decide)
abbrev vs (z : (⟨2, ![8192, 16384]⟩ : Shape).Idx → EReal) := chunk z 8192 (by decide)

/-- The state before chunk `n`: the scan from the zero state. -/
def state (z : (⟨2, ![8192, 16384]⟩ : Shape).Idx → EReal) (b : Fin 4) (h : Fin 8) : ℕ → Fin 128 → Fin 128 → EReal
  | 0 => fun _ _ => 0
  | n + 1 => newS (logG h) (state z b h n) (ks z b h (Fin.ofNat 16 n)) (vs z b h (Fin.ofNat 16 n))

/-- The attention of chunk `n`. -/
abbrev atts (z : (⟨2, ![8192, 16384]⟩ : Shape).Idx → EReal) (b : Fin 4) (h : Fin 8) (n : Fin 16) : Fin 128 → Fin 128 → EReal :=
  att (logG h) (state z b h n.val) (qs z b h n) (ks z b h n) (vs z b h n)

/-- The mean of a row. -/
def mean (o : Fin 128 → EReal) : EReal := Ideal.div (∑ x : Fin 128, o x) (Ideal.ofBits FTy.f32 1124073472#32)

/-- The output: a row normalised to mean 0 and variance 1, scaled, and gated by `silu g`. -/
def outp (o : Fin 128 → EReal) (g w : EReal) (e : Fin 128) : EReal :=
  g * Ideal.div 1 (1 + Ideal.exp (-g))
    * ((o e - mean o) * Ideal.rsqrt (mean (fun x => (o x - mean o) * (o x - mean o)) + Ideal.ofBits FTy.f32 897988541#32) * w)

end Cert.RetentionSpec
end
-- ==== Proof.RetentionState.lean ====
/- The retention kernel's loop over the sixteen chunks of a sequence: before each trip the four carried values are
   the states of the four heads, and every tile stored so far is the reference's output where it lies. -/
module

public import proofs.«01_k».proof.Proof.RetentionTrip
public import proofs.«01_k».proof.Proof.RetentionSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe

namespace Cert.RetentionIdeal.Result

open Cert.RetentionSpec Cert.RetentionIdeal Cert.RetentionIdeal.Gen

/-- One head's new state, given what its operands hold. -/
theorem new_eq (S k v : FVec Ideal S128x128 .f32) (gt : FVec Ideal S1x1x128 .f32) (kd : FVec Ideal S1x128x128 .f32)
    (lg : EReal) (σ K V : Fin 128 → Fin 128 → EReal)
    (hS : ∀ d e, S (ix2 d e) = σ d e) (hk : ∀ r e, k (ix2 r e) = K r e) (hv : ∀ r e, v (ix2 r e) = V r e)
    (hg : ∀ e, gt (ix3 0 0 e) = Ideal.exp (Ideal.ofBits FTy.f32 1124073472#32 * lg))
    (hd : ∀ d x, kd (ix3 0 x d) = Ideal.exp ((Ideal.ofBits FTy.f32 1123942400#32 - flt x.val) * lg)) (d e : Fin 128) :
    NEW S k v gt kd (ix2 d e) = newS lg σ K V d e := by
  pointwise [NEW, k0_pay12, k0_pay10]
  simp only [hS, hk, hv, hg, hd]
  rfl

/-- One head's rows of the output, given what their operands hold. -/
theorem out_eq (S q k v gr : FVec Ideal S128x128 .f32) (dec qd : FVec Ideal S1x128x128 .f32) (gn : FVec Ideal S1x128 .f32)
    (lg : EReal) (σ Q K V G : Fin 128 → Fin 128 → EReal) (w : Fin 128 → EReal)
    (hS : ∀ d e, S (ix2 d e) = σ d e) (hq : ∀ r e, q (ix2 r e) = Q r e) (hk : ∀ r e, k (ix2 r e) = K r e)
    (hv : ∀ r e, v (ix2 r e) = V r e) (hg : ∀ r e, gr (ix2 r e) = G r e)
    (hdec : ∀ r x, dec (ix3 0 r x) = weight lg r.val x.val) (hqd : ∀ r x, qd (ix3 0 r x) = Ideal.exp ((flt r.val + 1) * lg))
    (hw : ∀ e, gn (ix2 0 e) = w e) (r e : Fin 128) :
    OUT S q k v gr dec qd gn (ix2 r e) = outp (att lg σ Q K V r) (G r e) (w e) e := by
  pointwise [OUT, k0_pay14, k0_pay11, k0_pay13, k0_pay10]
  simp only [hS, hq, hk, hv, hg, hdec, hqd, hw, zero_sub]
  rfl

/-- A rectangle of a block of columns, at an index. -/
theorem tl_apply (x : FVec Ideal S2048x512 .f32) (off : Fin 2 → ℕ) (h) (k : Fin 16) (j : Fin 4) (ho : off = ![128 * k.val, 128 * j.val]) (r e : Fin 128) :
    tl x off h (ix2 r e) = x (ix2 ⟨128 * k.val + r.val, by omega⟩ ⟨128 * j.val + e.val, by omega⟩) := by
  subst ho
  refine congrArg x (funext fun a => Fin.ext ?_)
  match a with
  | 0 => exact congrArg (128 * k.val + ·) (Nat.one_mul _)
  | 1 => exact congrArg (128 * j.val + ·) (Nat.one_mul _)

/-- One head's table, at an index. -/
theorem tb_apply (x : FVec Ideal S4x128x128 .f32) (j : Fin 4) (h) (r e : Fin 128) :
    tb x ![j.val, 0, 0] h (ix3 0 r e) = x (ix3 j r e) := by
  refine congrArg x (funext fun a => Fin.ext ?_)
  match a with
  | 0 => exact Nat.add_zero _
  | 1 => exact (Nat.zero_add _).trans (Nat.one_mul _)
  | 2 => exact (Nat.zero_add _).trans (Nat.one_mul _)

/-- One head's decay over a chunk, at an index. -/
theorem tg_apply (x : FVec Ideal S4x1x128 .f32) (j : Fin 4) (h) (e : Fin 128) :
    tg x ![j.val, 0, 0] h (ix3 0 0 e) = x (ix3 j 0 e) := by
  refine congrArg x (funext fun a => Fin.ext ?_)
  match a with
  | 0 => exact Nat.add_zero _
  | 1 => rfl
  | 2 => exact (Nat.zero_add _).trans (Nat.one_mul _)

/-- One head's scale, at an index. -/
theorem tn_apply (x : FVec Ideal S1x512 .f32) (j : Fin 4) (h) (e : Fin 128) :
    tn x ![0, 128 * j.val] h (ix2 0 e) = x (ix2 0 ⟨128 * j.val + e.val, by omega⟩) := by
  refine congrArg x (funext fun a => Fin.ext ?_)
  match a with
  | 0 => rfl
  | 1 => exact congrArg (128 * j.val + ·) (Nat.one_mul _)

theorem trips : k0_t1_loop.trips = 16 := by decide

theorem off1_eq (k : Fin 16) (hk : k.val < k0_t1_loop.trips) : k0_off1 ⟨k.val, hk⟩ = ![128 * k.val, 128 * (0 : Fin 4).val] := by
  rw [k0_off1_eq]; rfl

theorem off2_eq (k : Fin 16) (hk : k.val < k0_t1_loop.trips) : k0_off2 ⟨k.val, hk⟩ = ![128 * k.val, 128 * (1 : Fin 4).val] := by
  rw [k0_off2_eq]; rfl

theorem off3_eq (k : Fin 16) (hk : k.val < k0_t1_loop.trips) : k0_off3 ⟨k.val, hk⟩ = ![128 * k.val, 128 * (2 : Fin 4).val] := by
  rw [k0_off3_eq]; rfl

theorem off4_eq (k : Fin 16) (hk : k.val < k0_t1_loop.trips) : k0_off4 ⟨k.val, hk⟩ = ![128 * k.val, 128 * (3 : Fin 4).val] := by
  rw [k0_off4_eq]; rfl

section Loop

variable (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S4x128x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x1x128 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S1x4x128x128 .f32) (harg12 : arg12.IsWhole)
    (x0 : Vec Ideal S2048x512 .f32) (x1 : Vec Ideal S2048x512 .f32) (x2 : Vec Ideal S2048x512 .f32) (x3 : Vec Ideal S2048x512 .f32) (x4 : Vec Ideal S4x128x128 .f32) (x5 : Vec Ideal S4x128x128 .f32) (x6 : Vec Ideal S4x128x128 .f32) (x7 : Vec Ideal S4x1x128 .f32) (x8 : Vec Ideal S1x512 .f32)

/-- The loop's state before trip `k`. -/
abbrev ST (init) (k : ℕ) := st_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) init k

variable (z : (⟨2, ![8192, 16384]⟩ : Shape).Idx → EReal) (b : Fin 4) (H : Fin 4 → Fin 8) (w : Fin 4 → Fin 128 → EReal)

/-- Before trip `k` the carried values are the four heads' states. -/
theorem carried
    (hk : ∀ (k : Fin 16) (j : Fin 4) (r e : Fin 128), x1 (ix2 ⟨128 * k.val + r.val, by omega⟩ ⟨128 * j.val + e.val, by omega⟩) = ks z b (H j) k r e)
    (hv : ∀ (k : Fin 16) (j : Fin 4) (r e : Fin 128), x2 (ix2 ⟨128 * k.val + r.val, by omega⟩ ⟨128 * j.val + e.val, by omega⟩) = vs z b (H j) k r e)
    (hkd : ∀ (j : Fin 4) (r x : Fin 128), x6 (ix3 j r x) = Ideal.exp ((Ideal.ofBits FTy.f32 1123942400#32 - flt r.val) * logG (H j)))
    (hgt : ∀ (j : Fin 4) (r : Fin 1) (x : Fin 128), x7 (ix3 j r x) = Ideal.exp (Ideal.ofBits FTy.f32 1124073472#32 * logG (H j)))
    (init : FVec Ideal S128x128 .f32 × FVec Ideal S128x128 .f32 × FVec Ideal S128x128 .f32 × FVec Ideal S128x128 .f32)
    (h0 : (∀ d e, init.1 (ix2 d e) = 0) ∧ (∀ d e, init.2.1 (ix2 d e) = 0) ∧ (∀ d e, init.2.2.1 (ix2 d e) = 0) ∧ (∀ d e, init.2.2.2 (ix2 d e) = 0)) (k : ℕ) (hk16 : k ≤ 16) :
    (∀ d e, (ST c i arg2 harg2 arg3 harg3 arg4 harg4 arg5 harg5 arg6 harg6 arg7 harg7 arg8 harg8 arg9 harg9 arg10 harg10 arg11 harg11 arg12 harg12 x0 x1 x2 x3 x4 x5 x6 x7 x8 init k).1.1 (ix2 d e) = state z b (H 0) k d e)
      ∧ (∀ d e, (ST c i arg2 harg2 arg3 harg3 arg4 harg4 arg5 harg5 arg6 harg6 arg7 harg7 arg8 harg8 arg9 harg9 arg10 harg10 arg11 harg11 arg12 harg12 x0 x1 x2 x3 x4 x5 x6 x7 x8 init k).1.2.1 (ix2 d e) = state z b (H 1) k d e)
      ∧ (∀ d e, (ST c i arg2 harg2 arg3 harg3 arg4 harg4 arg5 harg5 arg6 harg6 arg7 harg7 arg8 harg8 arg9 harg9 arg10 harg10 arg11 harg11 arg12 harg12 x0 x1 x2 x3 x4 x5 x6 x7 x8 init k).1.2.2.1 (ix2 d e) = state z b (H 2) k d e)
      ∧ (∀ d e, (ST c i arg2 harg2 arg3 harg3 arg4 harg4 arg5 harg5 arg6 harg6 arg7 harg7 arg8 harg8 arg9 harg9 arg10 harg10 arg11 harg11 arg12 harg12 x0 x1 x2 x3 x4 x5 x6 x7 x8 init k).1.2.2.2 (ix2 d e) = state z b (H 3) k d e) := by
  induction k with
  | zero => exact h0
  | succ k ih =>
    obtain ⟨i0, i1, i2, i3⟩ := ih (Nat.le_of_succ_le hk16)
    have ht : k < k0_t1_loop.trips := trips ▸ hk16
    have hn : (⟨k, hk16⟩ : Fin 16) = Fin.ofNat 16 k := Fin.ext (Nat.mod_eq_of_lt hk16).symm
    have hs := congrArg Prod.fst (st_k0_t1_succ (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) init ⟨k, ht⟩)
    have hs' := hs.trans (tripR_eq (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) ⟨k, ht⟩ _)
    rw [harg3.read_unread x1, harg4.read_unread x2, harg8.read_unread x6, harg9.read_unread x7] at hs'
    have hs0 : (ST c i arg2 harg2 arg3 harg3 arg4 harg4 arg5 harg5 arg6 harg6 arg7 harg7 arg8 harg8 arg9 harg9 arg10 harg10 arg11 harg11 arg12 harg12 x0 x1 x2 x3 x4 x5 x6 x7 x8 init (k + 1)).1.1 = _ := congrArg (fun p => p.1) hs'
    have hs1 : (ST c i arg2 harg2 arg3 harg3 arg4 harg4 arg5 harg5 arg6 harg6 arg7 harg7 arg8 harg8 arg9 harg9 arg10 harg10 arg11 harg11 arg12 harg12 x0 x1 x2 x3 x4 x5 x6 x7 x8 init (k + 1)).1.2.1 = _ := congrArg (fun p => p.2.1) hs'
    have hs2 : (ST c i arg2 harg2 arg3 harg3 arg4 harg4 arg5 harg5 arg6 harg6 arg7 harg7 arg8 harg8 arg9 harg9 arg10 harg10 arg11 harg11 arg12 harg12 x0 x1 x2 x3 x4 x5 x6 x7 x8 init (k + 1)).1.2.2.1 = _ := congrArg (fun p => p.2.2.1) hs'
    have hs3 : (ST c i arg2 harg2 arg3 harg3 arg4 harg4 arg5 harg5 arg6 harg6 arg7 harg7 arg8 harg8 arg9 harg9 arg10 harg10 arg11 harg11 arg12 harg12 x0 x1 x2 x3 x4 x5 x6 x7 x8 init (k + 1)).1.2.2.2 = _ := congrArg (fun p => p.2.2.2) hs'
    refine ⟨fun d e => ?_, fun d e => ?_, fun d e => ?_, fun d e => ?_⟩
    · rw [hs0]
      refine new_eq _ _ _ _ _ (logG (H 0)) (state z b (H 0) k) (ks z b (H 0) (Fin.ofNat 16 k)) (vs z b (H 0) (Fin.ofNat 16 k)) i0 ?_ ?_ ?_ ?_ d e
      · intro r e; rw [← hn]; exact (tl_apply x1 _ _ ⟨k, hk16⟩ 0 (off1_eq ⟨k, hk16⟩ ht) r e).trans (hk _ _ _ _)
      · intro r e; rw [← hn]; exact (tl_apply x2 _ _ ⟨k, hk16⟩ 0 (off1_eq ⟨k, hk16⟩ ht) r e).trans (hv _ _ _ _)
      · intro e; exact (tg_apply x7 0 _ e).trans (hgt _ _ _)
      · intro d x; exact (tb_apply x6 0 _ x d).trans (hkd _ _ _)
    · rw [hs1]
      refine new_eq _ _ _ _ _ (logG (H 1)) (state z b (H 1) k) (ks z b (H 1) (Fin.ofNat 16 k)) (vs z b (H 1) (Fin.ofNat 16 k)) i1 ?_ ?_ ?_ ?_ d e
      · intro r e; rw [← hn]; exact (tl_apply x1 _ _ ⟨k, hk16⟩ 1 (off2_eq ⟨k, hk16⟩ ht) r e).trans (hk _ _ _ _)
      · intro r e; rw [← hn]; exact (tl_apply x2 _ _ ⟨k, hk16⟩ 1 (off2_eq ⟨k, hk16⟩ ht) r e).trans (hv _ _ _ _)
      · intro e; exact (tg_apply x7 1 _ e).trans (hgt _ _ _)
      · intro d x; exact (tb_apply x6 1 _ x d).trans (hkd _ _ _)
    · rw [hs2]
      refine new_eq _ _ _ _ _ (logG (H 2)) (state z b (H 2) k) (ks z b (H 2) (Fin.ofNat 16 k)) (vs z b (H 2) (Fin.ofNat 16 k)) i2 ?_ ?_ ?_ ?_ d e
      · intro r e; rw [← hn]; exact (tl_apply x1 _ _ ⟨k, hk16⟩ 2 (off3_eq ⟨k, hk16⟩ ht) r e).trans (hk _ _ _ _)
      · intro r e; rw [← hn]; exact (tl_apply x2 _ _ ⟨k, hk16⟩ 2 (off3_eq ⟨k, hk16⟩ ht) r e).trans (hv _ _ _ _)
      · intro e; exact (tg_apply x7 2 _ e).trans (hgt _ _ _)
      · intro d x; exact (tb_apply x6 2 _ x d).trans (hkd _ _ _)
    · rw [hs3]
      refine new_eq _ _ _ _ _ (logG (H 3)) (state z b (H 3) k) (ks z b (H 3) (Fin.ofNat 16 k)) (vs z b (H 3) (Fin.ofNat 16 k)) i3 ?_ ?_ ?_ ?_ d e
      · intro r e; rw [← hn]; exact (tl_apply x1 _ _ ⟨k, hk16⟩ 3 (off4_eq ⟨k, hk16⟩ ht) r e).trans (hk _ _ _ _)
      · intro r e; rw [← hn]; exact (tl_apply x2 _ _ ⟨k, hk16⟩ 3 (off4_eq ⟨k, hk16⟩ ht) r e).trans (hv _ _ _ _)
      · intro e; exact (tg_apply x7 3 _ e).trans (hgt _ _ _)
      · intro d x; exact (tb_apply x6 3 _ x d).trans (hkd _ _ _)

/-- Before trip `k` every tile stored is the reference's output where it lies. -/
theorem stored
    (hq : ∀ (k : Fin 16) (j : Fin 4) (r e : Fin 128), x0 (ix2 ⟨128 * k.val + r.val, by omega⟩ ⟨128 * j.val + e.val, by omega⟩) = qs z b (H j) k r e)
    (hk : ∀ (k : Fin 16) (j : Fin 4) (r e : Fin 128), x1 (ix2 ⟨128 * k.val + r.val, by omega⟩ ⟨128 * j.val + e.val, by omega⟩) = ks z b (H j) k r e)
    (hv : ∀ (k : Fin 16) (j : Fin 4) (r e : Fin 128), x2 (ix2 ⟨128 * k.val + r.val, by omega⟩ ⟨128 * j.val + e.val, by omega⟩) = vs z b (H j) k r e)
    (hg : ∀ (k : Fin 16) (j : Fin 4) (r e : Fin 128), x3 (ix2 ⟨128 * k.val + r.val, by omega⟩ ⟨128 * j.val + e.val, by omega⟩) = chunk z 9216 (by decide) b (H j) k r e)
    (hdec : ∀ (j : Fin 4) (r x : Fin 128), x4 (ix3 j r x) = weight (logG (H j)) r.val x.val)
    (hqd : ∀ (j : Fin 4) (r x : Fin 128), x5 (ix3 j r x) = Ideal.exp ((flt r.val + 1) * logG (H j)))
    (hkd : ∀ (j : Fin 4) (r x : Fin 128), x6 (ix3 j r x) = Ideal.exp ((Ideal.ofBits FTy.f32 1123942400#32 - flt r.val) * logG (H j)))
    (hgt : ∀ (j : Fin 4) (r : Fin 1) (x : Fin 128), x7 (ix3 j r x) = Ideal.exp (Ideal.ofBits FTy.f32 1124073472#32 * logG (H j)))
    (hw : ∀ (j : Fin 4) (e : Fin 128), x8 (ix2 0 ⟨128 * j.val + e.val, by omega⟩) = w j e)
    (init : FVec Ideal S128x128 .f32 × FVec Ideal S128x128 .f32 × FVec Ideal S128x128 .f32 × FVec Ideal S128x128 .f32)
    (h0 : (∀ d e, init.1 (ix2 d e) = 0) ∧ (∀ d e, init.2.1 (ix2 d e) = 0) ∧ (∀ d e, init.2.2.1 (ix2 d e) = 0) ∧ (∀ d e, init.2.2.2 (ix2 d e) = 0))
    (A : S2048x512.Idx → EReal)
    (hA : ∀ (k : Fin 16) (j : Fin 4) (r e : Fin 128), A (ix2 ⟨128 * k.val + r.val, by omega⟩ ⟨128 * j.val + e.val, by omega⟩) = outp (atts z b (H j) k r) (chunk z 9216 (by decide) b (H j) k r e) (w j e) e)
    (k : ℕ) (hk16 : k ≤ 16) :
    ∀ p ∈ (ST c i arg2 harg2 arg3 harg3 arg4 harg4 arg5 harg5 arg6 harg6 arg7 harg7 arg8 harg8 arg9 harg9 arg10 harg10 arg11 harg11 arg12 harg12 x0 x1 x2 x3 x4 x5 x6 x7 x8 init k).2, ∀ x : p.1.shape.Idx, p.2 x = A (p.1.emb x) := by
  induction k with
  | zero => intro p hp; exact absurd hp List.not_mem_nil
  | succ k ih =>
    obtain ⟨i0, i1, i2, i3⟩ := carried c i arg2 harg2 arg3 harg3 arg4 harg4 arg5 harg5 arg6 harg6 arg7 harg7 arg8 harg8 arg9 harg9 arg10 harg10 arg11 harg11 arg12 harg12 x0 x1 x2 x3 x4 x5 x6 x7 x8 z b H hk hv hkd hgt init h0 k (Nat.le_of_succ_le hk16)
    have ht : k < k0_t1_loop.trips := trips ▸ hk16
    have hs := congrArg Prod.snd (st_k0_t1_succ (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) init ⟨k, ht⟩)
    have hs' := hs.trans (congrArg (· ++ _) (tripL_eq (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) ⟨k, ht⟩ _))
    rw [harg2.read_unread x0, harg3.read_unread x1, harg4.read_unread x2, harg5.read_unread x3, harg6.read_unread x4, harg7.read_unread x5, harg10.read_unread x8] at hs'
    have hs'' : (ST c i arg2 harg2 arg3 harg3 arg4 harg4 arg5 harg5 arg6 harg6 arg7 harg7 arg8 harg8 arg9 harg9 arg10 harg10 arg11 harg11 arg12 harg12 x0 x1 x2 x3 x4 x5 x6 x7 x8 init (k + 1)).2 = _ := hs'
    rw [hs'']
    intro p hp
    rcases List.mem_append.mp hp with hp | hp
    · simp only [List.mem_cons, List.not_mem_nil, or_false] at hp
      rcases hp with rfl | rfl | rfl | rfl
      · intro x
        obtain ⟨r, e, rfl⟩ : ∃ (r e : Fin 128), x = ix2 r e := ⟨x 0, x 1, eq_ix2 x⟩
        refine (out_eq _ _ _ _ _ _ _ _ (logG (H 3)) (state z b (H 3) k) (qs z b (H 3) ⟨k, hk16⟩) (ks z b (H 3) ⟨k, hk16⟩) (vs z b (H 3) ⟨k, hk16⟩) (chunk z 9216 (by decide) b (H 3) ⟨k, hk16⟩) (w 3) i3 ?_ ?_ ?_ ?_ ?_ ?_ ?_ r e).trans ((hA ⟨k, hk16⟩ 3 r e).symm.trans ?_)
        · intro r e; exact (tl_apply x0 _ _ ⟨k, hk16⟩ 3 (off4_eq ⟨k, hk16⟩ ht) r e).trans (hq _ _ _ _)
        · intro r e; exact (tl_apply x1 _ _ ⟨k, hk16⟩ 3 (off4_eq ⟨k, hk16⟩ ht) r e).trans (hk _ _ _ _)
        · intro r e; exact (tl_apply x2 _ _ ⟨k, hk16⟩ 3 (off4_eq ⟨k, hk16⟩ ht) r e).trans (hv _ _ _ _)
        · intro r e; exact (tl_apply x3 _ _ ⟨k, hk16⟩ 3 (off4_eq ⟨k, hk16⟩ ht) r e).trans (hg _ _ _ _)
        · intro r x; exact (tb_apply x4 3 _ r x).trans (hdec _ _ _)
        · intro r x; exact (tb_apply x5 3 _ r x).trans (hqd _ _ _)
        · intro e; exact (tn_apply x8 3 _ e).trans (hw _ _)
        · exact (tl_apply A _ (k0_off4_inb ⟨k, ht⟩) ⟨k, hk16⟩ 3 (off4_eq ⟨k, hk16⟩ ht) r e).symm
      · intro x
        obtain ⟨r, e, rfl⟩ : ∃ (r e : Fin 128), x = ix2 r e := ⟨x 0, x 1, eq_ix2 x⟩
        refine (out_eq _ _ _ _ _ _ _ _ (logG (H 2)) (state z b (H 2) k) (qs z b (H 2) ⟨k, hk16⟩) (ks z b (H 2) ⟨k, hk16⟩) (vs z b (H 2) ⟨k, hk16⟩) (chunk z 9216 (by decide) b (H 2) ⟨k, hk16⟩) (w 2) i2 ?_ ?_ ?_ ?_ ?_ ?_ ?_ r e).trans ((hA ⟨k, hk16⟩ 2 r e).symm.trans ?_)
        · intro r e; exact (tl_apply x0 _ _ ⟨k, hk16⟩ 2 (off3_eq ⟨k, hk16⟩ ht) r e).trans (hq _ _ _ _)
        · intro r e; exact (tl_apply x1 _ _ ⟨k, hk16⟩ 2 (off3_eq ⟨k, hk16⟩ ht) r e).trans (hk _ _ _ _)
        · intro r e; exact (tl_apply x2 _ _ ⟨k, hk16⟩ 2 (off3_eq ⟨k, hk16⟩ ht) r e).trans (hv _ _ _ _)
        · intro r e; exact (tl_apply x3 _ _ ⟨k, hk16⟩ 2 (off3_eq ⟨k, hk16⟩ ht) r e).trans (hg _ _ _ _)
        · intro r x; exact (tb_apply x4 2 _ r x).trans (hdec _ _ _)
        · intro r x; exact (tb_apply x5 2 _ r x).trans (hqd _ _ _)
        · intro e; exact (tn_apply x8 2 _ e).trans (hw _ _)
        · exact (tl_apply A _ (k0_off3_inb ⟨k, ht⟩) ⟨k, hk16⟩ 2 (off3_eq ⟨k, hk16⟩ ht) r e).symm
      · intro x
        obtain ⟨r, e, rfl⟩ : ∃ (r e : Fin 128), x = ix2 r e := ⟨x 0, x 1, eq_ix2 x⟩
        refine (out_eq _ _ _ _ _ _ _ _ (logG (H 1)) (state z b (H 1) k) (qs z b (H 1) ⟨k, hk16⟩) (ks z b (H 1) ⟨k, hk16⟩) (vs z b (H 1) ⟨k, hk16⟩) (chunk z 9216 (by decide) b (H 1) ⟨k, hk16⟩) (w 1) i1 ?_ ?_ ?_ ?_ ?_ ?_ ?_ r e).trans ((hA ⟨k, hk16⟩ 1 r e).symm.trans ?_)
        · intro r e; exact (tl_apply x0 _ _ ⟨k, hk16⟩ 1 (off2_eq ⟨k, hk16⟩ ht) r e).trans (hq _ _ _ _)
        · intro r e; exact (tl_apply x1 _ _ ⟨k, hk16⟩ 1 (off2_eq ⟨k, hk16⟩ ht) r e).trans (hk _ _ _ _)
        · intro r e; exact (tl_apply x2 _ _ ⟨k, hk16⟩ 1 (off2_eq ⟨k, hk16⟩ ht) r e).trans (hv _ _ _ _)
        · intro r e; exact (tl_apply x3 _ _ ⟨k, hk16⟩ 1 (off2_eq ⟨k, hk16⟩ ht) r e).trans (hg _ _ _ _)
        · intro r x; exact (tb_apply x4 1 _ r x).trans (hdec _ _ _)
        · intro r x; exact (tb_apply x5 1 _ r x).trans (hqd _ _ _)
        · intro e; exact (tn_apply x8 1 _ e).trans (hw _ _)
        · exact (tl_apply A _ (k0_off2_inb ⟨k, ht⟩) ⟨k, hk16⟩ 1 (off2_eq ⟨k, hk16⟩ ht) r e).symm
      · intro x
        obtain ⟨r, e, rfl⟩ : ∃ (r e : Fin 128), x = ix2 r e := ⟨x 0, x 1, eq_ix2 x⟩
        refine (out_eq _ _ _ _ _ _ _ _ (logG (H 0)) (state z b (H 0) k) (qs z b (H 0) ⟨k, hk16⟩) (ks z b (H 0) ⟨k, hk16⟩) (vs z b (H 0) ⟨k, hk16⟩) (chunk z 9216 (by decide) b (H 0) ⟨k, hk16⟩) (w 0) i0 ?_ ?_ ?_ ?_ ?_ ?_ ?_ r e).trans ((hA ⟨k, hk16⟩ 0 r e).symm.trans ?_)
        · intro r e; exact (tl_apply x0 _ _ ⟨k, hk16⟩ 0 (off1_eq ⟨k, hk16⟩ ht) r e).trans (hq _ _ _ _)
        · intro r e; exact (tl_apply x1 _ _ ⟨k, hk16⟩ 0 (off1_eq ⟨k, hk16⟩ ht) r e).trans (hk _ _ _ _)
        · intro r e; exact (tl_apply x2 _ _ ⟨k, hk16⟩ 0 (off1_eq ⟨k, hk16⟩ ht) r e).trans (hv _ _ _ _)
        · intro r e; exact (tl_apply x3 _ _ ⟨k, hk16⟩ 0 (off1_eq ⟨k, hk16⟩ ht) r e).trans (hg _ _ _ _)
        · intro r x; exact (tb_apply x4 0 _ r x).trans (hdec _ _ _)
        · intro r x; exact (tb_apply x5 0 _ r x).trans (hqd _ _ _)
        · intro e; exact (tn_apply x8 0 _ e).trans (hw _ _)
        · exact (tl_apply A _ (k0_off1_inb ⟨k, ht⟩) ⟨k, hk16⟩ 0 (off1_eq ⟨k, hk16⟩ ht) r e).symm
    · exact ih (Nat.le_of_succ_le hk16) p hp

end Loop

end Cert.RetentionIdeal.Result
end
-- ==== Proof.RetentionBlocks.lean ====
/- What the retention kernel's windows hold at a grid point: for one sequence and four heads, the queries, keys,
   values and gates, the decay tables of those heads, and the scale of the normalisation. -/
module

public import proofs.«01_k».proof.Proof.Gen.RetentionIdeal.Value
public import proofs.«01_k».proof.Proof.RetentionSpec
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.RetentionIdeal.Blocks

open Cert.RetentionSpec Cert.RetentionIdeal Cert.RetentionIdeal.Gen

variable (m : (ℓ : Loc nD τ sig) → Buf (Elt Ideal) ℓ)

/-- Which block of its array each window of the call takes at a grid point, decided over all the points. -/
theorem idx : ∀ t : Fin cfg0.N,
    win0_0.index t = ![(grid0.coords t 0).val, 12 + (grid0.coords t 1).val]
      ∧ win0_1.index t = ![(grid0.coords t 0).val, 14 + (grid0.coords t 1).val]
      ∧ win0_2.index t = ![(grid0.coords t 0).val, 16 + (grid0.coords t 1).val]
      ∧ win0_3.index t = ![(grid0.coords t 0).val, 18 + (grid0.coords t 1).val]
      ∧ win0_4.index t = ![(grid0.coords t 1).val, 0, 0]
      ∧ win0_5.index t = ![(grid0.coords t 1).val, 0, 0]
      ∧ win0_6.index t = ![(grid0.coords t 1).val, 0, 0]
      ∧ win0_7.index t = ![(grid0.coords t 1).val, 0, 0]
      ∧ win0_8.index t = ![0, (grid0.coords t 1).val]
      ∧ win0_9.index t = ![(grid0.coords t 0).val, (grid0.coords t 1).val]
      ∧ win0_10.index t = ![(grid0.coords t 0).val, (grid0.coords t 1).val, 0, 0] :=
  (by decide +kernel : ∀ t : Fin grid0.N, _)

/-- The sequence of a grid point. -/
def sq (t : Fin cfg0.N) : Fin 4 := ⟨(grid0.coords t 0).val, (grid0.coords t 0).isLt⟩

/-- The `j`-th head of a grid point. -/
def hd (t : Fin cfg0.N) (j : Fin 4) : Fin 8 := ⟨4 * (grid0.coords t 1).val + j.val, by
  have : (grid0.coords t 1).val < 2 := (grid0.coords t 1).isLt
  omega⟩

/-- The projections. -/
abbrev zed (c : Dev nD) : (⟨2, ![8192, 16384]⟩ : Shape).Idx → EReal := m ((c : Thread nD τ).loc main_arg0)

/-- A chunk of queries. -/
theorem tile_q (c : Dev nD) (t : Fin cfg0.N) (k : Fin 16) (j : Fin 4) (r e : Fin 128) :
    (iblk m c 0 t : S2048x512.Idx → EReal) (ix2 ⟨128 * k.val + r.val, by omega⟩ ⟨128 * j.val + e.val, by omega⟩) = qs (zed m c) (sq t) (hd t j) k r e := by
  unfold qs chunk sq hd
  blk_point [iblk, V, idx t]

/-- A chunk of keys. -/
theorem tile_k (c : Dev nD) (t : Fin cfg0.N) (k : Fin 16) (j : Fin 4) (r e : Fin 128) :
    (iblk m c 1 t : S2048x512.Idx → EReal) (ix2 ⟨128 * k.val + r.val, by omega⟩ ⟨128 * j.val + e.val, by omega⟩) = ks (zed m c) (sq t) (hd t j) k r e := by
  unfold ks chunk sq hd
  blk_point [iblk, V, idx t]

/-- A chunk of values. -/
theorem tile_v (c : Dev nD) (t : Fin cfg0.N) (k : Fin 16) (j : Fin 4) (r e : Fin 128) :
    (iblk m c 2 t : S2048x512.Idx → EReal) (ix2 ⟨128 * k.val + r.val, by omega⟩ ⟨128 * j.val + e.val, by omega⟩) = vs (zed m c) (sq t) (hd t j) k r e := by
  unfold vs chunk sq hd
  blk_point [iblk, V, idx t]

/-- A chunk of gates. -/
theorem tile_g (c : Dev nD) (t : Fin cfg0.N) (k : Fin 16) (j : Fin 4) (r e : Fin 128) :
    (iblk m c 3 t : S2048x512.Idx → EReal) (ix2 ⟨128 * k.val + r.val, by omega⟩ ⟨128 * j.val + e.val, by omega⟩) = chunk (zed m c) 9216 (by decide) (sq t) (hd t j) k r e := by
  unfold chunk sq hd
  blk_point [iblk, V, idx t]

/-- A row's number is below 128. -/
theorem lt128 (r : Fin 128) : FloatOps.sitofp (F := Ideal) FTy.f32 (BitVec.ofNat 32 r.val) < (Ideal.ofBits FTy.f32 1124073472#32 : EReal) := by
  have h : (Ideal.ofBits FTy.f32 1124073472#32 : EReal) = ((128 : ℝ) : EReal) := by
    simp [Ideal.ofBits, Ideal.ieee, -EReal.coe_mul]; norm_num
  rw [h]
  show (((BitVec.ofNat 32 r.val).toInt : ℝ) : EReal) < _
  have hw : ∀ n : Fin 128, (BitVec.ofNat 32 n.val).toInt = (n.val : Int) := by decide
  rw [hw r]
  have hr : (r.val : ℝ) < 128 := by exact_mod_cast r.isLt
  exact_mod_cast hr

/-- The decay within a chunk, as the host lays it out. -/
theorem V_main_v32 (c : Dev nD) (h : Fin 8) (r x : Fin 128) : (V m c main_v32 : S8x128x128.Idx → EReal) (ix3 h r x) = weight (logG h) r.val x.val := by
  dsimp only [V]
  simp only [List.flatten_cons, List.flatten_nil, List.append_nil]
  after_reads_simp
  simp only [StableHlo.TRef.ofBuf_toBuf, StableHlo.TRef.toBuf, StableHlo.TRef.ofBuf, cast_eq, id_eq]
  pointwise []
  have h1 := lt128 r
  have h2 := lt128 x
  rw [decide_eq_true h1, decide_eq_true h2]
  rfl

/-- The decay of the queries. -/
theorem V_main_v55 (c : Dev nD) (h : Fin 8) (r x : Fin 128) : (V m c main_v55 : S8x128x128.Idx → EReal) (ix3 h r x) = Ideal.exp ((flt r.val + 1) * logG h) := by
  dsimp only [V]
  simp only [List.flatten_cons, List.flatten_nil, List.append_nil]
  after_reads_simp
  pointwise []
  rfl

/-- The decay of the keys. -/
theorem V_main_v57 (c : Dev nD) (h : Fin 8) (r x : Fin 128) : (V m c main_v57 : S8x128x128.Idx → EReal) (ix3 h r x) = Ideal.exp ((Ideal.ofBits FTy.f32 1123942400#32 - flt r.val) * logG h) := by
  dsimp only [V]
  simp only [List.flatten_cons, List.flatten_nil, List.append_nil]
  after_reads_simp
  simp only [StableHlo.TRef.ofBuf_toBuf, StableHlo.TRef.toBuf, StableHlo.TRef.ofBuf, cast_eq, id_eq]
  pointwise []
  rw [if_pos (lt128 r)]
  rfl

/-- The decay over a chunk. -/
theorem V_main_v60 (c : Dev nD) (h : Fin 8) (r : Fin 1) (x : Fin 128) : (V m c main_v60 : S8x1x128.Idx → EReal) (ix3 h r x) = Ideal.exp (Ideal.ofBits FTy.f32 1124073472#32 * logG h) := by
  dsimp only [V]
  simp only [List.flatten_cons, List.flatten_nil, List.append_nil]
  after_reads_simp
  pointwise []
  rfl

/-- The normalisation's scale. -/
theorem V_main_v61 (c : Dev nD) (x : Fin 1024) : (V m c main_v61 : S1x1024.Idx → EReal) (ix2 0 x) = (m ((c : Thread nD τ).loc main_arg1) : S1024.Idx → EReal) (ix1 x) := by
  dsimp only [V]
  simp only [List.flatten_cons, List.flatten_nil, List.append_nil]
  after_reads_simp
  show shapeCast S1x1024 (m (c, Proc.devRef .tc main_arg1) : S1024.Idx → EReal) shapeCasts_S1024_S1x1024 (ix2 0 x) = _
  pointwise []

/-- Where a block of the decay table lies. -/
theorem emb4 (t : Fin cfg0.N) (j : Fin 4) (r x : Fin 128) : (win0_4.blk t).view.emb (ix3 j r x) = ix3 (hd t j) r x := by
  unfold hd
  blk_point [idx t]

/-- The decay of a head at a grid point. -/
theorem decay (c : Dev nD) (t : Fin cfg0.N) (j : Fin 4) (r x : Fin 128) : (iblk m c 4 t : S4x128x128.Idx → EReal) (ix3 j r x) = weight (logG (hd t j)) r.val x.val := by
  show V m c main_v32 ((win0_4.blk t).view.emb (ix3 j r x)) = _
  rw [emb4]
  exact V_main_v32 m c (hd t j) r x

/-- Where a block of the queries' decay lies. -/
theorem emb5 (t : Fin cfg0.N) (j : Fin 4) (r x : Fin 128) : (win0_5.blk t).view.emb (ix3 j r x) = ix3 (hd t j) r x := by
  unfold hd
  blk_point [idx t]

/-- The queries' decay of a head at a grid point. -/
theorem qdecay (c : Dev nD) (t : Fin cfg0.N) (j : Fin 4) (r x : Fin 128) : (iblk m c 5 t : S4x128x128.Idx → EReal) (ix3 j r x) = Ideal.exp ((flt r.val + 1) * logG (hd t j)) := by
  show V m c main_v55 ((win0_5.blk t).view.emb (ix3 j r x)) = _
  rw [emb5]
  exact V_main_v55 m c (hd t j) r x

/-- Where a block of the keys' decay lies. -/
theorem emb6 (t : Fin cfg0.N) (j : Fin 4) (r x : Fin 128) : (win0_6.blk t).view.emb (ix3 j r x) = ix3 (hd t j) r x := by
  unfold hd
  blk_point [idx t]

/-- The keys' decay of a head at a grid point. -/
theorem kdecay (c : Dev nD) (t : Fin cfg0.N) (j : Fin 4) (r x : Fin 128) : (iblk m c 6 t : S4x128x128.Idx → EReal) (ix3 j r x) = Ideal.exp ((Ideal.ofBits FTy.f32 1123942400#32 - flt r.val) * logG (hd t j)) := by
  show V m c main_v57 ((win0_6.blk t).view.emb (ix3 j r x)) = _
  rw [emb6]
  exact V_main_v57 m c (hd t j) r x

/-- Where a block of the chunk's decay lies. -/
theorem emb7 (t : Fin cfg0.N) (j : Fin 4) (r : Fin 1) (x : Fin 128) : (win0_7.blk t).view.emb (ix3 j r x) = ix3 (hd t j) r x := by
  unfold hd
  blk_point [idx t]

/-- The chunk's decay of a head at a grid point. -/
theorem gdecay (c : Dev nD) (t : Fin cfg0.N) (j : Fin 4) (r : Fin 1) (x : Fin 128) : (iblk m c 7 t : S4x1x128.Idx → EReal) (ix3 j r x) = Ideal.exp (Ideal.ofBits FTy.f32 1124073472#32 * logG (hd t j)) := by
  show V m c main_v60 ((win0_7.blk t).view.emb (ix3 j r x)) = _
  rw [emb7]
  exact V_main_v60 m c (hd t j) r x

/-- Where a block of the scale lies. -/
theorem emb8 (t : Fin cfg0.N) (j : Fin 4) (e : Fin 128) : (win0_8.blk t).view.emb (ix2 0 ⟨128 * j.val + e.val, by omega⟩) = ix2 0 ⟨(hd t j).val * 128 + e.val, by omega⟩ := by
  unfold hd
  blk_point [idx t]

/-- The scale of a head at a grid point. -/
theorem scale (c : Dev nD) (t : Fin cfg0.N) (j : Fin 4) (e : Fin 128) :
    (iblk m c 8 t : S1x512.Idx → EReal) (ix2 0 ⟨128 * j.val + e.val, by omega⟩)
      = (m ((c : Thread nD τ).loc main_arg1) : S1024.Idx → EReal) (ix1 ⟨(hd t j).val * 128 + e.val, by omega⟩) := by
  show V m c main_v61 ((win0_8.blk t).view.emb (ix2 0 ⟨128 * j.val + e.val, by omega⟩)) = _
  rw [emb8]
  exact V_main_v61 m c _

end Cert.RetentionIdeal.Blocks
end
-- ==== Proof.RetentionResult.lean ====
/- The retention kernel's two result arrays: whatever array holds the gated, normalised outputs of every sequence and
   head is the first, and whatever array holds the states after the last chunk is the second. -/
module

public import proofs.«01_k».proof.Proof.RetentionState
public import proofs.«01_k».proof.Proof.RetentionBlocks

@[expose] public section

set_option maxRecDepth 16384

noncomputable section

open Idealize.ShloMosaic Idealize.ShloMosaic.TcCoe Idealize.SL.Sem

namespace Cert.RetentionIdeal.Result

open Cert.RetentionSpec Cert.RetentionIdeal Cert.RetentionIdeal.Gen Cert.RetentionIdeal.Blocks

variable (m : (ℓ : Loc nD τ sig) → Buf (Elt Ideal) ℓ)

/-- The scale of one column of a head. -/
abbrev scl (c : Dev nD) (h : Fin 8) (e : Fin 128) : EReal :=
  (m ((c : Thread nD τ).loc main_arg1) : S1024.Idx → EReal) (ix1 ⟨h.val * 128 + e.val, by omega⟩)

/-- Where a tile of the output block lies. -/
theorem emb9 (t : Fin cfg0.N) (k : Fin 16) (j : Fin 4) (r e : Fin 128) :
    (win0_9.blk t).view.emb (ix2 ⟨128 * k.val + r.val, by omega⟩ ⟨128 * j.val + e.val, by omega⟩)
      = ix2 ⟨(Blocks.sq t).val * 2048 + k.val * 128 + r.val, by omega⟩ ⟨(hd t j).val * 128 + e.val, by omega⟩ := by
  unfold hd Blocks.sq
  blk_point [idx t]

/-- Where a state lies. -/
theorem emb10 (t : Fin cfg0.N) (j : Fin 4) (d e : Fin 128) :
    (win0_10.blk t).view.emb (ix4 0 j d e) = ix4 (Blocks.sq t) (hd t j) d e := by
  unfold hd Blocks.sq
  blk_point [idx t]

/-- The carried values start at zero. -/
theorem zero_init : (∀ d e, (k0_pay1 (F := Ideal)) (ix2 d e) = 0) ∧ (∀ d e, (k0_pay2 (F := Ideal)) (ix2 d e) = 0)
    ∧ (∀ d e, (k0_pay3 (F := Ideal)) (ix2 d e) = 0) ∧ (∀ d e, (k0_pay4 (F := Ideal)) (ix2 d e) = 0) := by
  have hz : Ideal.ofBits FTy.f32 0#32 = 0 := by simp [Ideal.ofBits, Ideal.ieee]
  exact ⟨fun _ _ => hz, fun _ _ => hz, fun _ _ => hz, fun _ _ => hz⟩

/-- What a point stores of the output. -/
theorem point9 (c : Dev nD) (t : Fin cfg0.N) (A : S2048x512.Idx → EReal)
    (hA : ∀ (k : Fin 16) (j : Fin 4) (r e : Fin 128), A (ix2 ⟨128 * k.val + r.val, by omega⟩ ⟨128 * j.val + e.val, by omega⟩)
      = outp (atts (zed m c) (Blocks.sq t) (hd t j) k r) (chunk (zed m c) 9216 (by decide) (Blocks.sq t) (hd t j) k r e) (scl m c (hd t j) e) e)
    (y : S2048x512.Idx) : (outsAt0 m c t).1 y = A y := by
  unfold outsAt0
  refine View.read_writes_apply_of_pieces VO0_9 VO0_9.junk A _ ?_ y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) y)
  unfold kernelRun0_A
  exact stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (zed m c) (Blocks.sq t) (hd t) (fun j e => scl m c (hd t j) e)
    (tile_q m c t) (tile_k m c t) (tile_v m c t) (tile_g m c t) (decay m c t) (qdecay m c t) (kdecay m c t) (gdecay m c t)
    (scale m c t) _ zero_init A hA 16 (Nat.le_refl 16)

/-- The state of head 0 of a point, as it is stored. -/
theorem put0 (S : FVec Ideal S128x128 .f32) (a b : Fin 1) (d e : Fin 128) : k0_pay6 S (ix4 a b d e) = S (ix2 d e) := by
  pointwise [k0_pay6]

/-- The state of head 1 of a point, as it is stored. -/
theorem put1 (S : FVec Ideal S128x128 .f32) (a b : Fin 1) (d e : Fin 128) : k0_pay7 S (ix4 a b d e) = S (ix2 d e) := by
  pointwise [k0_pay7]

/-- The state of head 2 of a point, as it is stored. -/
theorem put2 (S : FVec Ideal S128x128 .f32) (a b : Fin 1) (d e : Fin 128) : k0_pay8 S (ix4 a b d e) = S (ix2 d e) := by
  pointwise [k0_pay8]

/-- The state of head 3 of a point, as it is stored. -/
theorem put3 (S : FVec Ideal S128x128 .f32) (a b : Fin 1) (d e : Fin 128) : k0_pay9 S (ix4 a b d e) = S (ix2 d e) := by
  pointwise [k0_pay9]

/-- What a point stores of the states. -/
theorem point10 (c : Dev nD) (t : Fin cfg0.N) (A : S1x4x128x128.Idx → EReal)
    (hA : ∀ (j : Fin 4) (d e : Fin 128), A (ix4 0 j d e) = state (zed m c) (Blocks.sq t) (hd t j) 16 d e)
    (y : S1x4x128x128.Idx) : (outsAt0 m c t).2 y = A y := by
  unfold outsAt0
  dsimp only
  unfold out0_A_10
  refine View.read_writes_apply_of_pieces VO0_10 VO0_10.junk A (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t)).2.1 ?_ y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) y)
  unfold kernelRun0_A
  obtain ⟨i0, i1, i2, i3⟩ := carried c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (zed m c) (Blocks.sq t) (hd t)
    (tile_k m c t) (tile_v m c t) (kdecay m c t) (gdecay m c t) (k0_pay1, k0_pay2, k0_pay3, k0_pay4) zero_init 16 (Nat.le_refl 16)
  intro p hp
  simp only [List.mem_cons, List.not_mem_nil, or_false] at hp
  rcases hp with rfl | rfl | rfl | rfl
  · intro x
    obtain ⟨a, b, d, e, rfl⟩ : ∃ (a b : Fin 1) (d e : Fin 128), x = ix4 a b d e := ⟨x 0, x 1, x 2, x 3, eq_ix4 x⟩
    refine (put3 _ a b d e).trans ((i3 d e).trans ((hA 3 d e).symm.trans (congrArg A ?_)))
    obtain rfl : a = 0 := Subsingleton.elim _ _
    obtain rfl : b = 0 := Subsingleton.elim _ _
    funext w
    refine Fin.ext ?_
    match w with
    | 0 => rfl
    | 1 => rfl
    | 2 => exact ((Nat.zero_add _).trans (Nat.one_mul _)).symm
    | 3 => exact ((Nat.zero_add _).trans (Nat.one_mul _)).symm
  · intro x
    obtain ⟨a, b, d, e, rfl⟩ : ∃ (a b : Fin 1) (d e : Fin 128), x = ix4 a b d e := ⟨x 0, x 1, x 2, x 3, eq_ix4 x⟩
    refine (put2 _ a b d e).trans ((i2 d e).trans ((hA 2 d e).symm.trans (congrArg A ?_)))
    obtain rfl : a = 0 := Subsingleton.elim _ _
    obtain rfl : b = 0 := Subsingleton.elim _ _
    funext w
    refine Fin.ext ?_
    match w with
    | 0 => rfl
    | 1 => rfl
    | 2 => exact ((Nat.zero_add _).trans (Nat.one_mul _)).symm
    | 3 => exact ((Nat.zero_add _).trans (Nat.one_mul _)).symm
  · intro x
    obtain ⟨a, b, d, e, rfl⟩ : ∃ (a b : Fin 1) (d e : Fin 128), x = ix4 a b d e := ⟨x 0, x 1, x 2, x 3, eq_ix4 x⟩
    refine (put1 _ a b d e).trans ((i1 d e).trans ((hA 1 d e).symm.trans (congrArg A ?_)))
    obtain rfl : a = 0 := Subsingleton.elim _ _
    obtain rfl : b = 0 := Subsingleton.elim _ _
    funext w
    refine Fin.ext ?_
    match w with
    | 0 => rfl
    | 1 => rfl
    | 2 => exact ((Nat.zero_add _).trans (Nat.one_mul _)).symm
    | 3 => exact ((Nat.zero_add _).trans (Nat.one_mul _)).symm
  · intro x
    obtain ⟨a, b, d, e, rfl⟩ : ∃ (a b : Fin 1) (d e : Fin 128), x = ix4 a b d e := ⟨x 0, x 1, x 2, x 3, eq_ix4 x⟩
    refine (put0 _ a b d e).trans ((i0 d e).trans ((hA 0 d e).symm.trans (congrArg A ?_)))
    obtain rfl : a = 0 := Subsingleton.elim _ _
    obtain rfl : b = 0 := Subsingleton.elim _ _
    funext w
    refine Fin.ext ?_
    match w with
    | 0 => rfl
    | 1 => rfl
    | 2 => exact ((Nat.zero_add _).trans (Nat.one_mul _)).symm
    | 3 => exact ((Nat.zero_add _).trans (Nat.one_mul _)).symm

/-- After the call the first result is any array that holds the gated, normalised outputs. -/
theorem final9 (c : Dev nD) (A : S8192x1024.Idx → EReal)
    (hA : ∀ (b : Fin 4) (k : Fin 16) (r : Fin 128) (h : Fin 8) (e : Fin 128),
      A (ix2 ⟨b.val * 2048 + k.val * 128 + r.val, by omega⟩ ⟨h.val * 128 + e.val, by omega⟩)
        = outp (atts (zed m c) b h k r) (chunk (zed m c) 9216 (by decide) b h k r e) (scl m c h e) e) :
    (dats m 0 c).arrAt 9 (cfgs 0).N = A := by
  refine (dats m 0 c).arrAt_eq_of_covers 9 _ (by decide +kernel) fun t _ y => ?_
  blk_simp
  rw [after0_9]
  exact point9 m c t (fun y => A ((win0_9.blk t).view.emb y)) (fun k j r e => (congrArg A (emb9 t k j r e)).trans (hA _ _ _ _ _)) y

/-- After the call the second result is any array that holds the states after the last chunk. -/
theorem final10 (c : Dev nD) (A : S4x8x128x128.Idx → EReal)
    (hA : ∀ (b : Fin 4) (h : Fin 8) (d e : Fin 128), A (ix4 b h d e) = state (zed m c) b h 16 d e) :
    (dats m 0 c).arrAt 10 (cfgs 0).N = A := by
  refine (dats m 0 c).arrAt_eq_of_covers 10 _ (by decide +kernel) fun t _ y => ?_
  blk_simp
  rw [after0_10]
  exact point10 m c t (fun y => A ((win0_10.blk t).view.emb y)) (fun j d e => (congrArg A (emb10 t j d e)).trans (hA _ _ _ _)) y

end Cert.RetentionIdeal.Result

end
-- ==== Proof.RetentionScan.lean ====
/- The reference's scan over the sixteen chunks of a sequence, read entry by entry: what one trip makes of the
   states and of the stacked outputs, and what the arrays the loop carries hold before each trip. -/
module

public import proofs.«01_k».proof.Proof.Gen.RetentionRefIdeal.Run
public import proofs.«01_k».proof.Proof.RetentionSpec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.RetentionRefIdeal.Scan

open Cert.RetentionSpec Cert.RetentionRefIdeal Cert.RetentionRefIdeal.Gen Cert.RetentionRefIdeal.Value

/-- The carried arrays: queries, keys and values by chunk, the decay's logarithm, the states and the outputs. -/
abbrev aQ (X : Valuation τ sig (Elt Ideal)) : S16x4x128x8x128.Idx → EReal := X (Proc.devRef .tc main_v22_0)
abbrev aK (X : Valuation τ sig (Elt Ideal)) : S16x4x128x8x128.Idx → EReal := X (Proc.devRef .tc main_v22_1)
abbrev aV (X : Valuation τ sig (Elt Ideal)) : S16x4x128x8x128.Idx → EReal := X (Proc.devRef .tc main_v22_2)
abbrev aL (X : Valuation τ sig (Elt Ideal)) : S8.Idx → EReal := X (Proc.devRef .tc main_v22_3)
abbrev aS (X : Valuation τ sig (Elt Ideal)) : S4x8x128x128.Idx → EReal := X (Proc.devRef .tc main_v22_5)
abbrev aO (X : Valuation τ sig (Elt Ideal)) : S16x4x128x8x128.Idx → EReal := X (Proc.devRef .tc main_v22_6)

section Trip

variable (X : Valuation τ sig (Elt Ideal)) (n : Fin 16)

theorem word : ∀ n : Fin 16, (BitVec.ofNat 32 n.val).toInt = (n.val : Int) := by decide

theorem start (hn : X (Proc.devRef .tc main_v22_4) = fun _ => BitVec.ofNat 32 n.val) (a : Fin 5) :
    (((![X (Proc.devRef .tc main_v22_4), constantI S_ 32 0#32, constantI S_ 32 0#32, constantI S_ 32 0#32, constantI S_ 32 0#32] : Fin 5 → (⟨S_, .i32⟩ : BufTy).Contents (Elt Ideal))) a (Shape.Idx.first h_S_)).toInt
      = ((![n.val, 0, 0, 0, 0] : Fin 5 → ℕ) a : Int) := by
  rw [hn]
  match a with
  | 0 => exact word n
  | 1 => rfl
  | 2 => rfl
  | 3 => rfl
  | 4 => rfl

theorem fits : S16x4x128x8x128.Slices ![n.val, 0, 0, 0, 0] S1x4x128x8x128 := by
  revert n; decide

/-- A chunk cut out at a start that is the trip's number. -/
theorem take {α : Type} (x : S16x4x128x8x128.Idx → α) (st : Fin S16x4x128x8x128.rank → Int) (h : S16x4x128x8x128.Slices (fun _ => 0) S1x4x128x8x128)
    (hs : ∀ a : Fin 5, st a = ((![n.val, 0, 0, 0, 0] : Fin 5 → ℕ) a : Int)) :
    Host.dynamicSlice S1x4x128x8x128 x st h = extractStridedSlice S1x4x128x8x128 ![n.val, 0, 0, 0, 0] x (fits n) :=
  WordCmp.dynamicSlice_eq_extract _ x st h _ (fits n) hs

/-- A chunk put in at a start that is the trip's number. -/
theorem put {α : Type} (x : S16x4x128x8x128.Idx → α) (u : S1x4x128x8x128.Idx → α) (st : Fin S16x4x128x8x128.rank → Int) (h : S16x4x128x8x128.Slices (fun _ => 0) S1x4x128x8x128)
    (hs : ∀ a : Fin 5, st a = ((![n.val, 0, 0, 0, 0] : Fin 5 → ℕ) a : Int)) :
    Host.dynamicUpdateSlice x u st h = updateSlice x u ![n.val, 0, 0, 0, 0] (fits n) :=
  WordCmp.dynamicUpdateSlice_eq_update x u st h _ (fits n) hs

/-- The chunk put in reads back at its own number; -/
theorem put_same {α : Type} (x : S16x4x128x8x128.Idx → α) (u : S1x4x128x8x128.Idx → α) (st : Fin S16x4x128x8x128.rank → Int) (h : S16x4x128x8x128.Slices (fun _ => 0) S1x4x128x8x128)
    (hs : ∀ a : Fin 5, st a = ((![n.val, 0, 0, 0, 0] : Fin 5 → ℕ) a : Int)) (b : Fin 4) (r : Fin 128) (k : Fin 8) (e : Fin 128) :
    Host.dynamicUpdateSlice x u st h (ix5 n b r k e) = u (ix5 0 b r k e) := by
  rw [put n x u st h hs]
  pointwise []
  rw [dif_pos ⟨le_rfl, Nat.lt_succ_self _⟩]
  congr 2
  exact Fin.ext (Nat.sub_self _)

/-- every other chunk is as it was. -/
theorem put_other {α : Type} (x : S16x4x128x8x128.Idx → α) (u : S1x4x128x8x128.Idx → α) (st : Fin S16x4x128x8x128.rank → Int) (h : S16x4x128x8x128.Slices (fun _ => 0) S1x4x128x8x128)
    (hs : ∀ a : Fin 5, st a = ((![n.val, 0, 0, 0, 0] : Fin 5 → ℕ) a : Int)) (n' : Fin 16) (hne : n' ≠ n) (b : Fin 4) (r : Fin 128) (k : Fin 8) (e : Fin 128) :
    Host.dynamicUpdateSlice x u st h (ix5 n' b r k e) = x (ix5 n' b r k e) := by
  rw [put n x u st h hs]
  pointwise []
  rw [dif_neg fun hc => hne (Fin.ext (Nat.le_antisymm (Nat.lt_succ_iff.mp hc.2) hc.1))]

variable (hn : X (Proc.devRef .tc main_v22_4) = fun _ => BitVec.ofNat 32 n.val)
include hn

/-- The chunk of queries a trip reads. -/
theorem chunk_q (b : Fin 4) (r : Fin 128) (h : Fin 8) (e : Fin 128) :
    res_main_while0b_v51 X (ix4 b r h e) = X (Proc.devRef .tc main_v22_0) (ix5 n b r h e) := by
  unfold res_main_while0b_v51
  rw [take n]
  · pointwise []
  · exact start X n hn

/-- The chunk of keys a trip reads. -/
theorem chunk_k (b : Fin 4) (r : Fin 128) (h : Fin 8) (e : Fin 128) :
    res_main_while0b_v52 X (ix4 b r h e) = X (Proc.devRef .tc main_v22_1) (ix5 n b r h e) := by
  unfold res_main_while0b_v52
  rw [take n]
  · pointwise []
  · exact start X n hn

/-- The chunk of values a trip reads. -/
theorem chunk_v (b : Fin 4) (r : Fin 128) (h : Fin 8) (e : Fin 128) :
    res_main_while0b_v53 X (ix4 b r h e) = X (Proc.devRef .tc main_v22_2) (ix5 n b r h e) := by
  unfold res_main_while0b_v53
  rw [take n]
  · pointwise []
  · exact start X n hn

/-- A trip's new state. -/
theorem trip_state (b : Fin 4) (h : Fin 8) (d e : Fin 128) : step_main_v22_5 X (ix4 b h d e) =
    newS (aL X (ix1 h)) (fun d e => aS X (ix4 b h d e)) (fun r e => aK X (ix5 n b r h e)) (fun r e => aV X (ix5 n b r h e)) d e := by
  simp only [step_main_v22_5, id_eq]
  pointwise [res_main_while0b_v54]
  simp only [chunk_k X n hn, chunk_v X n hn]
  rfl

/-- A trip leaves the other chunks' outputs alone. -/
theorem trip_other (n' : Fin 16) (hne : n' ≠ n) (b : Fin 4) (r : Fin 128) (h : Fin 8) (e : Fin 128) :
    step_main_v22_6 X (ix5 n' b r h e) = X (Proc.devRef .tc main_v22_6) (ix5 n' b r h e) := by
  simp only [step_main_v22_6, id_eq]
  rw [put_other n]
  · exact start X n hn
  · exact hne

/-- A trip's own chunk of outputs. -/
theorem trip_out (b : Fin 4) (r : Fin 128) (h : Fin 8) (e : Fin 128) : step_main_v22_6 X (ix5 n b r h e) =
    att (aL X (ix1 h)) (fun d e => aS X (ix4 b h d e)) (fun r e => aQ X (ix5 n b r h e)) (fun r e => aK X (ix5 n b r h e)) (fun r e => aV X (ix5 n b r h e)) r e := by
  simp only [step_main_v22_6, id_eq]
  rw [put_same n]
  · pointwise [res_main_while0b_v54, res_main_while0b_v59]
    simp only [chunk_k X n hn, chunk_v X n hn, chunk_q X n hn]
    unfold att weight
    congr 1
    · exact Finset.sum_congr rfl fun x _ => mul_comm _ _
    · congr 1
      exact Finset.sum_congr rfl fun x _ => mul_comm _ _
  · exact start X n hn

end Trip

variable (m : (ℓ : Loc nD τ sig) → Buf (Elt Ideal) ℓ) (c : Dev nD)

/-- The carried arrays before trip `k`. -/
abbrev before (k : ℕ) : Valuation τ sig (Elt Ideal) := STEP^[k] (StableHlo.entryContents preI m c)

/-- The projections the reference is given. -/
abbrev zed : (⟨2, ![8192, 16384]⟩ : Shape).Idx → EReal := m ((c.tc : Thread nD τ).loc main_arg0)

theorem before_succ (k : ℕ) : before m c (k + 1) = STEP (before m c k) := Function.iterate_succ_apply' _ _ _

/-- A stretch of columns laid out by chunk. -/
theorem cut_q (z : (⟨2, ![8192, 16384]⟩ : Shape).Idx → EReal) (n : Fin 16) (b : Fin 4) (r : Fin 128) (h : Fin 8) (e : Fin 128) :
    transpose S16x4x128x8x128 [1, 0, 2, 3, 4] (shapeCast S4x16x128x8x128 (shapeCast S4x2048x8x128 (extractStridedSlice S8192x1024 ![0, 6144] z slices_S8192x16384_S8192x1024_0_6144) shapeCasts_S8192x1024_S4x2048x8x128) shapeCasts_S4x2048x8x128_S4x16x128x8x128) transposes_S4x16x128x8x128_S16x4x128x8x128_1_0_2_3_4 (ix5 n b r h e) = qs z b h n r e := by
  pointwise []
  rfl

/-- The queries at the loop's entry. -/
theorem entry_q (n : Fin 16) (b : Fin 4) (r : Fin 128) (h : Fin 8) (e : Fin 128) :
    aQ (before m c 0) (ix5 n b r h e) = qs (zed m c) b h n r e := by
  simp only [before, Function.iterate_zero, id_eq, aQ, StableHlo.entryContents, StableHlo.afterL_cons, StableHlo.afterL_nil]
  after_reads_simp
  exact cut_q _ n b r h e

/-- A stretch of columns laid out by chunk. -/
theorem cut_k (z : (⟨2, ![8192, 16384]⟩ : Shape).Idx → EReal) (n : Fin 16) (b : Fin 4) (r : Fin 128) (h : Fin 8) (e : Fin 128) :
    transpose S16x4x128x8x128 [1, 0, 2, 3, 4] (shapeCast S4x16x128x8x128 (shapeCast S4x2048x8x128 (extractStridedSlice S8192x1024 ![0, 7168] z slices_S8192x16384_S8192x1024_0_7168) shapeCasts_S8192x1024_S4x2048x8x128) shapeCasts_S4x2048x8x128_S4x16x128x8x128) transposes_S4x16x128x8x128_S16x4x128x8x128_1_0_2_3_4 (ix5 n b r h e) = ks z b h n r e := by
  pointwise []
  rfl

/-- The keys at the loop's entry. -/
theorem entry_k (n : Fin 16) (b : Fin 4) (r : Fin 128) (h : Fin 8) (e : Fin 128) :
    aK (before m c 0) (ix5 n b r h e) = ks (zed m c) b h n r e := by
  simp only [before, Function.iterate_zero, id_eq, aK, StableHlo.entryContents, StableHlo.afterL_cons, StableHlo.afterL_nil]
  after_reads_simp
  exact cut_k _ n b r h e

/-- A stretch of columns laid out by chunk. -/
theorem cut_v (z : (⟨2, ![8192, 16384]⟩ : Shape).Idx → EReal) (n : Fin 16) (b : Fin 4) (r : Fin 128) (h : Fin 8) (e : Fin 128) :
    transpose S16x4x128x8x128 [1, 0, 2, 3, 4] (shapeCast S4x16x128x8x128 (shapeCast S4x2048x8x128 (extractStridedSlice S8192x1024 ![0, 8192] z slices_S8192x16384_S8192x1024_0_8192) shapeCasts_S8192x1024_S4x2048x8x128) shapeCasts_S4x2048x8x128_S4x16x128x8x128) transposes_S4x16x128x8x128_S16x4x128x8x128_1_0_2_3_4 (ix5 n b r h e) = vs z b h n r e := by
  pointwise []
  rfl

/-- The values at the loop's entry. -/
theorem entry_v (n : Fin 16) (b : Fin 4) (r : Fin 128) (h : Fin 8) (e : Fin 128) :
    aV (before m c 0) (ix5 n b r h e) = vs (zed m c) b h n r e := by
  simp only [before, Function.iterate_zero, id_eq, aV, StableHlo.entryContents, StableHlo.afterL_cons, StableHlo.afterL_nil]
  after_reads_simp
  exact cut_v _ n b r h e

/-- The decay's logarithm at the loop's entry. -/
theorem entry_l (h : Fin 8) : aL (before m c 0) (ix1 h) = logG h := by
  simp only [before, Function.iterate_zero, id_eq, aL, StableHlo.entryContents, StableHlo.afterL_cons, StableHlo.afterL_nil]
  after_reads_simp
  simp only [id_eq]
  pointwise []
  rfl

/-- The state at the loop's entry is zero. -/
theorem entry_s (b : Fin 4) (h : Fin 8) (d e : Fin 128) : aS (before m c 0) (ix4 b h d e) = 0 := by
  simp only [before, Function.iterate_zero, id_eq, aS, StableHlo.entryContents, StableHlo.afterL_cons, StableHlo.afterL_nil]
  after_reads_simp
  simp only [id_eq]
  pointwise []

/-- What the trips leave alone, and the counter. -/
theorem keep_q (k : ℕ) : aQ (before m c k) = aQ (before m c 0) := by
  induction k with
  | zero => rfl
  | succ k ih => exact (congrArg aQ (before_succ m c k)).trans ((STEP_main_v22_0 _).trans ih)

theorem keep_k (k : ℕ) : aK (before m c k) = aK (before m c 0) := by
  induction k with
  | zero => rfl
  | succ k ih => exact (congrArg aK (before_succ m c k)).trans ((STEP_main_v22_1 _).trans ih)

theorem keep_v (k : ℕ) : aV (before m c k) = aV (before m c 0) := by
  induction k with
  | zero => rfl
  | succ k ih => exact (congrArg aV (before_succ m c k)).trans ((STEP_main_v22_2 _).trans ih)

theorem keep_l (k : ℕ) : aL (before m c k) = aL (before m c 0) := by
  induction k with
  | zero => rfl
  | succ k ih => exact (congrArg aL (before_succ m c k)).trans ((STEP_main_v22_3 _).trans ih)

theorem counter (k : ℕ) : before m c k (Proc.devRef .tc main_v22_4) = fun _ => BitVec.ofNat 32 k := by
  induction k with
  | zero => exact ctr_entry m c
  | succ k ih =>
    rw [before_succ, STEP_main_v22_4]
    unfold step_main_v22_4
    rw [ih]
    funext i
    show BitVec.ofNat 32 k + 1#32 = BitVec.ofNat 32 (k + 1)
    exact (BitVec.ofNat_add k 1).symm

/-- The states before trip `k`. -/
theorem states (b : Fin 4) (h : Fin 8) (k : ℕ) (hk : k ≤ 16) : (fun d e => aS (before m c k) (ix4 b h d e)) = state (zed m c) b h k := by
  induction k with
  | zero => funext d e; exact entry_s m c b h d e
  | succ k ih =>
    have hn : (⟨k, hk⟩ : Fin 16) = Fin.ofNat 16 k := Fin.ext (Nat.mod_eq_of_lt hk).symm
    funext d e
    show aS (before m c (k + 1)) (ix4 b h d e) = newS (logG h) (state (zed m c) b h k) (ks (zed m c) b h (Fin.ofNat 16 k)) (vs (zed m c) b h (Fin.ofNat 16 k)) d e
    rw [← ih (Nat.le_of_succ_le hk), ← hn]
    refine (congrArg (fun X => aS X (ix4 b h d e)) (before_succ m c k)).trans ((congrFun (STEP_main_v22_5 _) _).trans ((trip_state (before m c k) ⟨k, hk⟩ (counter m c k) b h d e).trans ?_))
    rw [keep_l m c k, keep_k m c k, keep_v m c k, entry_l m c h]
    simp only [entry_k m c, entry_v m c]

/-- A chunk of the outputs after its own trip. -/
theorem outs (n : Fin 16) (b : Fin 4) (r : Fin 128) (h : Fin 8) (e : Fin 128) (k : ℕ) (hk : k ≤ 16) (hn : n.val < k) :
    aO (before m c k) (ix5 n b r h e) = atts (zed m c) b h n r e := by
  induction k with
  | zero => exact absurd hn (Nat.not_lt_zero _)
  | succ k ih =>
    refine (congrArg (fun X => aO X (ix5 n b r h e)) (before_succ m c k)).trans ((congrFun (STEP_main_v22_6 _) _).trans ?_)
    by_cases hnk : n.val = k
    · subst hnk
      refine (trip_out (before m c n.val) n (counter m c n.val) b r h e).trans ?_
      rw [keep_l m c n.val, keep_q m c n.val, keep_k m c n.val, keep_v m c n.val, entry_l m c h, states m c b h n.val (Nat.le_of_lt n.isLt)]
      simp only [entry_q m c, entry_k m c, entry_v m c]
    · exact (trip_other (before m c k) ⟨k, hk⟩ (counter m c k) n (fun h' => hnk (congrArg Fin.val h')) b r h e).trans
        (ih (Nat.le_of_succ_le hk) (Nat.lt_of_le_of_ne (Nat.lt_succ_iff.mp hn) hnk))

/-- The reference's states after the scan. -/
theorem ref_state (b : Fin 4) (h : Fin 8) (d e : Fin 128) : aS (before m c 16) (ix4 b h d e) = state (zed m c) b h 16 d e :=
  congrFun (congrFun (states m c b h 16 le_rfl) d) e

/-- The reference's last stretch, entry by entry. -/
theorem last (V0 : Valuation τ sig (Elt Ideal)) (b : Fin 4) (n : Fin 16) (r : Fin 128) (h : Fin 8) (e : Fin 128) :
    (out_main_v50 V0 : (⟨2, ![8192, 1024]⟩ : Shape).Idx → EReal) (ix2 ⟨b.val * 2048 + n.val * 128 + r.val, by omega⟩ ⟨h.val * 128 + e.val, by omega⟩)
      = outp (fun x => aO V0 (ix5 n b r h x)) (chunk (V0 (Proc.devRef .tc main_arg0)) 9216 (by decide) b h n r e) ((V0 (Proc.devRef .tc main_arg1) : (⟨1, ![1024]⟩ : Shape).Idx → EReal) (ix1 ⟨h.val * 128 + e.val, by omega⟩)) e := by
  pointwise [out_main_v50]
  rfl

/-- The reference's output. -/
theorem ref_out (b : Fin 4) (n : Fin 16) (r : Fin 128) (h : Fin 8) (e : Fin 128) :
    (out_main_v50 (before m c 16) : (⟨2, ![8192, 1024]⟩ : Shape).Idx → EReal) (ix2 ⟨b.val * 2048 + n.val * 128 + r.val, by omega⟩ ⟨h.val * 128 + e.val, by omega⟩)
      = outp (atts (zed m c) b h n r) (chunk (zed m c) 9216 (by decide) b h n r e) ((m ((c.tc : Thread nD τ).loc main_arg1) : (⟨1, ![1024]⟩ : Shape).Idx → EReal) (ix1 ⟨h.val * 128 + e.val, by omega⟩)) e := by
  have h0 : before m c 16 (Proc.devRef .tc main_arg0) = m ((c.tc : Thread nD τ).loc main_arg0) := iter_main_arg0 m c 16
  have h1 : before m c 16 (Proc.devRef .tc main_arg1) = m ((c.tc : Thread nD τ).loc main_arg1) := iter_main_arg1 m c 16
  have h2 : (fun x => aO (before m c 16) (ix5 n b r h x)) = atts (zed m c) b h n r := funext fun x => outs m c n b r h x 16 le_rfl n.isLt
  refine (last (before m c 16) b n r h e).trans ?_
  rw [h0, h1, h2]

end Cert.RetentionRefIdeal.Scan
end
-- ==== Proof.RetentionPair.lean ====
/- The retention kernel's result arrays are those of its reference. -/
module

public import proofs.«01_k».proof.Defs
public import proofs.«01_k».proof.Proof.RetentionResult
public import proofs.«01_k».proof.Proof.RetentionScan

@[expose] public section

set_option maxRecDepth 16384

noncomputable section

open Idealize.ShloMosaic Idealize.SL.Sem

namespace Cert.RetentionIdeal.Result

open Cert.RetentionSpec

variable (m : (ℓ : Loc RetentionIdeal.nD RetentionIdeal.τ RetentionIdeal.sig) → Buf (Elt Ideal) ℓ)
  (m' : (ℓ : Loc RetentionRefIdeal.nD RetentionRefIdeal.τ RetentionRefIdeal.sig) → Buf (Elt Ideal) ℓ)
  (c : Dev RetentionIdeal.nD)
  (h0 : m' (c.tc.loc RetentionRefIdeal.main_arg0) = m (c.tc.loc RetentionIdeal.main_arg0))
  (h1 : m' (c.tc.loc RetentionRefIdeal.main_arg1) = m (c.tc.loc RetentionIdeal.main_arg1))

include h0 h1 in
/-- The branch's output. -/
theorem pair9 : (RetentionIdeal.Gen.dats m 0 c).arrAt 9 (RetentionIdeal.cfgs 0).N
    = RetentionRefIdeal.Value.out_main_v50 (RetentionRefIdeal.Scan.before m' c 16) := by
  refine final9 m c _ fun b k r h e => (RetentionRefIdeal.Scan.ref_out m' c b k r h e).trans ?_
  have hz : RetentionRefIdeal.Scan.zed m' c = Blocks.zed m c := h0
  have hw : (m' (c.tc.loc RetentionRefIdeal.main_arg1) : (⟨1, ![1024]⟩ : Shape).Idx → EReal) = m (c.tc.loc RetentionIdeal.main_arg1) := h1
  rw [hz, hw]

include h0 in
/-- The final state. -/
theorem pair10 : (RetentionIdeal.Gen.dats m 0 c).arrAt 10 (RetentionIdeal.cfgs 0).N
    = RetentionRefIdeal.Scan.aS (RetentionRefIdeal.Scan.before m' c 16) := by
  refine final10 m c _ fun b h d e => (RetentionRefIdeal.Scan.ref_state m' c b h d e).trans ?_
  have hz : RetentionRefIdeal.Scan.zed m' c = Blocks.zed m c := h0
  rw [hz]

/-- The operations before the call leave the scale as it was. -/
theorem arg1_kept : RetentionIdeal.Gen.V m c RetentionIdeal.main_arg1 = m (c.tc.loc RetentionIdeal.main_arg1) := by
  dsimp only [RetentionIdeal.Gen.V]
  simp only [List.flatten_cons, List.flatten_nil, List.append_nil]
  after_reads_simp

end Cert.RetentionIdeal.Result

end
-- ==== Proof.FfnUpResult.lean ====
/- The up projection of the feed-forward block. The first grid point of a band of 1024 rows stores the normalised
   band in a scratch buffer, and the band's eleven points read it from there; each multiplies it by a tile of the gate
   columns and the matching tile of the up columns and stores `silu(gate) · up`. -/
module

public import proofs.«01_k».proof.Proof.Gen.FfnUpIdeal.Value
public import proofs.«01_k».proof.Proof.Gen.FfnUpRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Result

open Cert.FfnUpIdeal Cert.FfnUpIdeal.Gen

variable (m : (ℓ : Loc nD τ sig) → Buf (Elt Ideal) ℓ)

/-- The reference as one function of the residual stream, the gain and the stacked weights:
    `silu(h · Wg) · (h · Wu)` of the normalised rows `h`. -/
abbrev REF (X : FVec Ideal ⟨2, ![8192, 2048]⟩ .f32) (G : FVec Ideal ⟨1, ![2048]⟩ .f32)
    (W : FVec Ideal ⟨3, ![4, 2048, 11264]⟩ .f32) : FVec Ideal ⟨2, ![8192, 5632]⟩ .bf16 :=
  truncf .bf16 (mulf (mulf (extractStridedSlice Cert.FfnUpRefIdeal.S8192x5632 ![0, 0] (Host.dotGeneral Cert.FfnUpRefIdeal.dot_S8192x2048_S2048x11264_S8192x11264_1_0_0_1_n_n none (mulf (mulf X (broadcastInDim Cert.FfnUpRefIdeal.S8192x2048 ![0, 1] Cert.FfnUpRefIdeal.Gen.bcast_S8192x1_S8192x2048_0_1 (Host.rsqrt (addf (Host.divf (broadcastInDim Cert.FfnUpRefIdeal.S8192x1 ![0] Cert.FfnUpRefIdeal.Gen.bcast_S8192_S8192x1_0 (Host.reduceAdd (mulf X X) (constant Cert.FfnUpRefIdeal.S_ .f32 0x00000000#32) Cert.FfnUpRefIdeal.Gen.reducesTo_S8192x2048_S8192_d1 Cert.FfnUpRefIdeal.Gen.h_S_)) (broadcastInDim Cert.FfnUpRefIdeal.S8192x1 ![] Cert.FfnUpRefIdeal.Gen.bcast_S_S8192x1 (constant Cert.FfnUpRefIdeal.S_ .f32 0x45000000#32))) (broadcastInDim Cert.FfnUpRefIdeal.S8192x1 ![] Cert.FfnUpRefIdeal.Gen.bcast_S_S8192x1 (constant Cert.FfnUpRefIdeal.S_ .f32 0x358637BD#32)))))) (broadcastInDim Cert.FfnUpRefIdeal.S8192x2048 ![0, 1] Cert.FfnUpRefIdeal.Gen.bcast_S1x2048_S8192x2048_0_1 (broadcastInDim Cert.FfnUpRefIdeal.S1x2048 ![1] Cert.FfnUpRefIdeal.Gen.bcast_S2048_S1x2048_1 G))) (shapeCast _ (extractStridedSlice Cert.FfnUpRefIdeal.S1x2048x11264 ![0, 0, 0] W Cert.FfnUpRefIdeal.Gen.slices_S4x2048x11264_S1x2048x11264_0_0_0) Cert.FfnUpRefIdeal.Gen.shapeCasts_S1x2048x11264_S2048x11264)) Cert.FfnUpRefIdeal.Gen.slices_S8192x11264_S8192x5632_0_0) (Host.divf (broadcastInDim Cert.FfnUpRefIdeal.S8192x5632 ![] Cert.FfnUpRefIdeal.Gen.bcast_S_S8192x5632 (constant Cert.FfnUpRefIdeal.S_ .f32 0x3F800000#32)) (addf (broadcastInDim Cert.FfnUpRefIdeal.S8192x5632 ![] Cert.FfnUpRefIdeal.Gen.bcast_S_S8192x5632 (constant Cert.FfnUpRefIdeal.S_ .f32 0x3F800000#32)) (Host.exp (Host.negf (extractStridedSlice Cert.FfnUpRefIdeal.S8192x5632 ![0, 0] (Host.dotGeneral Cert.FfnUpRefIdeal.dot_S8192x2048_S2048x11264_S8192x11264_1_0_0_1_n_n none (mulf (mulf X (broadcastInDim Cert.FfnUpRefIdeal.S8192x2048 ![0, 1] Cert.FfnUpRefIdeal.Gen.bcast_S8192x1_S8192x2048_0_1 (Host.rsqrt (addf (Host.divf (broadcastInDim Cert.FfnUpRefIdeal.S8192x1 ![0] Cert.FfnUpRefIdeal.Gen.bcast_S8192_S8192x1_0 (Host.reduceAdd (mulf X X) (constant Cert.FfnUpRefIdeal.S_ .f32 0x00000000#32) Cert.FfnUpRefIdeal.Gen.reducesTo_S8192x2048_S8192_d1 Cert.FfnUpRefIdeal.Gen.h_S_)) (broadcastInDim Cert.FfnUpRefIdeal.S8192x1 ![] Cert.FfnUpRefIdeal.Gen.bcast_S_S8192x1 (constant Cert.FfnUpRefIdeal.S_ .f32 0x45000000#32))) (broadcastInDim Cert.FfnUpRefIdeal.S8192x1 ![] Cert.FfnUpRefIdeal.Gen.bcast_S_S8192x1 (constant Cert.FfnUpRefIdeal.S_ .f32 0x358637BD#32)))))) (broadcastInDim Cert.FfnUpRefIdeal.S8192x2048 ![0, 1] Cert.FfnUpRefIdeal.Gen.bcast_S1x2048_S8192x2048_0_1 (broadcastInDim Cert.FfnUpRefIdeal.S1x2048 ![1] Cert.FfnUpRefIdeal.Gen.bcast_S2048_S1x2048_1 G))) (shapeCast _ (extractStridedSlice Cert.FfnUpRefIdeal.S1x2048x11264 ![0, 0, 0] W Cert.FfnUpRefIdeal.Gen.slices_S4x2048x11264_S1x2048x11264_0_0_0) Cert.FfnUpRefIdeal.Gen.shapeCasts_S1x2048x11264_S2048x11264)) Cert.FfnUpRefIdeal.Gen.slices_S8192x11264_S8192x5632_0_0)))))) (extractStridedSlice Cert.FfnUpRefIdeal.S8192x5632 ![0, 5632] (Host.dotGeneral Cert.FfnUpRefIdeal.dot_S8192x2048_S2048x11264_S8192x11264_1_0_0_1_n_n none (mulf (mulf X (broadcastInDim Cert.FfnUpRefIdeal.S8192x2048 ![0, 1] Cert.FfnUpRefIdeal.Gen.bcast_S8192x1_S8192x2048_0_1 (Host.rsqrt (addf (Host.divf (broadcastInDim Cert.FfnUpRefIdeal.S8192x1 ![0] Cert.FfnUpRefIdeal.Gen.bcast_S8192_S8192x1_0 (Host.reduceAdd (mulf X X) (constant Cert.FfnUpRefIdeal.S_ .f32 0x00000000#32) Cert.FfnUpRefIdeal.Gen.reducesTo_S8192x2048_S8192_d1 Cert.FfnUpRefIdeal.Gen.h_S_)) (broadcastInDim Cert.FfnUpRefIdeal.S8192x1 ![] Cert.FfnUpRefIdeal.Gen.bcast_S_S8192x1 (constant Cert.FfnUpRefIdeal.S_ .f32 0x45000000#32))) (broadcastInDim Cert.FfnUpRefIdeal.S8192x1 ![] Cert.FfnUpRefIdeal.Gen.bcast_S_S8192x1 (constant Cert.FfnUpRefIdeal.S_ .f32 0x358637BD#32)))))) (broadcastInDim Cert.FfnUpRefIdeal.S8192x2048 ![0, 1] Cert.FfnUpRefIdeal.Gen.bcast_S1x2048_S8192x2048_0_1 (broadcastInDim Cert.FfnUpRefIdeal.S1x2048 ![1] Cert.FfnUpRefIdeal.Gen.bcast_S2048_S1x2048_1 G))) (shapeCast _ (extractStridedSlice Cert.FfnUpRefIdeal.S1x2048x11264 ![0, 0, 0] W Cert.FfnUpRefIdeal.Gen.slices_S4x2048x11264_S1x2048x11264_0_0_0) Cert.FfnUpRefIdeal.Gen.shapeCasts_S1x2048x11264_S2048x11264)) Cert.FfnUpRefIdeal.Gen.slices_S8192x11264_S8192x5632_0_5632)) Cert.FfnUpRefIdeal.Gen.bitsLt_bf16_f32

/-- Which block of its array each window of the call takes at a grid point, decided over all the points. -/
theorem idx : ∀ t : Fin cfg0.N,
    win0_0.index t = ![t.val / 11, 0]
      ∧ win0_1.index t = ![0, 0]
      ∧ win0_2.index t = ![0, 0, t.val % 11]
      ∧ win0_3.index t = ![0, 0, 11 + t.val % 11]
      ∧ win0_4.index t = ![t.val / 11, t.val % 11] :=
  (by decide +kernel : ∀ t : Fin grid0.N, _)

/-- The eleven points of a band see the same rows of the residual stream. -/
theorem rows_eq (c : Dev nD) (t u : Fin cfg0.N) (h : t.val / 11 = u.val / 11) : iblk m c 0 t = iblk m c 0 u := by
  funext y
  blk_ext [iblk, V, idx t, idx u]

/-- Every point sees the whole gain. -/
theorem gain_eq (c : Dev nD) (t u : Fin cfg0.N) : iblk m c 1 t = iblk m c 1 u := by
  funext y
  blk_ext [iblk, V, idx t, idx u]

/-- After every point the scratch holds the normalised rows of the point's own band. -/
theorem scratch (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 11 = 0
    · rw [outsAt0_A m c ⟨n + 1, h⟩ h0]
      frame_out
    · rw [outsAt0_B m c ⟨n + 1, h⟩ h0]
      frame_out
      refine (ih (Nat.lt_of_succ_lt h)).trans ?_
      rw [rows_eq m c ⟨n, Nat.lt_of_succ_lt h⟩ ⟨n + 1, h⟩ (by show n / 11 = (n + 1) / 11; omega),
        gain_eq m c ⟨n, Nat.lt_of_succ_lt h⟩ ⟨n + 1, h⟩]

/-- What a point stores is the gated product of its band's normalised rows. -/
theorem stored (c : Dev nD) (t : Fin cfg0.N) :
    (outsAt0 m c t.val t.isLt).1
      = k0_pay2 (k0_pay1 (iblk m c 0 t) (iblk m c 1 t)) (iblk m c 2 t) (iblk m c 3 t) := by
  by_cases h0 : t.val % 11 = 0
  · rw [outsAt0_A m c t h0]
    frame_out
  · rw [outsAt0_B m c t h0]
    frame_out
    have hlt : t.val - 1 < cfg0.N := lt_of_le_of_lt (Nat.sub_le _ _) t.isLt
    have hs := scratch m c (t.val - 1) hlt
    rw [rows_eq m c ⟨t.val - 1, hlt⟩ t (by show (t.val - 1) / 11 = t.val / 11; omega),
      gain_eq m c ⟨t.val - 1, hlt⟩ t] at hs
    rw [← hs]
    exact congrArg (k0_pay2 · _ _) (Memref.IsWhole.read_unread _ _)

/-- The normalised row entry is the reference's. -/
theorem point (c : Dev nD) (t : Fin cfg0.N) (y) :
    k0_pay2 (k0_pay1 (iblk m c 0 t) (iblk m c 1 t)) (iblk m c 2 t) (iblk m c 3 t) y
      = REF (m ((c : Thread nD τ).loc main_arg0)) (m ((c : Thread nD τ).loc main_arg1)) (m ((c : Thread nD τ).loc main_arg2)) (((cfg0.win 4).blk t).view.emb y) := by
  pointwise [k0_pay1, k0_pay2, REF]
  simp only [zero_sub]
  blk_point [iblk, V, idx t]

/-- After the call the result array is the gated up projection of the whole residual stream. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, stored m c t]
  exact point m c t y

end Cert.FfnUpIdeal.Result

end
-- ==== Proof.FfnDownResult.lean ====
/- The down projection of the feed-forward block: each grid point multiplies a 1024 × 5632 band of the
   activations by 512 columns of the weight and adds the residual, so the tiles put together are `X + A · W₀`. -/
module

public import proofs.«01_k».proof.Proof.Gen.FfnDownIdeal.Value
public import proofs.«01_k».proof.Proof.Gen.FfnDownRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Result

open Cert.FfnDownIdeal Cert.FfnDownIdeal.Gen

variable (m : (ℓ : Loc nD τ sig) → Buf (Elt Ideal) ℓ)

/-- The reference as one function of the activations, the stacked weights and the residual: `X + A · W₀`. -/
abbrev REF (A : FVec Ideal ⟨2, ![8192, 5632]⟩ .bf16) (W : FVec Ideal ⟨3, ![4, 5632, 2048]⟩ .f32) (X : FVec Ideal ⟨2, ![8192, 2048]⟩ .f32) : FVec Ideal ⟨2, ![8192, 2048]⟩ .f32 :=
  addf X (Host.dotGeneral Cert.FfnDownRefIdeal.dot_S8192x5632_S5632x2048_S8192x2048_1_0_0_1_n_n none (extf .f32 A Cert.FfnDownRefIdeal.Gen.bitsLt_bf16_f32) (shapeCast _ (extractStridedSlice Cert.FfnDownRefIdeal.S1x5632x2048 ![0, 0, 0] W Cert.FfnDownRefIdeal.Gen.slices_S4x5632x2048_S1x5632x2048_0_0_0) Cert.FfnDownRefIdeal.Gen.shapeCasts_S1x5632x2048_S5632x2048))

/-- Which block of its array each window of the call takes at a grid point, decided over all the points. -/
theorem idx : ∀ t : Fin cfg0.N,
    win0_0.index t = ![(grid0.coords t 0).val, 0]
      ∧ win0_1.index t = ![0, 0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- What the body stores at index `y` of its tile at grid point `t` is the reference at the place of the array
    where `y` lies. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- After the call the result array is the residual plus the whole product. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FfnDownIdeal.Result

end
-- ==== Proof.OutProjResult.lean ====
/- The output projection of the attention block: each grid point multiplies a 1024 × 2048 band of the mixed
   branches by 1024 columns of the weight and adds the residual, so the tiles put together are `X + A · W₀`. -/
module

public import proofs.«01_k».proof.Proof.Gen.OutProjIdeal.Value
public import proofs.«01_k».proof.Proof.Gen.OutProjRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Result

open Cert.OutProjIdeal Cert.OutProjIdeal.Gen

variable (m : (ℓ : Loc nD τ sig) → Buf (Elt Ideal) ℓ)

/-- The reference as one function of the activations, the stacked weights and the residual: `X + A · W₀`. -/
abbrev REF (A : FVec Ideal ⟨2, ![8192, 2048]⟩ .bf16) (W : FVec Ideal ⟨3, ![4, 2048, 2048]⟩ .f32) (X : FVec Ideal ⟨2, ![8192, 2048]⟩ .f32) : FVec Ideal ⟨2, ![8192, 2048]⟩ .f32 :=
  addf X (Host.dotGeneral Cert.OutProjRefIdeal.dot_S8192x2048_S2048x2048_S8192x2048_1_0_0_1_n_n none (extf .f32 A Cert.OutProjRefIdeal.Gen.bitsLt_bf16_f32) (shapeCast _ (extractStridedSlice Cert.OutProjRefIdeal.S1x2048x2048 ![0, 0, 0] W Cert.OutProjRefIdeal.Gen.slices_S4x2048x2048_S1x2048x2048_0_0_0) Cert.OutProjRefIdeal.Gen.shapeCasts_S1x2048x2048_S2048x2048))

/-- Which block of its array each window of the call takes at a grid point, decided over all the points. -/
theorem idx : ∀ t : Fin cfg0.N,
    win0_0.index t = ![(grid0.coords t 0).val, 0]
      ∧ win0_1.index t = ![0, 0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- What the body stores at index `y` of its tile at grid point `t` is the reference at the place of the array
    where `y` lies. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- After the call the result array is the residual plus the whole product. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.Result

end
-- ==== Proof.MergeResult.lean ====
/- The merge of the three branches: each grid point multiplies a band of every branch by the same columns of its
   projection, weights the product by the sigmoid of its gate tile and adds the three up. -/
module

public import proofs.«01_k».proof.Proof.Gen.MergeIdeal.Value
public import proofs.«01_k».proof.Proof.Gen.MergeRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-- The reference as one function of the three branches, their projections and the projected input that holds the
    gates: `σ(g₀)·(A·WA₀) + σ(g₁)·(M·WM₀) + σ(g₂)·(C·WC₀)`. -/
abbrev REF (A M C : FVec Ideal ⟨2, ![8192, 1024]⟩ .bf16) (WA WM WC : FVec Ideal ⟨3, ![4, 1024, 2048]⟩ .f32)
    (Z : FVec Ideal ⟨2, ![8192, 16384]⟩ .f32) : FVec Ideal ⟨2, ![8192, 2048]⟩ .bf16 :=
  truncf .bf16 (addf (addf (mulf (Host.divf (broadcastInDim Cert.MergeRefIdeal.S8192x2048 ![] Cert.MergeRefIdeal.Gen.bcast_S_S8192x2048 (constant Cert.MergeRefIdeal.S_ .f32 0x3F800000#32)) (addf (broadcastInDim Cert.MergeRefIdeal.S8192x2048 ![] Cert.MergeRefIdeal.Gen.bcast_S_S8192x2048 (constant Cert.MergeRefIdeal.S_ .f32 0x3F800000#32)) (Host.exp (Host.negf (extractStridedSlice Cert.MergeRefIdeal.S8192x2048 ![0, 10240] Z Cert.MergeRefIdeal.Gen.slices_S8192x16384_S8192x2048_0_10240))))) (Host.dotGeneral Cert.MergeRefIdeal.dot_S8192x1024_S1024x2048_S8192x2048_1_0_0_1_n_n none (extf .f32 A Cert.MergeRefIdeal.Gen.bitsLt_bf16_f32) (shapeCast _ (extractStridedSlice Cert.MergeRefIdeal.S1x1024x2048 ![0, 0, 0] WA Cert.MergeRefIdeal.Gen.slices_S4x1024x2048_S1x1024x2048_0_0_0) Cert.MergeRefIdeal.Gen.shapeCasts_S1x1024x2048_S1024x2048))) (mulf (Host.divf (broadcastInDim Cert.MergeRefIdeal.S8192x2048 ![] Cert.MergeRefIdeal.Gen.bcast_S_S8192x2048 (constant Cert.MergeRefIdeal.S_ .f32 0x3F800000#32)) (addf (broadcastInDim Cert.MergeRefIdeal.S8192x2048 ![] Cert.MergeRefIdeal.Gen.bcast_S_S8192x2048 (constant Cert.MergeRefIdeal.S_ .f32 0x3F800000#32)) (Host.exp (Host.negf (extractStridedSlice Cert.MergeRefIdeal.S8192x2048 ![0, 12288] Z Cert.MergeRefIdeal.Gen.slices_S8192x16384_S8192x2048_0_12288))))) (Host.dotGeneral Cert.MergeRefIdeal.dot_S8192x1024_S1024x2048_S8192x2048_1_0_0_1_n_n none (extf .f32 M Cert.MergeRefIdeal.Gen.bitsLt_bf16_f32) (shapeCast _ (extractStridedSlice Cert.MergeRefIdeal.S1x1024x2048 ![0, 0, 0] WM Cert.MergeRefIdeal.Gen.slices_S4x1024x2048_S1x1024x2048_0_0_0) Cert.MergeRefIdeal.Gen.shapeCasts_S1x1024x2048_S1024x2048)))) (mulf (Host.divf (broadcastInDim Cert.MergeRefIdeal.S8192x2048 ![] Cert.MergeRefIdeal.Gen.bcast_S_S8192x2048 (constant Cert.MergeRefIdeal.S_ .f32 0x3F800000#32)) (addf (broadcastInDim Cert.MergeRefIdeal.S8192x2048 ![] Cert.MergeRefIdeal.Gen.bcast_S_S8192x2048 (constant Cert.MergeRefIdeal.S_ .f32 0x3F800000#32)) (Host.exp (Host.negf (extractStridedSlice Cert.MergeRefIdeal.S8192x2048 ![0, 14336] Z Cert.MergeRefIdeal.Gen.slices_S8192x16384_S8192x2048_0_14336))))) (Host.dotGeneral Cert.MergeRefIdeal.dot_S8192x1024_S1024x2048_S8192x2048_1_0_0_1_n_n none (extf .f32 C Cert.MergeRefIdeal.Gen.bitsLt_bf16_f32) (shapeCast _ (extractStridedSlice Cert.MergeRefIdeal.S1x1024x2048 ![0, 0, 0] WC Cert.MergeRefIdeal.Gen.slices_S4x1024x2048_S1x1024x2048_0_0_0) Cert.MergeRefIdeal.Gen.shapeCasts_S1x1024x2048_S1024x2048)))) Cert.MergeRefIdeal.Gen.bitsLt_bf16_f32

/-- Which block of its array each window of the call takes at a grid point, decided over all the points. -/
theorem idx : ∀ t : Fin cfg0.N,
    win0_0.index t = ![(grid0.coords t 0).val, 0]
      ∧ win0_1.index t = ![(grid0.coords t 0).val, 0]
      ∧ win0_2.index t = ![(grid0.coords t 0).val, 0]
      ∧ win0_3.index t = ![0, 0, (grid0.coords t 1).val]
      ∧ win0_4.index t = ![0, 0, (grid0.coords t 1).val]
      ∧ win0_5.index t = ![0, 0, (grid0.coords t 1).val]
      ∧ win0_6.index t = ![(grid0.coords t 0).val, 10 + (grid0.coords t 1).val]
      ∧ win0_7.index t = ![(grid0.coords t 0).val, 12 + (grid0.coords t 1).val]
      ∧ win0_8.index t = ![(grid0.coords t 0).val, 14 + (grid0.coords t 1).val]
      ∧ win0_9.index t = ![(grid0.coords t 0).val, (grid0.coords t 1).val] :=
  (by decide +kernel : ∀ t : Fin grid0.N, _)

/-- What the body stores at index `y` of its tile at grid point `t` is the reference at the place of the array
    where `y` lies. -/
theorem point (c : Dev nD) (t : Fin cfg0.N) (y) :
    k0_pay1 (k0_pay2 (iblk m c 2 t) (iblk m c 5 t)) (k0_pay3 (iblk m c 0 t) (iblk m c 3 t) (iblk m c 6 t))
      (k0_pay4 (iblk m c 1 t) (iblk m c 4 t) (iblk m c 7 t)) (iblk m c 8 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, k0_pay2, k0_pay3, k0_pay4, REF]
  simp only [zero_sub]
  blk_point [iblk, V, idx t]

/-- After the call the result array is the gated sum of the three projected branches. -/
theorem final (c : Dev nD) : (dats m 0 c).arrAt 9 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact point m c t y

end Cert.MergeIdeal.Result

end
-- ==== Proof.FinalNormResult.lean ====
/- The last root-mean-square norm: each grid point normalises 512 whole rows, so the bands put together are the
   norm of the whole array. -/
module

public import proofs.«01_k».proof.Proof.Gen.FinalNormIdeal.Value
public import proofs.«01_k».proof.Proof.Gen.FinalNormRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNormIdeal.Result

open Cert.FinalNormIdeal Cert.FinalNormIdeal.Gen

variable (m : (ℓ : Loc nD τ sig) → Buf (Elt Ideal) ℓ)

/-- The reference as one function of the residual stream and the gain: `x · rsqrt(mean x² + ε) · g`, row by row. -/
abbrev REF (X : FVec Ideal ⟨2, ![8192, 2048]⟩ .f32) (G : FVec Ideal ⟨1, ![2048]⟩ .f32) : FVec Ideal ⟨2, ![8192, 2048]⟩ .f32 :=
  mulf (mulf X (broadcastInDim Cert.FinalNormRefIdeal.S8192x2048 ![0, 1] Cert.FinalNormRefIdeal.Gen.bcast_S8192x1_S8192x2048_0_1 (Host.rsqrt (addf (Host.divf (broadcastInDim Cert.FinalNormRefIdeal.S8192x1 ![0] Cert.FinalNormRefIdeal.Gen.bcast_S8192_S8192x1_0 (Host.reduceAdd (mulf X X) (constant Cert.FinalNormRefIdeal.S_ .f32 0x00000000#32) Cert.FinalNormRefIdeal.Gen.reducesTo_S8192x2048_S8192_d1 Cert.FinalNormRefIdeal.Gen.h_S_)) (broadcastInDim Cert.FinalNormRefIdeal.S8192x1 ![] Cert.FinalNormRefIdeal.Gen.bcast_S_S8192x1 (constant Cert.FinalNormRefIdeal.S_ .f32 0x45000000#32))) (broadcastInDim Cert.FinalNormRefIdeal.S8192x1 ![] Cert.FinalNormRefIdeal.Gen.bcast_S_S8192x1 (constant Cert.FinalNormRefIdeal.S_ .f32 0x358637BD#32)))))) (broadcastInDim Cert.FinalNormRefIdeal.S8192x2048 ![0, 1] Cert.FinalNormRefIdeal.Gen.bcast_S1x2048_S8192x2048_0_1 (broadcastInDim Cert.FinalNormRefIdeal.S1x2048 ![1] Cert.FinalNormRefIdeal.Gen.bcast_S2048_S1x2048_1 G))

/-- Which block of its array each window of the call takes at a grid point, decided over all the points. -/
theorem idx : ∀ t : Fin cfg0.N,
    win0_0.index t = ![(grid0.coords t 0).val, 0] ∧ win0_1.index t = ![0, 0] ∧ win0_2.index t = ![(grid0.coords t 0).val, 0] :=
  (by decide +kernel : ∀ t : Fin grid0.N, _)

/-- What the body stores at index `y` of its tile at grid point `t` is the reference at the place of the array
    where `y` lies. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- After the call the result array is the norm of the whole residual. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalNormIdeal.Result

end
-- ==== Proof.InprojPoint.lean ====
/- The input projection: which column block each grid point works on, and which buffers it leaves alone. -/
module

public import proofs.«01_k».proof.Proof.Gen.InprojIdeal.Frame
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A row block begins. -/
theorem hc0 : ∀ t : Fin cfg0.N, (Scalar.cmpi .ne (Scalar.extui (Scalar.cmpi .eq (BitVec.ofNat 32 ((grid0.coords t) 1).val) 0#32)) 0#32) = 1#1 ↔ t.val % 16 = 0 :=
  (fun t => by
    have ht : t.val < 256 := Nat.lt_of_lt_of_eq t.isLt N_0
    have e1 : (grid0.coords t 1).val = t.val / 1 % 16 := Pipeline.Grid.coords_val t 1 (by decide) rfl
    simp only [e1]
    word_cmp
   : ∀ t : Fin grid0.N, (Scalar.cmpi .ne (Scalar.extui (Scalar.cmpi .eq (BitVec.ofNat 32 ((grid0.coords t) 1).val) 0#32)) 0#32) = 1#1 ↔ t.val % 16 = 0)

/-- The queries and keys of the block attention. -/
theorem hc2 : ∀ t : Fin cfg0.N, k0_cond2 (grid0.coords t) = 1#1 ↔ (3 ≤ t.val % 16 ∧ t.val % 16 ≤ 4) :=
  (fun t => by
    have ht : t.val < 256 := Nat.lt_of_lt_of_eq t.isLt N_0
    have e1 : (grid0.coords t 1).val = t.val / 1 % 16 := Pipeline.Grid.coords_val t 1 (by decide) rfl
    simp only [k0_cond2, e1]
    word_cmp
   : ∀ t : Fin grid0.N, k0_cond2 (grid0.coords t) = 1#1 ↔ (3 ≤ t.val % 16 ∧ t.val % 16 ≤ 4))

/-- The queries and keys of the retention. -/
theorem hc4 : ∀ t : Fin cfg0.N, k0_cond4 (grid0.coords t) = 1#1 ↔ (6 ≤ t.val % 16 ∧ t.val % 16 ≤ 7) :=
  (fun t => by
    have ht : t.val < 256 := Nat.lt_of_lt_of_eq t.isLt N_0
    have e1 : (grid0.coords t 1).val = t.val / 1 % 16 := Pipeline.Grid.coords_val t 1 (by decide) rfl
    simp only [k0_cond4, e1]
    word_cmp
   : ∀ t : Fin grid0.N, k0_cond4 (grid0.coords t) = 1#1 ↔ (6 ≤ t.val % 16 ∧ t.val % 16 ≤ 7))

/-- Column block 1. -/
theorem hc6 : ∀ t : Fin cfg0.N, k0_cond6 (grid0.coords t) = 1#1 ↔ t.val % 16 = 1 :=
  (fun t => by
    have ht : t.val < 256 := Nat.lt_of_lt_of_eq t.isLt N_0
    have e1 : (grid0.coords t 1).val = t.val / 1 % 16 := Pipeline.Grid.coords_val t 1 (by decide) rfl
    simp only [k0_cond6, e1]
    word_cmp
   : ∀ t : Fin grid0.N, k0_cond6 (grid0.coords t) = 1#1 ↔ t.val % 16 = 1)

/-- Column block 2. -/
theorem hc7 : ∀ t : Fin cfg0.N, k0_cond7 (grid0.coords t) = 1#1 ↔ t.val % 16 = 2 :=
  (fun t => by
    have ht : t.val < 256 := Nat.lt_of_lt_of_eq t.isLt N_0
    have e1 : (grid0.coords t 1).val = t.val / 1 % 16 := Pipeline.Grid.coords_val t 1 (by decide) rfl
    simp only [k0_cond7, e1]
    word_cmp
   : ∀ t : Fin grid0.N, k0_cond7 (grid0.coords t) = 1#1 ↔ t.val % 16 = 2)

/-- Column block 5. -/
theorem hc8 : ∀ t : Fin cfg0.N, k0_cond8 (grid0.coords t) = 1#1 ↔ t.val % 16 = 5 :=
  (fun t => by
    have ht : t.val < 256 := Nat.lt_of_lt_of_eq t.isLt N_0
    have e1 : (grid0.coords t 1).val = t.val / 1 % 16 := Pipeline.Grid.coords_val t 1 (by decide) rfl
    simp only [k0_cond8, e1]
    word_cmp
   : ∀ t : Fin grid0.N, k0_cond8 (grid0.coords t) = 1#1 ↔ t.val % 16 = 5)

/-- Column block 4. -/
theorem hc3 : ∀ t : Fin cfg0.N, k0_cond3 (grid0.coords t) = 1#1 ↔ t.val % 16 = 4 :=
  (fun t => by
    have ht : t.val < 256 := Nat.lt_of_lt_of_eq t.isLt N_0
    have e1 : (grid0.coords t 1).val = t.val / 1 % 16 := Pipeline.Grid.coords_val t 1 (by decide) rfl
    simp only [k0_cond3, e1]
    word_cmp
   : ∀ t : Fin grid0.N, k0_cond3 (grid0.coords t) = 1#1 ↔ t.val % 16 = 4)

/-- The other column blocks. -/
theorem hc5 : ∀ t : Fin cfg0.N, k0_cond5 (grid0.coords t) = 1#1 ↔ ¬(t.val % 16 = 3 ∨ t.val % 16 = 4 ∨ t.val % 16 = 6 ∨ t.val % 16 = 7) :=
  (by decide +kernel : ∀ t : Fin grid0.N, k0_cond5 (grid0.coords t) = 1#1 ↔ ¬(t.val % 16 = 3 ∨ t.val % 16 = 4 ∨ t.val % 16 = 6 ∨ t.val % 16 = 7))

theorem idle8 : ∀ t : Fin cfg0.N, cfg0.idle 8 (cfg0.grid.coords t) = false :=
  (by decide +kernel : ∀ t : Fin grid0.N, idle0 8 (grid0.coords t) = false)
theorem idle9 : ∀ t : Fin cfg0.N, cfg0.idle 9 (cfg0.grid.coords t) = !decide (t.val % 16 = 1) :=
  (by decide +kernel : ∀ t : Fin grid0.N, idle0 9 (grid0.coords t) = !decide (t.val % 16 = 1))
theorem idle10 : ∀ t : Fin cfg0.N, cfg0.idle 10 (cfg0.grid.coords t) = !decide (t.val % 16 = 2) :=
  (by decide +kernel : ∀ t : Fin grid0.N, idle0 10 (grid0.coords t) = !decide (t.val % 16 = 2))
theorem idle11 : ∀ t : Fin cfg0.N, cfg0.idle 11 (cfg0.grid.coords t) = !decide (t.val % 16 = 4) :=
  (by decide +kernel : ∀ t : Fin grid0.N, idle0 11 (grid0.coords t) = !decide (t.val % 16 = 4))
theorem idle12 : ∀ t : Fin cfg0.N, cfg0.idle 12 (cfg0.grid.coords t) = !decide (t.val % 16 = 5) :=
  (by decide +kernel : ∀ t : Fin grid0.N, idle0 12 (grid0.coords t) = !decide (t.val % 16 = 5))

/-- The point of column block `k` in the row block of point `t`. -/
def seg (t : Fin cfg0.N) (k : ℕ) (hk : k < 16) : Fin cfg0.N :=
  ⟨t.val / 16 * 16 + k, by have h : t.val < 256 := Nat.lt_of_lt_of_eq t.isLt N_0; exact Nat.lt_of_lt_of_eq (by omega) N_0.symm⟩

theorem seg_self (t : Fin cfg0.N) (k : ℕ) (hk : k < 16) (h : t.val % 16 = k) : seg t k hk = t :=
  Fin.ext (by show t.val / 16 * 16 + k = t.val; omega)

theorem seg_eq (t u : Fin cfg0.N) (k : ℕ) (hk : k < 16) (h : t.val / 16 = u.val / 16) : seg t k hk = seg u k hk :=
  Fin.ext (by show t.val / 16 * 16 + k = u.val / 16 * 16 + k; omega)

/-- A window stored at one column block of each row block and written back at the last holds, past that
    column block, what was stored there. -/
theorem kv_before {c : Dev nD} (dat : Dat τ (Elt F) Unit ℕ (UR sig nD τ) ℕ cfg0 c) (w : Fin cfg0.W) (k : ℕ)
    (hi : ∀ t : Fin cfg0.N, cfg0.idle w (cfg0.grid.coords t) = !decide (t.val % 16 = k))
    (hf : ∀ t, (cfg0.win w).fetch t = false) (hl : ∀ t, (cfg0.win w).flush t = true ↔ t.val % 16 = 15)
    (hk : ∀ t d, dat.kept w t d = dat.after w t)
    (ha : ∀ t u : Fin cfg0.N, t.val / 16 = u.val / 16 → dat.after w t = dat.after w u) :
    ∀ (n : ℕ) (hn : n < cfg0.N) (d), k < n % 16 → dat.before w ⟨n, hn⟩ d = dat.after w ⟨n, hn⟩ := by
  intro n
  induction n with
  | zero => intro hn d h; exact absurd h (by omega)
  | succ n ih =>
    intro hn d h
    have hn' : n < cfg0.N := Nat.lt_of_succ_lt hn
    have hfl : (cfg0.win w).flush ⟨n, hn'⟩ ≠ true := fun e => by
      have e' : n % 16 = 15 := (hl ⟨n, hn'⟩).mp e
      omega
    refine (dat.before_of_pos w ⟨n + 1, hn⟩ (Nat.succ_ne_zero n) (hf _) d).trans ?_
    refine (if_neg hfl).trans ?_
    refine Eq.trans ?_ (ha ⟨n, hn'⟩ ⟨n + 1, hn⟩ (by show n / 16 = (n + 1) / 16; omega))
    show dat.left w ⟨n, hn'⟩ d = _
    unfold Dat.left
    by_cases e : n % 16 = k
    · rw [hi ⟨n, hn'⟩, show decide ((⟨n, hn'⟩ : Fin cfg0.N).val % 16 = k) = true from decide_eq_true e]
      exact hk _ _
    · rw [hi ⟨n, hn'⟩, show decide ((⟨n, hn'⟩ : Fin cfg0.N).val % 16 = k) = false from decide_eq_false e]
      exact ih hn' d (by omega)

/-- Away from its column block such a window is handed on as it was found. -/
theorem kv_leaves {c : Dev nD} (dat : Dat τ (Elt F) Unit ℕ (UR sig nD τ) ℕ cfg0 c) (w : Fin cfg0.W) (k : ℕ) (hk15 : k < 15)
    (hi : ∀ t : Fin cfg0.N, cfg0.idle w (cfg0.grid.coords t) = !decide (t.val % 16 = k))
    (hf : ∀ t, (cfg0.win w).fetch t = false) (hl : ∀ t, (cfg0.win w).flush t = true ↔ t.val % 16 = 15)
    (hk : ∀ t d, dat.kept w t d = dat.after w t)
    (ha : ∀ t u : Fin cfg0.N, t.val / 16 = u.val / 16 → dat.after w t = dat.after w u) (t : Fin cfg0.N) (ht : t.val % 16 ≠ k) :
    iprop(∃ d, owns (c : Thread nD τ) ((cfg0.win w).stage (cfg0.slots t w)) fullShare (dat.before w t d)) ⊢ (dat.leavesExact w t : sProp (MT nD τ sig Unit (Elt F) ℕ (UR sig nD τ) ℕ)) := by
  have hidle : cfg0.idle w (cfg0.grid.coords t) = true := by rw [hi t, decide_eq_false ht]; rfl
  by_cases h : t.val % 16 = 15
  · unfold Dat.leavesExact
    rw [hidle, (hl t).mpr h]
    simp only [kv_before dat w k hi hf hl hk ha t.val t.isLt _ (by omega)]
    iintro ⟨%d, H⟩
    iexact H
  · rw [Dat.leavesExact_idle dat w t hidle (Bool.eq_false_iff.mpr fun e => h ((hl t).mp e))]

/-- At its column block it holds what is stored there. -/
theorem kv_live {c : Dev nD} (dat : Dat τ (Elt F) Unit ℕ (UR sig nD τ) ℕ cfg0 c) (w : Fin cfg0.W) (k : ℕ)
    (hi : ∀ t : Fin cfg0.N, cfg0.idle w (cfg0.grid.coords t) = !decide (t.val % 16 = k)) (t : Fin cfg0.N) (ht : t.val % 16 = k) :
    (dat.leavesExact w t : sProp (MT nD τ sig Unit (Elt F) ℕ (UR sig nD τ) ℕ)) = owns (c : Thread nD τ) ((cfg0.win w).stage (cfg0.slots t w)) fullShare (dat.after w t) := by
  unfold Dat.leavesExact
  rw [hi t, decide_eq_true ht]; rfl

end Cert.InprojIdeal.Result

end
-- ==== Proof.InprojSpec.lean ====
/- The input projection: what its stores leave, as functions of what a grid point reads. -/
module

public import proofs.«01_k».proof.Proof.Gen.InprojIdeal.Frame
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Eight blocks of 128 columns side by side. -/
def cols (p : Fin 8 → FVec F S512x128 .f32) : FVec F S512x1024 .f32 := fun y =>
  p ⟨(y 1).val / 128, by have h : (y 1).val < 1024 := (y 1).isLt; omega⟩
    (ix2 ⟨(y 0).val, (y 0).isLt⟩ ⟨(y 1).val % 128, Nat.mod_lt _ (by decide)⟩)

/-- Eight blocks of 512 rows interleaved: row `8 r + j` is row `r` of block `j`. -/
def rows (p : Fin 8 → FVec F S512x128 .f32) : FVec F S4096x128 .f32 := fun y =>
  p ⟨(y 0).val % 8, Nat.mod_lt _ (by decide)⟩
    (ix2 ⟨(y 0).val / 8, by have h : (y 0).val < 4096 := (y 0).isLt; omega⟩ ⟨(y 1).val, (y 1).isLt⟩)

theorem slices (j : Fin 8) : S512x1024.Slices ![0, 128 * j.val] S512x128 := by
  revert j; decide

/-- The columns of one head. -/
def head (A : FVec F S512x1024 .f32) (j : Fin 8) : FVec F S512x128 .f32 :=
  extractStridedSlice S512x128 ![0, 128 * j.val] A (slices j)

/-- One head rotated over its first 32 columns: `x · c + x₊₁₆ · s₁ + x₋₁₆ · s₂`. -/
def part (A : FVec F S512x1024 .f32) (c s1 s2 : FVec F S512x128 .f32) (j : Fin 8) : FVec F S512x128 .f32 :=
  addf (addf (mulf (head A j) c) (mulf (dynamicRotate 1 112#32 none (head A j) rotates_S512x128_d1) s1))
    (mulf (dynamicRotate 1 16#32 none (head A j) rotates_S512x128_d1) s2)

/-- One head rotated over all its columns and scaled: `(x · c + x₊₆₄ · s) · k`. -/
def full (A : FVec F S512x1024 .f32) (c s : FVec F S512x128 .f32) (k : F .f32) (j : Fin 8) : FVec F S512x128 .f32 :=
  mulf (addf (mulf (head A j) c) (mulf (dynamicRotate 1 64#32 none (head A j) rotates_S512x128_d1) s))
    (broadcast S512x128 k)

theorem cols_at (p : Fin 8 → FVec F S512x128 .f32) (j : Fin 8) (r : Fin 512) (e : Fin 128) (y : S512x1024.Idx)
    (h0 : (y 0).val = r.val) (h1 : (y 1).val = 128 * j.val + e.val) : cols p y = p j (ix2 r e) := by
  unfold cols
  have hj : (⟨(y 1).val / 128, by have h : (y 1).val < 1024 := (y 1).isLt; omega⟩ : Fin 8) = j := Fin.ext (by show (y 1).val / 128 = j.val; omega)
  have hr : (⟨(y 0).val, (y 0).isLt⟩ : Fin 512) = r := Fin.ext h0
  have he : (⟨(y 1).val % 128, Nat.mod_lt _ (by decide)⟩ : Fin 128) = e := Fin.ext (by show (y 1).val % 128 = e.val; omega)
  rw [hj, hr, he]

theorem rows_at (p : Fin 8 → FVec F S512x128 .f32) (j : Fin 8) (r : Fin 512) (e : Fin 128) (y : S4096x128.Idx)
    (h0 : (y 0).val = 8 * r.val + j.val) (h1 : (y 1).val = e.val) : rows p y = p j (ix2 r e) := by
  unfold rows
  have hj : (⟨(y 0).val % 8, Nat.mod_lt _ (by decide)⟩ : Fin 8) = j := Fin.ext (by show (y 0).val % 8 = j.val; omega)
  have hr : (⟨(y 0).val / 8, by have h : (y 0).val < 4096 := (y 0).isLt; omega⟩ : Fin 512) = r := Fin.ext (by show (y 0).val / 8 = r.val; omega)
  have he : (⟨(y 1).val, (y 1).isLt⟩ : Fin 128) = e := Fin.ext h1
  rw [hj, hr, he]

/-- What eight stores into a block's columns leave. -/
theorem read_cols {κ : Kind} {sp : Space} (v : View sig κ sp S512x1024 .f32) (f) (p0 p1 p2 p3 p4 p5 p6 p7 : FVec F S512x128 .f32) :
    v.read (Elt F) (v.writes (Elt F) f
      [⟨Rect.unit (s := S512x1024) ![0, 896] S512x128.size inb_S512x1024_S512x128_0_896, p7⟩,
       ⟨Rect.unit (s := S512x1024) ![0, 768] S512x128.size inb_S512x1024_S512x128_0_768, p6⟩,
       ⟨Rect.unit (s := S512x1024) ![0, 640] S512x128.size inb_S512x1024_S512x128_0_640, p5⟩,
       ⟨Rect.unit (s := S512x1024) ![0, 512] S512x128.size inb_S512x1024_S512x128_0_512, p4⟩,
       ⟨Rect.unit (s := S512x1024) ![0, 384] S512x128.size inb_S512x1024_S512x128_0_384, p3⟩,
       ⟨Rect.unit (s := S512x1024) ![0, 256] S512x128.size inb_S512x1024_S512x128_0_256, p2⟩,
       ⟨Rect.unit (s := S512x1024) ![0, 128] S512x128.size inb_S512x1024_S512x128_0_128, p1⟩,
       ⟨Rect.unit (s := S512x1024) ![0, 0] S512x128.size inb_S512x1024_S512x128_0_0, p0⟩])
      = cols ![p0, p1, p2, p3, p4, p5, p6, p7] := by
  funext y
  refine View.read_writes_apply_of_pieces v f _ _ ?_ y ?_
  · simp only [List.mem_cons, List.not_mem_nil, or_false]
    rintro p (rfl | rfl | rfl | rfl | rfl | rfl | rfl | rfl) x <;> obtain ⟨r, e, rfl⟩ : ∃ (r : Fin 512) (e : Fin 128), x = ix2 r e := ⟨x 0, x 1, eq_ix2 x⟩
    · refine Eq.symm (cols_at _ 7 r e _ ?_ ?_)
      · show 0 + 1 * r.val = r.val; omega
      · show 896 + 1 * e.val = 128 * 7 + e.val; omega
    · refine Eq.symm (cols_at _ 6 r e _ ?_ ?_)
      · show 0 + 1 * r.val = r.val; omega
      · show 768 + 1 * e.val = 128 * 6 + e.val; omega
    · refine Eq.symm (cols_at _ 5 r e _ ?_ ?_)
      · show 0 + 1 * r.val = r.val; omega
      · show 640 + 1 * e.val = 128 * 5 + e.val; omega
    · refine Eq.symm (cols_at _ 4 r e _ ?_ ?_)
      · show 0 + 1 * r.val = r.val; omega
      · show 512 + 1 * e.val = 128 * 4 + e.val; omega
    · refine Eq.symm (cols_at _ 3 r e _ ?_ ?_)
      · show 0 + 1 * r.val = r.val; omega
      · show 384 + 1 * e.val = 128 * 3 + e.val; omega
    · refine Eq.symm (cols_at _ 2 r e _ ?_ ?_)
      · show 0 + 1 * r.val = r.val; omega
      · show 256 + 1 * e.val = 128 * 2 + e.val; omega
    · refine Eq.symm (cols_at _ 1 r e _ ?_ ?_)
      · show 0 + 1 * r.val = r.val; omega
      · show 128 + 1 * e.val = 128 * 1 + e.val; omega
    · refine Eq.symm (cols_at _ 0 r e _ ?_ ?_)
      · show 0 + 1 * r.val = r.val; omega
      · show 0 + 1 * e.val = 128 * 0 + e.val; omega
  · have hy0 : (y 0).val < 512 := (y 0).isLt
    have hy1 : (y 1).val < 1024 := (y 1).isLt
    have hm : ∀ (k : ℕ) (h), k ≤ (y 1).val → (y 1).val < k + 128 → y ∈ (Rect.unit (s := S512x1024) ![0, k] S512x128.size h).set := fun k h h1 h2 => by
      rw [Rect.mem_set_unit]
      intro a
      match a with
      | 0 => exact ⟨Nat.zero_le _, by show (y 0).val < 0 + 512; omega⟩
      | 1 => exact ⟨h1, h2⟩
    simp only [List.exists_mem_cons_iff]
    rcases (by omega : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128)) with h | h | h | h | h | h | h | h
    · exact .inl (hm _ _ h.1 h.2)
    · exact .inr <| .inl (hm _ _ h.1 h.2)
    · exact .inr <| .inr <| .inl (hm _ _ h.1 h.2)
    · exact .inr <| .inr <| .inr <| .inl (hm _ _ h.1 h.2)
    · exact .inr <| .inr <| .inr <| .inr <| .inl (hm _ _ h.1 h.2)
    · exact .inr <| .inr <| .inr <| .inr <| .inr <| .inl (hm _ _ h.1 h.2)
    · exact .inr <| .inr <| .inr <| .inr <| .inr <| .inr <| .inl (hm _ _ h.1 h.2)
    · exact .inr <| .inr <| .inr <| .inr <| .inr <| .inr <| .inr <| .inl (hm _ _ h.1 h.2)

/-- What eight interleaved stores of rows leave. -/
theorem read_rows {κ : Kind} {sp : Space} (v : View sig κ sp S4096x128 .f32) (f) (p0 p1 p2 p3 p4 p5 p6 p7 : FVec F S512x128 .f32) :
    v.read (Elt F) (v.writes (Elt F) f
      [⟨⟨(⟨![7, 0], S512x128.size, ![8, 1], inb_S4096x128_S512x128_7_0_s_8_1⟩ : LoadRect S4096x128), spos_8_1⟩, p7⟩,
       ⟨⟨(⟨![6, 0], S512x128.size, ![8, 1], inb_S4096x128_S512x128_6_0_s_8_1⟩ : LoadRect S4096x128), spos_8_1⟩, p6⟩,
       ⟨⟨(⟨![5, 0], S512x128.size, ![8, 1], inb_S4096x128_S512x128_5_0_s_8_1⟩ : LoadRect S4096x128), spos_8_1⟩, p5⟩,
       ⟨⟨(⟨![4, 0], S512x128.size, ![8, 1], inb_S4096x128_S512x128_4_0_s_8_1⟩ : LoadRect S4096x128), spos_8_1⟩, p4⟩,
       ⟨⟨(⟨![3, 0], S512x128.size, ![8, 1], inb_S4096x128_S512x128_3_0_s_8_1⟩ : LoadRect S4096x128), spos_8_1⟩, p3⟩,
       ⟨⟨(⟨![2, 0], S512x128.size, ![8, 1], inb_S4096x128_S512x128_2_0_s_8_1⟩ : LoadRect S4096x128), spos_8_1⟩, p2⟩,
       ⟨⟨(⟨![1, 0], S512x128.size, ![8, 1], inb_S4096x128_S512x128_1_0_s_8_1⟩ : LoadRect S4096x128), spos_8_1⟩, p1⟩,
       ⟨⟨(⟨![0, 0], S512x128.size, ![8, 1], inb_S4096x128_S512x128_0_0_s_8_1⟩ : LoadRect S4096x128), spos_8_1⟩, p0⟩])
      = rows ![p0, p1, p2, p3, p4, p5, p6, p7] := by
  funext y
  refine View.read_writes_apply_of_pieces v f _ _ ?_ y ?_
  · simp only [List.mem_cons, List.not_mem_nil, or_false]
    rintro p (rfl | rfl | rfl | rfl | rfl | rfl | rfl | rfl) x <;> obtain ⟨r, e, rfl⟩ : ∃ (r : Fin 512) (e : Fin 128), x = ix2 r e := ⟨x 0, x 1, eq_ix2 x⟩
    · refine Eq.symm (rows_at _ 7 r e _ ?_ ?_)
      · show 7 + 8 * r.val = 8 * r.val + 7; omega
      · show 0 + 1 * e.val = e.val; omega
    · refine Eq.symm (rows_at _ 6 r e _ ?_ ?_)
      · show 6 + 8 * r.val = 8 * r.val + 6; omega
      · show 0 + 1 * e.val = e.val; omega
    · refine Eq.symm (rows_at _ 5 r e _ ?_ ?_)
      · show 5 + 8 * r.val = 8 * r.val + 5; omega
      · show 0 + 1 * e.val = e.val; omega
    · refine Eq.symm (rows_at _ 4 r e _ ?_ ?_)
      · show 4 + 8 * r.val = 8 * r.val + 4; omega
      · show 0 + 1 * e.val = e.val; omega
    · refine Eq.symm (rows_at _ 3 r e _ ?_ ?_)
      · show 3 + 8 * r.val = 8 * r.val + 3; omega
      · show 0 + 1 * e.val = e.val; omega
    · refine Eq.symm (rows_at _ 2 r e _ ?_ ?_)
      · show 2 + 8 * r.val = 8 * r.val + 2; omega
      · show 0 + 1 * e.val = e.val; omega
    · refine Eq.symm (rows_at _ 1 r e _ ?_ ?_)
      · show 1 + 8 * r.val = 8 * r.val + 1; omega
      · show 0 + 1 * e.val = e.val; omega
    · refine Eq.symm (rows_at _ 0 r e _ ?_ ?_)
      · show 0 + 8 * r.val = 8 * r.val + 0; omega
      · show 0 + 1 * e.val = e.val; omega
  · have hy0 : (y 0).val < 4096 := (y 0).isLt
    have hy1 : (y 1).val < 128 := (y 1).isLt
    have hm : ∀ (k : ℕ) (h) (h'), (y 0).val % 8 = k → y ∈ (⟨(⟨![k, 0], S512x128.size, ![8, 1], h⟩ : LoadRect S4096x128), h'⟩ : Rect S4096x128).set := fun k h h' hk => by
      refine (LoadRect.mem_set _).mpr ?_
      intro a
      match a with
      | 0 => exact ⟨(y 0).val / 8, by show (y 0).val / 8 < 512; omega, by show (y 0).val = k + 8 * ((y 0).val / 8); omega⟩
      | 1 => exact ⟨(y 1).val, hy1, by show (y 1).val = 0 + 1 * (y 1).val; omega⟩
    simp only [List.exists_mem_cons_iff]
    rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
    · exact .inl (hm _ _ spos_8_1 h)
    · exact .inr <| .inl (hm _ _ spos_8_1 h)
    · exact .inr <| .inr <| .inl (hm _ _ spos_8_1 h)
    · exact .inr <| .inr <| .inr <| .inl (hm _ _ spos_8_1 h)
    · exact .inr <| .inr <| .inr <| .inr <| .inl (hm _ _ spos_8_1 h)
    · exact .inr <| .inr <| .inr <| .inr <| .inr <| .inl (hm _ _ spos_8_1 h)
    · exact .inr <| .inr <| .inr <| .inr <| .inr <| .inr <| .inl (hm _ _ spos_8_1 h)
    · exact .inr <| .inr <| .inr <| .inr <| .inr <| .inr <| .inr <| .inl (hm _ _ spos_8_1 h)

theorem pay31_eq (x : Vec F S512x128 .f32) : k0_pay31 x = x := shapeCast_id _ _
theorem pay32_eq (x : Vec F S512x128 .f32) : k0_pay32 x = x := shapeCast_id _ _
theorem pay33_eq (x : Vec F S512x128 .f32) : k0_pay33 x = x := shapeCast_id _ _
theorem pay44_eq (x : Vec F S512x128 .f32) : k0_pay44 x = x := shapeCast_id _ _
theorem pay45_eq (x : Vec F S512x128 .f32) : k0_pay45 x = x := shapeCast_id _ _

/-- A whole buffer, loaded. -/
theorem at_whole {s : Shape} {e : EltTy} (m : Memref sig .tc .vmem s e) (h : m.IsWhole) (x : Vec F s e) {off : Fin s.rank → ℕ}
    (inb : ∀ a, off a + s.size a ≤ s.size a) :
    m.view.readAt (Elt F) (Rect.unit off s.size inb).toLoadRect (h.unread x) = x :=
  (View.readAt_full _ _ _).trans (h.read_unread x)

end Cert.InprojIdeal.Result

end
-- ==== Proof.InprojDat.lean ====
/- The input projection: what the buffers hold after each grid point. -/
module

public import proofs.«01_k».proof.Proof.InprojPoint
public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4096x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4096x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4096x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S4096x128 .f32 := win0_12.stage (cfg0.slots t 12)
abbrev hs12 (t : Fin cfg0.N) : (ms12 t).IsWhole := hstage0_12 ((cfg0.slots t 12).cast nbuf0_12)
/-- The buffer carried between points. -/
abbrev scM : Memref sig .tc .vmem S512x2048 .bf16 := Memref.whole cc0_scratch0

theorem PhiA_eq (c : Dev nD) :
    (Pipeline.ΦA spec0 c : sProp (MT nD τ sig Unit (Elt F) ℕ (UR sig nD τ) ℕ)) = iprop((∃ d, owns (c : Thread nD τ) scM fullShare d) ∗ (∃ r, prngReg c r)) := by
  unfold Pipeline.ΦA; rw [scopedRest0_eq]; simp only [owns_whole]; try rfl

/-- The normalised rows of the row block of point `t`. -/
def xsv (c : Dev nD) (t : Fin cfg0.N) : FVec F S512x2048 .bf16 :=
  k0_pay1 (iblk m c 0 (seg t 0 (Nat.zero_lt_succ _))) (iblk m c 1 (seg t 0 (Nat.zero_lt_succ _)))

theorem xsv_eq (c : Dev nD) (t u : Fin cfg0.N) (h : t.val / 16 = u.val / 16) : xsv m c t = xsv m c u := by
  unfold xsv; rw [seg_eq t u 0 _ h]

/-- The product of those rows with the weights of point `t`. -/
def prod (c : Dev nD) (t : Fin cfg0.N) : FVec F S512x1024 .f32 := k0_pay2 (xsv m c t) (iblk m c 2 t)

/-- The product rotated head by head over the first columns. -/
def prodM (c : Dev nD) (t : Fin cfg0.N) : Fin 8 → FVec F S512x128 .f32 :=
  part (prod m c t) (iblk m c 3 t) (iblk m c 4 t) (iblk m c 5 t)

/-- The product rotated head by head over all columns, and scaled. -/
def prodR (c : Dev nD) (t : Fin cfg0.N) : Fin 8 → FVec F S512x128 .f32 :=
  full (prod m c t) (iblk m c 6 t) (iblk m c 7 t) (k0_pay46 (BitVec.ofNat 32 ((grid0.coords t) 1).val))

/-- What point `t` stores in its block of the projection. -/
def zv (c : Dev nD) (t : Fin cfg0.N) : FVec F S512x1024 .f32 :=
  if 3 ≤ t.val % 16 ∧ t.val % 16 ≤ 4 then cols (prodM m c t)
  else if 6 ≤ t.val % 16 ∧ t.val % 16 ≤ 7 then cols (prodR m c t)
  else prod m c t

/-- The heads stored row by row. -/
def kav (c : Dev nD) (t : Fin cfg0.N) : FVec F S4096x128 .f32 := rows (head (prod m c (seg t 1 (by decide))))
def vav (c : Dev nD) (t : Fin cfg0.N) : FVec F S4096x128 .f32 := rows (head (prod m c (seg t 2 (by decide))))
def kmv (c : Dev nD) (t : Fin cfg0.N) : FVec F S4096x128 .f32 := rows (prodM m c (seg t 4 (by decide)))
def vmv (c : Dev nD) (t : Fin cfg0.N) : FVec F S4096x128 .f32 := rows (head (prod m c (seg t 5 (by decide))))

/-- Before a point: any contents of the carried buffer at the first, and the normalised rows after that. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) scM fullShare (xsv m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (t : Fin cfg0.N) (hz : t.val % 16 ≠ 0) :
    PhiS m c t.val (Nat.le_of_lt t.isLt) = iprop(owns (c : Thread nD τ) scM fullShare (xsv m c t) ∗ (∃ r, prngReg c r)) := by
  obtain ⟨n, hn⟩ := t
  cases n with
  | zero => exact absurd (Nat.zero_mod _) hz
  | succ n =>
    have hz' : (n + 1) % 16 ≠ 0 := hz
    have e : xsv m c ⟨n, Nat.lt_of_succ_lt hn⟩ = xsv m c ⟨n + 1, hn⟩ := xsv_eq m c _ _ (by show n / 16 = (n + 1) / 16; omega)
    rw [← e]; rfl

theorem PhiS_any (c : Dev nD) (n : ℕ) (h : n ≤ cfg0.N) : PhiS m c n h ⊢ Pipeline.ΦA spec0 c := by
  cases n with
  | zero => exact Idealize.SL.BI.Entails.refl _
  | succ n =>
    rw [PhiA_eq]
    show (iprop(owns (c : Thread nD τ) scM fullShare (xsv m c ⟨n, h⟩) ∗ (∃ r, prngReg c r)) : sProp (MT nD τ sig Unit (Elt F) ℕ (UR sig nD τ) ℕ)) ⊢ _
    iintro ⟨HS, Hg⟩
    isplitl [HS]
    · iexists _; iexact HS
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zv m c t
    | ⟨9, _⟩ => kav m c t
    | ⟨10, _⟩ => vav m c t
    | ⟨11, _⟩ => kmv m c t
    | ⟨12, _⟩ => vmv m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = zv m c t := by dsimp only [dats]
theorem after0_9 (c : Dev nD) (t : Fin cfg0.N) : (dats m 0 c).after 9 t = kav m c t := by dsimp only [dats]
theorem after0_10 (c : Dev nD) (t : Fin cfg0.N) : (dats m 0 c).after 10 t = vav m c t := by dsimp only [dats]
theorem after0_11 (c : Dev nD) (t : Fin cfg0.N) : (dats m 0 c).after 11 t = kmv m c t := by dsimp only [dats]
theorem after0_12 (c : Dev nD) (t : Fin cfg0.N) : (dats m 0 c).after 12 t = vmv m c t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    ((dats m 0 c).leavesExact 0 t : sProp (MT nD τ sig Unit (Elt F) ℕ (UR sig nD τ) ℕ)) = owns (c : Thread nD τ) (ms0 t) fullShare (iblk m c 0 t) := by
  rw [← after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    ((dats m 0 c).leavesExact 1 t : sProp (MT nD τ sig Unit (Elt F) ℕ (UR sig nD τ) ℕ)) = owns (c : Thread nD τ) (ms1 t) fullShare (iblk m c 1 t) := by
  rw [← after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    ((dats m 0 c).leavesExact 2 t : sProp (MT nD τ sig Unit (Elt F) ℕ (UR sig nD τ) ℕ)) = owns (c : Thread nD τ) (ms2 t) fullShare (iblk m c 2 t) := by
  rw [← after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    ((dats m 0 c).leavesExact 3 t : sProp (MT nD τ sig Unit (Elt F) ℕ (UR sig nD τ) ℕ)) = owns (c : Thread nD τ) (ms3 t) fullShare (iblk m c 3 t) := by
  rw [← after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    ((dats m 0 c).leavesExact 4 t : sProp (MT nD τ sig Unit (Elt F) ℕ (UR sig nD τ) ℕ)) = owns (c : Thread nD τ) (ms4 t) fullShare (iblk m c 4 t) := by
  rw [← after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    ((dats m 0 c).leavesExact 5 t : sProp (MT nD τ sig Unit (Elt F) ℕ (UR sig nD τ) ℕ)) = owns (c : Thread nD τ) (ms5 t) fullShare (iblk m c 5 t) := by
  rw [← after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    ((dats m 0 c).leavesExact 6 t : sProp (MT nD τ sig Unit (Elt F) ℕ (UR sig nD τ) ℕ)) = owns (c : Thread nD τ) (ms6 t) fullShare (iblk m c 6 t) := by
  rw [← after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    ((dats m 0 c).leavesExact 7 t : sProp (MT nD τ sig Unit (Elt F) ℕ (UR sig nD τ) ℕ)) = owns (c : Thread nD τ) (ms7 t) fullShare (iblk m c 7 t) := by
  rw [← after0_7]
theorem leaves0_8 (c : Dev nD) (t : Fin cfg0.N) :
    ((dats m 0 c).leavesExact 8 t : sProp (MT nD τ sig Unit (Elt F) ℕ (UR sig nD τ) ℕ)) = owns (c : Thread nD τ) (ms8 t) fullShare (zv m c t) := by
  unfold Dat.leavesExact
  rw [idle8 t, ← after0_8]
theorem kav_eq (c : Dev nD) (t u : Fin cfg0.N) (h : t.val / 16 = u.val / 16) : (dats m 0 c).after 9 t = (dats m 0 c).after 9 u := by
  rw [after0_9, after0_9]; unfold kav; rw [seg_eq t u 1 _ h]
theorem keep9 (c : Dev nD) (t : Fin cfg0.N) (h : t.val % 16 ≠ 1) :
    iprop(∃ d, owns (c : Thread nD τ) (ms9 t) fullShare ((dats m 0 c).before 9 t d)) ⊢ ((dats m 0 c).leavesExact 9 t : sProp (MT nD τ sig Unit (Elt F) ℕ (UR sig nD τ) ℕ)) :=
  kv_leaves (dats m 0 c) 9 1 (by decide) idle9 (fun _ => rfl) flush0_9 (fun _ _ => rfl) (kav_eq m c) t h
theorem live9 (c : Dev nD) (t : Fin cfg0.N) (h : t.val % 16 = 1) :
    ((dats m 0 c).leavesExact 9 t : sProp (MT nD τ sig Unit (Elt F) ℕ (UR sig nD τ) ℕ)) = owns (c : Thread nD τ) (ms9 t) fullShare (rows (head (prod m c t))) := by
  refine (kv_live (dats m 0 c) 9 1 idle9 t h).trans ?_
  rw [after0_9]; unfold kav; rw [seg_self t 1 _ h]
theorem vav_eq (c : Dev nD) (t u : Fin cfg0.N) (h : t.val / 16 = u.val / 16) : (dats m 0 c).after 10 t = (dats m 0 c).after 10 u := by
  rw [after0_10, after0_10]; unfold vav; rw [seg_eq t u 2 _ h]
theorem keep10 (c : Dev nD) (t : Fin cfg0.N) (h : t.val % 16 ≠ 2) :
    iprop(∃ d, owns (c : Thread nD τ) (ms10 t) fullShare ((dats m 0 c).before 10 t d)) ⊢ ((dats m 0 c).leavesExact 10 t : sProp (MT nD τ sig Unit (Elt F) ℕ (UR sig nD τ) ℕ)) :=
  kv_leaves (dats m 0 c) 10 2 (by decide) idle10 (fun _ => rfl) flush0_10 (fun _ _ => rfl) (vav_eq m c) t h
theorem live10 (c : Dev nD) (t : Fin cfg0.N) (h : t.val % 16 = 2) :
    ((dats m 0 c).leavesExact 10 t : sProp (MT nD τ sig Unit (Elt F) ℕ (UR sig nD τ) ℕ)) = owns (c : Thread nD τ) (ms10 t) fullShare (rows (head (prod m c t))) := by
  refine (kv_live (dats m 0 c) 10 2 idle10 t h).trans ?_
  rw [after0_10]; unfold vav; rw [seg_self t 2 _ h]
theorem kmv_eq (c : Dev nD) (t u : Fin cfg0.N) (h : t.val / 16 = u.val / 16) : (dats m 0 c).after 11 t = (dats m 0 c).after 11 u := by
  rw [after0_11, after0_11]; unfold kmv; rw [seg_eq t u 4 _ h]
theorem keep11 (c : Dev nD) (t : Fin cfg0.N) (h : t.val % 16 ≠ 4) :
    iprop(∃ d, owns (c : Thread nD τ) (ms11 t) fullShare ((dats m 0 c).before 11 t d)) ⊢ ((dats m 0 c).leavesExact 11 t : sProp (MT nD τ sig Unit (Elt F) ℕ (UR sig nD τ) ℕ)) :=
  kv_leaves (dats m 0 c) 11 4 (by decide) idle11 (fun _ => rfl) flush0_11 (fun _ _ => rfl) (kmv_eq m c) t h
theorem live11 (c : Dev nD) (t : Fin cfg0.N) (h : t.val % 16 = 4) :
    ((dats m 0 c).leavesExact 11 t : sProp (MT nD τ sig Unit (Elt F) ℕ (UR sig nD τ) ℕ)) = owns (c : Thread nD τ) (ms11 t) fullShare (rows (prodM m c t)) := by
  refine (kv_live (dats m 0 c) 11 4 idle11 t h).trans ?_
  rw [after0_11]; unfold kmv; rw [seg_self t 4 _ h]
theorem vmv_eq (c : Dev nD) (t u : Fin cfg0.N) (h : t.val / 16 = u.val / 16) : (dats m 0 c).after 12 t = (dats m 0 c).after 12 u := by
  rw [after0_12, after0_12]; unfold vmv; rw [seg_eq t u 5 _ h]
theorem keep12 (c : Dev nD) (t : Fin cfg0.N) (h : t.val % 16 ≠ 5) :
    iprop(∃ d, owns (c : Thread nD τ) (ms12 t) fullShare ((dats m 0 c).before 12 t d)) ⊢ ((dats m 0 c).leavesExact 12 t : sProp (MT nD τ sig Unit (Elt F) ℕ (UR sig nD τ) ℕ)) :=
  kv_leaves (dats m 0 c) 12 5 (by decide) idle12 (fun _ => rfl) flush0_12 (fun _ _ => rfl) (vmv_eq m c) t h
theorem live12 (c : Dev nD) (t : Fin cfg0.N) (h : t.val % 16 = 5) :
    ((dats m 0 c).leavesExact 12 t : sProp (MT nD τ sig Unit (Elt F) ℕ (UR sig nD τ) ℕ)) = owns (c : Thread nD τ) (ms12 t) fullShare (rows (head (prod m c t))) := by
  refine (kv_live (dats m 0 c) 12 5 idle12 t h).trans ?_
  rw [after0_12]; unfold vmv; rw [seg_self t 5 _ h]

end Cert.InprojIdeal.Result

end
-- ==== Proof.InprojRunA.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The first point of a row block: it normalises the rows, and stores its product as it is. -/
theorem run_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : ¬ (k0_cond8 i = 1#1)) (x0 : Vec F S512x2048 .f32) (x1 : Vec F S1x2048 .f32) (w : Vec F S1x2048x1024 .bf16) :
      ∀ (E : Set ℕ) (K : PUnit → sProp (MT nD τ sig Unit (Elt F) ℕ (UR sig nD τ) ℕ)),
        iprop(owns (c : Thread nD τ) arg2 fullShare (x0) ∗ owns (c : Thread nD τ) arg3 fullShare (x1) ∗ owns (c : Thread nD τ) arg4 fullShare (w) ∗ (∃ d, owns (c : Thread nD τ) arg10 fullShare d) ∗ (∃ d, owns (c : Thread nD τ) arg15 fullShare d)
            ∗ (iprop(owns (c : Thread nD τ) arg2 fullShare (x0) ∗ owns (c : Thread nD τ) arg3 fullShare (x1) ∗ owns (c : Thread nD τ) arg4 fullShare (w) ∗ owns (c : Thread nD τ) arg10 fullShare (k0_pay2 (k0_pay1 x0 x1) w) ∗ owns (c : Thread nD τ) arg15 fullShare (k0_pay1 x0 x1)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%d10, %f10, -, H10⟩, ⟨%d15, %f15, -, H15⟩, Hk⟩
  obtain rfl := harg2.eq_unread hf2; obtain rfl := harg3.eq_unread hf3; obtain rfl := harg4.eq_unread hf4
  have e2 : View.readAt (Elt F) arg2.view (Rect.unit (s := S512x2048) ![0, 0] S512x2048.size inb_S512x2048_S512x2048_0_0).toLoadRect (harg2.unread x0) = x0 := at_whole _ _ _ _
  have e2' : View.readAt (Elt F) arg2.view (Rect.unit (s := S512x2048) ![0, 0] ![512, 2048] inb_S512x2048_S512x2048_0_0).toLoadRect (harg2.unread x0) = x0 := at_whole _ _ _ _
  have e3 : View.readAt (Elt F) arg3.view (Rect.unit (s := S1x2048) ![0, 0] S1x2048.size inb_S1x2048_S1x2048_0_0).toLoadRect (harg3.unread x1) = x1 := at_whole _ _ _ _
  have e3' : View.readAt (Elt F) arg3.view (Rect.unit (s := S1x2048) ![0, 0] ![1, 2048] inb_S1x2048_S1x2048_0_0).toLoadRect (harg3.unread x1) = x1 := at_whole _ _ _ _
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  sl_exec (disch := first | sl_exact hc0 | sl_exact hc2 | sl_exact hc4 | sl_exact hc5 | sl_exact hc6 | sl_exact hc7 | sl_exact hc8)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H10]
  · iexists _; isplitr; swap; · iexact H10
    ipureintro
    unfold run_A.sl.v3
    exact (View.read_writes_full _ _ _ _ _).trans (congrArg (k0_pay2 · w) (View.readCov_full _ _ _ _ _))
  iexists _; isplitr; swap; · iexact H15
  ipureintro
  unfold run_A.sl.H15_1
  exact View.read_writes_full _ _ _ _ _

end Cert.InprojIdeal.Result

end
-- ==== Proof.InprojRunD.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that stores its product as it is. -/
theorem run_D (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : ¬ (k0_cond8 i = 1#1)) (w : Vec F S1x2048x1024 .bf16) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d)
            ∗ (iprop(owns (c : Thread nD τ) arg4 fullShare (w) ∗ owns (c : Thread nD τ) arg15 fullShare (xs) ∗ owns (c : Thread nD τ) arg10 fullShare (k0_pay2 xs w)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  iexists _; isplitr; swap; · iexact H10
  ipureintro
  exact (View.read_writes_full _ _ _ _ _).trans (by simp only [e4, e4', e15, e15'])

end Cert.InprojIdeal.Result

end
-- ==== Proof.InprojRunR.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over all their columns. -/
theorem run_R (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : (k0_cond4 i = 1#1)) (hc5 : ¬ (k0_cond5 i = 1#1)) (w : Vec F S1x2048x1024 .bf16) (tc : Vec F S512x128 .f32) (ts : Vec F S512x128 .f32) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg8 fullShare (tc) ∗ owns (c : Thread nD τ) arg9 fullShare (ts) ∗ owns (c : Thread nD τ) arg15 fullShare (xs) ∗ (∃ d, owns (c : Thread nD τ) arg10 fullShare d)
            ∗ (iprop(owns (c : Thread nD τ) arg4 fullShare (w) ∗ owns (c : Thread nD τ) arg8 fullShare (tc) ∗ owns (c : Thread nD τ) arg9 fullShare (ts) ∗ owns (c : Thread nD τ) arg15 fullShare (xs) ∗ owns (c : Thread nD τ) arg10 fullShare (cols (full (k0_pay2 xs w) tc ts (k0_pay46 (BitVec.ofNat 32 (i 1).val))))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f8, %hf8, H8⟩, ⟨%f9, %hf9, H9⟩, ⟨%f15, %hf15, H15⟩, ⟨%d10, %f10, -, H10⟩, Hk⟩
  obtain rfl := harg4.eq_unread hf4; obtain rfl := harg8.eq_unread hf8; obtain rfl := harg9.eq_unread hf9; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e8 : View.readAt (Elt F) arg8.view (Rect.unit (s := S512x128) ![0, 0] S512x128.size inb_S512x128_S512x128_0_0).toLoadRect (harg8.unread tc) = tc := at_whole _ _ _ _
  have e8' : View.readAt (Elt F) arg8.view (Rect.unit (s := S512x128) ![0, 0] ![512, 128] inb_S512x128_S512x128_0_0).toLoadRect (harg8.unread tc) = tc := at_whole _ _ _ _
  have e9 : View.readAt (Elt F) arg9.view (Rect.unit (s := S512x128) ![0, 0] S512x128.size inb_S512x128_S512x128_0_0).toLoadRect (harg9.unread ts) = ts := at_whole _ _ _ _
  have e9' : View.readAt (Elt F) arg9.view (Rect.unit (s := S512x128) ![0, 0] ![512, 128] inb_S512x128_S512x128_0_0).toLoadRect (harg9.unread ts) = ts := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc4 | sl_exact hc5)
  sl_step
  iapply Hk
  isplitl [H4]
  · iexists _; isplitr; swap; · iexact H4
    ipureintro
    exact harg4.read_unread _
  isplitl [H8]
  · iexists _; isplitr; swap; · iexact H8
    ipureintro
    exact harg8.read_unread _
  isplitl [H9]
  · iexists _; isplitr; swap; · iexact H9
    ipureintro
    exact harg9.read_unread _
  isplitl [H15]
  · iexists _; isplitr; swap; · iexact H15
    ipureintro
    exact harg15.read_unread _
  iexists _; isplitr; swap; · iexact H10
  ipureintro
  delta run_R.sl.r_1 run_R.sl.r
  (try simp only [e4, e4', e8, e8', e9, e9', e15, e15', k0_pay3, k0_pay4, k0_pay5, k0_pay6, k0_pay47, k0_pay48, k0_pay49, k0_pay50, pay44_eq, pay45_eq])
  exact (read_cols _ _ _ _ _ _ _ _ _ _).trans (congrArg cols (funext fun j => by fin_cases j <;> rfl))

end Cert.InprojIdeal.Result

end
-- ==== Proof.InprojRunK6.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : (k0_cond6 i = 1#1)) (hc7 : ¬ (k0_cond7 i = 1#1)) (hc8 : ¬ (k0_cond8 i = 1#1)) (w : Vec F S1x2048x1024 .bf16) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg11 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg11 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d11, %f11, -, H11⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H11
  ipureintro
  skip
  (try simp only [e4, e4', e15, e15', k0_pay7, k0_pay8, k0_pay9, k0_pay10, k0_pay11, k0_pay12, k0_pay13, k0_pay14])
  exact (read_rows _ _ _ _ _ _ _ _ _ _).trans (congrArg rows (funext fun j => by fin_cases j <;> rfl))

end Cert.InprojIdeal.Result

end
-- ==== Proof.InprojRunK7.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : (k0_cond7 i = 1#1)) (hc8 : ¬ (k0_cond8 i = 1#1)) (w : Vec F S1x2048x1024 .bf16) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg12 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg12 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d12, %f12, -, H12⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H12
  ipureintro
  skip
  (try simp only [e4, e4', e15, e15', k0_pay15, k0_pay16, k0_pay17, k0_pay18, k0_pay19, k0_pay20, k0_pay21, k0_pay22])
  exact (read_rows _ _ _ _ _ _ _ _ _ _).trans (congrArg rows (funext fun j => by fin_cases j <;> rfl))

end Cert.InprojIdeal.Result

end
-- ==== Proof.InprojRunK8.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : (k0_cond8 i = 1#1)) (w : Vec F S1x2048x1024 .bf16) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg14 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg14 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d14, %f14, -, H14⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H14
  ipureintro
  skip
  (try simp only [e4, e4', e15, e15', k0_pay23, k0_pay24, k0_pay25, k0_pay26, k0_pay27, k0_pay28, k0_pay29, k0_pay30])
  exact (read_rows _ _ _ _ _ _ _ _ _ _).trans (congrArg rows (funext fun j => by fin_cases j <;> rfl))

end Cert.InprojIdeal.Result

end
-- ==== Proof.InprojRunM3.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over their first columns. -/
theorem run_M3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : (k0_cond2 i = 1#1)) (hc3 : ¬ (k0_cond3 i = 1#1)) (hc4 : ¬ (k0_cond4 i = 1#1)) (hc5 : ¬ (k0_cond5 i = 1#1)) (w : Vec F S1x2048x1024 .bf16) (tc : Vec F S512x128 .f32) (t1 : Vec F S512x128 .f32) (t2 : Vec F S512x128 .f32) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ (∃ d, owns (c : Thread nD τ) arg10 fullShare d)
            ∗ (iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ owns (c : Thread nD τ) arg10 fullShare (cols (part (k0_pay2 xs w) tc t1 t2))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f15, %hf15, H15⟩, ⟨%d10, %f10, -, H10⟩, Hk⟩
  obtain rfl := harg4.eq_unread hf4; obtain rfl := harg5.eq_unread hf5; obtain rfl := harg6.eq_unread hf6; obtain rfl := harg7.eq_unread hf7; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e5 : View.readAt (Elt F) arg5.view (Rect.unit (s := S512x128) ![0, 0] S512x128.size inb_S512x128_S512x128_0_0).toLoadRect (harg5.unread tc) = tc := at_whole _ _ _ _
  have e5' : View.readAt (Elt F) arg5.view (Rect.unit (s := S512x128) ![0, 0] ![512, 128] inb_S512x128_S512x128_0_0).toLoadRect (harg5.unread tc) = tc := at_whole _ _ _ _
  have e6 : View.readAt (Elt F) arg6.view (Rect.unit (s := S512x128) ![0, 0] S512x128.size inb_S512x128_S512x128_0_0).toLoadRect (harg6.unread t1) = t1 := at_whole _ _ _ _
  have e6' : View.readAt (Elt F) arg6.view (Rect.unit (s := S512x128) ![0, 0] ![512, 128] inb_S512x128_S512x128_0_0).toLoadRect (harg6.unread t1) = t1 := at_whole _ _ _ _
  have e7 : View.readAt (Elt F) arg7.view (Rect.unit (s := S512x128) ![0, 0] S512x128.size inb_S512x128_S512x128_0_0).toLoadRect (harg7.unread t2) = t2 := at_whole _ _ _ _
  have e7' : View.readAt (Elt F) arg7.view (Rect.unit (s := S512x128) ![0, 0] ![512, 128] inb_S512x128_S512x128_0_0).toLoadRect (harg7.unread t2) = t2 := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc3 | sl_exact hc4 | sl_exact hc5)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H15]
  · iexists _; isplitr; swap; · iexact H15
    ipureintro
    exact harg15.read_unread _
  iexists _; isplitr; swap; · iexact H10
  ipureintro
  delta run_M3.sl.r_9 run_M3.sl.r_8 run_M3.sl.r_7 run_M3.sl.r_6 run_M3.sl.r_5 run_M3.sl.r_4 run_M3.sl.r_3 run_M3.sl.r_2 run_M3.sl.r_1 run_M3.sl.r
  (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
  exact (read_cols _ _ _ _ _ _ _ _ _ _).trans (congrArg cols (funext fun j => by fin_cases j <;> rfl))

end Cert.InprojIdeal.Result

end
-- ==== Proof.InprojRunM4.lean ====
/- The input projection: what one grid point stores, by the column block it works on. -/
module

public import proofs.«01_k».proof.Proof.InprojSpec
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over their first columns. -/
theorem run_M4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S512x2048 .bf16) (harg15 : arg15.IsWhole) (hc0 : ¬ ((Scalar.cmpi .ne (Scalar.extui (Scalar.cmpi .eq (BitVec.ofNat 32 (i 1).val) 0#32)) 0#32) = 1#1)) (hc2 : (k0_cond2 i = 1#1)) (hc3 : (k0_cond3 i = 1#1)) (hc4 : ¬ (k0_cond4 i = 1#1)) (hc5 : ¬ (k0_cond5 i = 1#1)) (w : Vec F S1x2048x1024 .bf16) (tc : Vec F S512x128 .f32) (t1 : Vec F S512x128 .f32) (t2 : Vec F S512x128 .f32) (xs : Vec F S512x2048 .bf16) :
      ∀ (E : Set ℕ) (K : PUnit → sProp (MT nD τ sig Unit (Elt F) ℕ (UR sig nD τ) ℕ)),
        iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ (∃ d, owns (c : Thread nD τ) arg10 fullShare d) ∗ (∃ d, owns (c : Thread nD τ) arg13 fullShare d)
            ∗ (iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ owns (c : Thread nD τ) arg10 fullShare (cols (part (k0_pay2 xs w) tc t1 t2)) ∗ owns (c : Thread nD τ) arg13 fullShare (rows (part (k0_pay2 xs w) tc t1 t2))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f15, %hf15, H15⟩, ⟨%d10, %f10, -, H10⟩, ⟨%d13, %f13, -, H13⟩, Hk⟩
  obtain rfl := harg4.eq_unread hf4; obtain rfl := harg5.eq_unread hf5; obtain rfl := harg6.eq_unread hf6; obtain rfl := harg7.eq_unread hf7; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e5 : View.readAt (Elt F) arg5.view (Rect.unit (s := S512x128) ![0, 0] S512x128.size inb_S512x128_S512x128_0_0).toLoadRect (harg5.unread tc) = tc := at_whole _ _ _ _
  have e5' : View.readAt (Elt F) arg5.view (Rect.unit (s := S512x128) ![0, 0] ![512, 128] inb_S512x128_S512x128_0_0).toLoadRect (harg5.unread tc) = tc := at_whole _ _ _ _
  have e6 : View.readAt (Elt F) arg6.view (Rect.unit (s := S512x128) ![0, 0] S512x128.size inb_S512x128_S512x128_0_0).toLoadRect (harg6.unread t1) = t1 := at_whole _ _ _ _
  have e6' : View.readAt (Elt F) arg6.view (Rect.unit (s := S512x128) ![0, 0] ![512, 128] inb_S512x128_S512x128_0_0).toLoadRect (harg6.unread t1) = t1 := at_whole _ _ _ _
  have e7 : View.readAt (Elt F) arg7.view (Rect.unit (s := S512x128) ![0, 0] S512x128.size inb_S512x128_S512x128_0_0).toLoadRect (harg7.unread t2) = t2 := at_whole _ _ _ _
  have e7' : View.readAt (Elt F) arg7.view (Rect.unit (s := S512x128) ![0, 0] ![512, 128] inb_S512x128_S512x128_0_0).toLoadRect (harg7.unread t2) = t2 := at_whole _ _ _ _
  have e15 : View.readAt (Elt F) arg15.view (Rect.unit (s := S512x2048) ![0, 0] S512x2048.size inb_S512x2048_S512x2048_0_0).toLoadRect (harg15.unread xs) = xs := at_whole _ _ _ _
  have e15' : View.readAt (Elt F) arg15.view (Rect.unit (s := S512x2048) ![0, 0] ![512, 2048] inb_S512x2048_S512x2048_0_0).toLoadRect (harg15.unread xs) = xs := at_whole _ _ _ _
  sl_exec (disch := first | sl_exact hc0 | sl_exact hc2 | sl_exact hc3 | sl_exact hc4 | sl_exact hc5)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H15]
  · iexists _; isplitr; swap; · iexact H15
    ipureintro
    exact harg15.read_unread _
  isplitl [H10]
  · iexists _; isplitr; swap; · iexact H10
    ipureintro
    delta run_M4.sl.r_9 run_M4.sl.r_8 run_M4.sl.r_7 run_M4.sl.r_6 run_M4.sl.r_5 run_M4.sl.r_4 run_M4.sl.r_3 run_M4.sl.r_2 run_M4.sl.r_1 run_M4.sl.r
    (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
    exact (read_cols _ _ _ _ _ _ _ _ _ _).trans (congrArg cols (funext fun j => by fin_cases j <;> rfl))
  iexists _; isplitr; swap; · iexact H13
  ipureintro
  delta run_M4.sl.r_9 run_M4.sl.r_8 run_M4.sl.r_7 run_M4.sl.r_6 run_M4.sl.r_5 run_M4.sl.r_4 run_M4.sl.r_3 run_M4.sl.r_2 run_M4.sl.r_1 run_M4.sl.r
  (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
  exact (read_rows _ _ _ _ _ _ _ _ _ _).trans (congrArg rows (funext fun j => by fin_cases j <;> rfl))

end Cert.InprojIdeal.Result

end
-- ==== Proof.InprojFrame.lean ====
/- The input projection: the run of the call, from any memory, over any floats. -/
module

public import proofs.«01_k».proof.Proof.InprojDat
public import proofs.«01_k».proof.Proof.InprojRunA
public import proofs.«01_k».proof.Proof.InprojRunD
public import proofs.«01_k».proof.Proof.InprojRunR
public import proofs.«01_k».proof.Proof.InprojRunK6
public import proofs.«01_k».proof.Proof.InprojRunK7
public import proofs.«01_k».proof.Proof.InprojRunK8
public import proofs.«01_k».proof.Proof.InprojRunM3
public import proofs.«01_k».proof.Proof.InprojRunM4
public import Idealize.ShloMosaic.Lib.Claim
public import proofs.«01_k».proof.Proof.Gen.InprojIdeal.Skeleton
public import Idealize.ShloMosaic.Lib.Pointwise
public import Idealize.ShloMosaic.Lib.VecWindow

@[expose] public section

set_option maxRecDepth 16384

noncomputable section

namespace Cert.InprojIdeal.Result

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1600000 in
/-- The first point of a row block. -/
theorem body_A (c : Dev nD) (t : Fin cfg0.N) (hN : t.val < 256) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t]
  refine (sep_mono_left (PhiS_any m c _ _)).trans ?_
  rw [PhiA_eq]
  rw [show zv m c t = k0_pay2 (xsv m c t) (iblk m c 2 t) from (if_neg (by omega)).trans (if_neg (by omega)),
    show xsv m c t = k0_pay1 (iblk m c 0 t) (iblk m c 1 t) from by unfold xsv; rw [seg_self t 0 _ h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hc0 t).mpr (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) (fun h => absurd ((hc8 t).mp h) (by omega)) (iblk m c 0 t) (iblk m c 1 t) (iblk m c 2 t) Set.univ _)
  isplitl [H0]; · iexact H0
  isplitl [H1]; · iexact H1
  isplitl [H2]; · iexact H2
  isplitl [H8]; · iexists _; iexact H8
  isplitl [HS]; · iexact HS
  iintro ⟨H0, H1, H2, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that only stores its product. -/
theorem body_D (c : Dev nD) (t : Fin cfg0.N) (hN : t.val < 256) (h : 8 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) (fun h => absurd ((hc8 t).mp h) (by omega)) (iblk m c 2 t) (xsv m c t) Set.univ _)
  isplitl [H2]; · iexact H2
  isplitl [HS]; · iexact HS
  isplitl [H8]; · iexists _; iexact H8
  iintro ⟨H2, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that also stores its heads row by row. -/
theorem body_K6 (c : Dev nD) (t : Fin cfg0.N) (hN : t.val < 256) (h : t.val % 16 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live9 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) ((hc6 t).mpr (by omega)) (fun h => absurd ((hc7 t).mp h) (by omega)) (fun h => absurd ((hc8 t).mp h) (by omega)) (iblk m c 2 t) (xsv m c t) Set.univ _)
  isplitl [H2]; · iexact H2
  isplitl [HS]; · iexact HS
  isplitl [H8]; · iexists _; iexact H8
  isplitl [H9]; · iexists _; iexact H9
  iintro ⟨H2, HS, H8, H9⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that also stores its heads row by row. -/
theorem body_K7 (c : Dev nD) (t : Fin cfg0.N) (hN : t.val < 256) (h : t.val % 16 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live10 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) ((hc7 t).mpr (by omega)) (fun h => absurd ((hc8 t).mp h) (by omega)) (iblk m c 2 t) (xsv m c t) Set.univ _)
  isplitl [H2]; · iexact H2
  isplitl [HS]; · iexact HS
  isplitl [H8]; · iexists _; iexact H8
  isplitl [H10]; · iexists _; iexact H10
  iintro ⟨H2, HS, H8, H10⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iexact H10
  isplitl [H11]; · iapply (keep11 m c t (by omega)); iexists _; iexact H11
  iapply (keep12 m c t (by omega)); iexists _; iexact H12

set_option maxHeartbeats 1600000 in
/-- A point that also stores its heads row by row. -/
theorem body_K8 (c : Dev nD) (t : Fin cfg0.N) (hN : t.val < 256) (h : t.val % 16 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live12 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) ((hc8 t).mpr (by omega)) (iblk m c 2 t) (xsv m c t) Set.univ _)
  isplitl [H2]; · iexact H2
  isplitl [HS]; · iexact HS
  isplitl [H8]; · iexists _; iexact H8
  isplitl [H12]; · iexists _; iexact H12
  iintro ⟨H2, HS, H8, H12⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iexact H12

set_option maxHeartbeats 1600000 in
/-- The queries of the block attention. -/
theorem body_M3 (c : Dev nD) (t : Fin cfg0.N) (hN : t.val < 256) (h : t.val % 16 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (part (k0_pay2 (xsv m c t) (iblk m c 2 t)) (iblk m c 3 t) (iblk m c 4 t) (iblk m c 5 t)) from if_pos (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_M3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) ((hc2 t).mpr (by omega)) (fun h => absurd ((hc3 t).mp h) (by omega)) (fun h => absurd ((hc4 t).mp h) (by omega)) (fun h => absurd ((hc5 t).mp h) (by omega)) (iblk m c 2 t) (iblk m c 3 t) (iblk m c 4 t) (iblk m c 5 t) (xsv m c t) Set.univ _)
  isplitl [H2]; · iexact H2
  isplitl [H3]; · iexact H3
  isplitl [H4]; · iexact H4
  isplitl [H5]; · iexact H5
  isplitl [HS]; · iexact HS
  isplitl [H8]; · iexists _; iexact H8
  iintro ⟨H2, H3, H4, H5, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- The keys of the block attention. -/
theorem body_M4 (c : Dev nD) (t : Fin cfg0.N) (hN : t.val < 256) (h : t.val % 16 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (part (k0_pay2 (xsv m c t) (iblk m c 2 t)) (iblk m c 3 t) (iblk m c 4 t) (iblk m c 5 t)) from if_pos (by omega)]
  rw [live11 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_M4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) ((hc2 t).mpr (by omega)) ((hc3 t).mpr (by omega)) (fun h => absurd ((hc4 t).mp h) (by omega)) (fun h => absurd ((hc5 t).mp h) (by omega)) (iblk m c 2 t) (iblk m c 3 t) (iblk m c 4 t) (iblk m c 5 t) (xsv m c t) Set.univ _)
  isplitl [H2]; · iexact H2
  isplitl [H3]; · iexact H3
  isplitl [H4]; · iexact H4
  isplitl [H5]; · iexact H5
  isplitl [HS]; · iexact HS
  isplitl [H8]; · iexists _; iexact H8
  isplitl [H11]; · iexists _; iexact H11
  iintro ⟨H2, H3, H4, H5, HS, H8, H11⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iexact H11
  iapply (keep12 m c t (by omega)); iexists _; iexact H12

set_option maxHeartbeats 1600000 in
/-- The queries and keys of the retention. -/
theorem body_R (c : Dev nD) (t : Fin cfg0.N) (hN : t.val < 256) (h : 6 ≤ t.val % 16 ∧ t.val % 16 ≤ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (full (k0_pay2 (xsv m c t) (iblk m c 2 t)) (iblk m c 6 t) (iblk m c 7 t) (k0_pay46 (BitVec.ofNat 32 ((grid0.coords t) 1).val))) from (if_neg (by omega)).trans (if_pos (by omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_R c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) ((hc4 t).mpr (by omega)) (fun h => absurd ((hc5 t).mp h) (by omega)) (iblk m c 2 t) (iblk m c 6 t) (iblk m c 7 t) (xsv m c t) Set.univ _)
  isplitl [H2]; · iexact H2
  isplitl [H6]; · iexact H6
  isplitl [H7]; · iexact H7
  isplitl [HS]; · iexact HS
  isplitl [H8]; · iexists _; iexact H8
  iintro ⟨H2, H6, H7, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  rcases (by omega : t.val % 16 = 0 ∨ t.val % 16 = 1 ∨ t.val % 16 = 2 ∨ t.val % 16 = 3 ∨ t.val % 16 = 4 ∨ t.val % 16 = 5
      ∨ (6 ≤ t.val % 16 ∧ t.val % 16 ≤ 7) ∨ 8 ≤ t.val % 16) with h | h | h | h | h | h | h | h
  · exact body_A m c t hN h
  · exact body_K6 m c t hN h
  · exact body_K7 m c t hN h
  · exact body_M3 m c t hN h
  · exact body_M4 m c t hN h
  · exact body_K8 m c t hN h
  · exact body_R m c t hN h
  · exact body_D m c t hN h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  (show (dats m 0 c).Φ (Fin.last cfg0.N) = PhiS m c cfg0.N (Nat.le_refl _) from rfl) ▸ PhiS_any m c _ _

set_option backward.isDefEq.respectTransparency.types false in
/-- The run: the arrays end at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InprojIdeal.Result

end
-- ==== Proof.InprojWords.lean ====
/- The input projection over words: the program printed for it is the one printed for the extended reals, read at
   words, so the run of the one is the run of the other. -/
module

public import proofs.«01_k».proof.Defs
public import proofs.«01_k».proof.Proof.InprojFrame
public import proofs.«01_k».proof.Proof.Gen.Inproj
public import proofs.«01_k».proof.Proof.Gen.InprojIdeal
public import Idealize.ShloMosaic.Lib.Claim

@[expose] public section

set_option maxRecDepth 16384

noncomputable section

namespace Cert.InprojIdeal.Words

open Idealize.ShloMosaic Idealize.SL.Sem

set_option maxHeartbeats 4000000 in
/-- The two kernels have one body table: there is one label, and its function is the same. -/
theorem body_same : Cert.Inproj.defs₀ (F := Bits) = Cert.InprojIdeal.defs₀ (F := Bits) := by
  unfold Cert.Inproj.defs₀ Cert.InprojIdeal.defs₀
  refine congrArg Defs.onTc (funext fun l => ?_)
  match l with
  | ⟨0, _⟩ =>
    funext a
    obtain ⟨t, s⟩ := a
    rfl
  | ⟨_ + 1, h⟩ => exact absurd h (Nat.not_lt.2 (Nat.le_add_left _ _))

theorem defs_same : Cert.Inproj.defs (F := Bits) = Cert.InprojIdeal.defs (F := Bits) :=
  congrArg (Pipeline.defs (Cert.InprojIdeal.pcfgs (F := Bits))) body_same

set_option maxHeartbeats 4000000 in
/-- The two host programs are one. -/
theorem main_same : Cert.Inproj.main (F := Bits) = Cert.InprojIdeal.main (F := Bits) := by
  funext c
  unfold Cert.Inproj.main Cert.InprojIdeal.main
  rfl

/-- Over words the arguments end unchanged and every semaphore at zero. -/
theorem frame : Cert.quiescent_Inproj := by
  intro m ρ _
  rw [defs_same, main_same]
  exact Cert.InprojIdeal.Result.frame (F := Bits) m ρ

end Cert.InprojIdeal.Words

end
-- ==== Proof.InprojRef.lean ====
/- The reference of the input projection as functions of the residual stream, the gain and the stacked weights, and
   what they are at an index. -/
module

public import proofs.«01_k».proof.Proof.Gen.InprojRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojRefIdeal.Spec

open Cert.InprojRefIdeal Cert.InprojRefIdeal.Gen

/-- The product of the normalised rows with the first layer's weights. -/
def PROD (X : FVec Ideal S8192x2048 .f32) (G : FVec Ideal S2048 .f32) (W : FVec Ideal S4x2048x16384 .f32) : FVec Ideal S8192x16384 .f32 :=
  Host.dotGeneral dot_S8192x2048_S2048x16384_S8192x16384_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x16384 ![0, 0, 0] W slices_S4x2048x16384_S1x2048x16384_0_0_0) shapeCasts_S1x2048x16384_S2048x16384)

/-- The positions: four sequences end to end. -/
def POS : IVec S8192 32 :=
  shapeCast _ (broadcastInDim S4x2048 ![0, 1] bcast_S1x2048_S4x2048_0_1 (shapeCast _ (iotaInDim S2048 32 0) shapeCasts_S2048_S1x2048)) shapeCasts_S4x2048_S8192

/-- The angles of the block attention's rotation, their cosines and sines. -/
def ANGM : FVec Ideal S8192x16 .f32 :=
  mulf (broadcastInDim S8192x16 ![0, 1] bcast_S8192x1_S8192x16_0_1 (broadcastInDim S8192x1 ![0] bcast_S8192_S8192x1_0 (sitofp .f32 POS)))
    (broadcastInDim S8192x16 ![0, 1] bcast_S1x16_S8192x16_0_1 (broadcastInDim S1x16 ![1] bcast_S16_S1x16_1
      (Host.exp (mulf (sitofp .f32 (iotaInDim S16 32 0)) (broadcastInDim S16 ![] bcast_S_S16 (constant S_ .f32 0xBF51F533#32))))))
def COSM : FVec Ideal S8192x16 .f32 := Host.cos ANGM
def SINM : FVec Ideal S8192x16 .f32 := Host.sin ANGM

/-- The angles of the retention's rotation, their cosines and sines. -/
def ANGR : FVec Ideal S8192x64 .f32 :=
  mulf (broadcastInDim S8192x64 ![0, 1] bcast_S8192x1_S8192x64_0_1 (broadcastInDim S8192x1 ![0] bcast_S8192_S8192x1_0 (sitofp .f32 POS)))
    (broadcastInDim S8192x64 ![0, 1] bcast_S1x64_S8192x64_0_1 (broadcastInDim S1x64 ![1] bcast_S64_S1x64_1
      (Host.exp (mulf (sitofp .f32 (iotaInDim S64 32 0)) (broadcastInDim S64 ![] bcast_S_S64 (constant S_ .f32 0xBE135D8E#32))))))
def COSR : FVec Ideal S8192x64 .f32 := Host.cos ANGR
def SINR : FVec Ideal S8192x64 .f32 := Host.sin ANGR

/-- The rotation of the first 32 columns of every head, -/
def ROTM (A : FVec Ideal S8192x1024 .f32) (C S : FVec Ideal S8192x16 .f32) : FVec Ideal S8192x8x128 .f32 :=
  concatenate S8192x8x128 2
    [⟨S8192x8x16, subf (mulf (extractStridedSlice S8192x8x16 ![0, 0, 0] (shapeCast _ A shapeCasts_S8192x1024_S8192x8x128) slices_S8192x8x128_S8192x8x16_0_0_0) (broadcastInDim S8192x8x16 ![0, 1, 2] bcast_S8192x1x16_S8192x8x16_0_1_2 (broadcastInDim S8192x1x16 ![0, 2] bcast_S8192x16_S8192x1x16_0_2 C))) (mulf (extractStridedSlice S8192x8x16 ![0, 0, 16] (shapeCast _ A shapeCasts_S8192x1024_S8192x8x128) slices_S8192x8x128_S8192x8x16_0_0_16) (broadcastInDim S8192x8x16 ![0, 1, 2] bcast_S8192x1x16_S8192x8x16_0_1_2 (broadcastInDim S8192x1x16 ![0, 2] bcast_S8192x16_S8192x1x16_0_2 S)))⟩,
     ⟨S8192x8x16, addf (mulf (extractStridedSlice S8192x8x16 ![0, 0, 0] (shapeCast _ A shapeCasts_S8192x1024_S8192x8x128) slices_S8192x8x128_S8192x8x16_0_0_0) (broadcastInDim S8192x8x16 ![0, 1, 2] bcast_S8192x1x16_S8192x8x16_0_1_2 (broadcastInDim S8192x1x16 ![0, 2] bcast_S8192x16_S8192x1x16_0_2 S))) (mulf (extractStridedSlice S8192x8x16 ![0, 0, 16] (shapeCast _ A shapeCasts_S8192x1024_S8192x8x128) slices_S8192x8x128_S8192x8x16_0_0_16) (broadcastInDim S8192x8x16 ![0, 1, 2] bcast_S8192x1x16_S8192x8x16_0_1_2 (broadcastInDim S8192x1x16 ![0, 2] bcast_S8192x16_S8192x1x16_0_2 C)))⟩,
     ⟨S8192x8x96, (extractStridedSlice S8192x8x96 ![0, 0, 32] (shapeCast _ A shapeCasts_S8192x1024_S8192x8x128) slices_S8192x8x128_S8192x8x96_0_0_32)⟩]
    concatenates_S8192x8x16_S8192x8x16_S8192x8x96_S8192x8x128_d2

/-- and of all of them. -/
def ROTR (A : FVec Ideal S8192x1024 .f32) (C S : FVec Ideal S8192x64 .f32) : FVec Ideal S8192x8x128 .f32 :=
  concatenate S8192x8x128 2
    [⟨S8192x8x64, subf (mulf (extractStridedSlice S8192x8x64 ![0, 0, 0] (shapeCast _ A shapeCasts_S8192x1024_S8192x8x128) slices_S8192x8x128_S8192x8x64_0_0_0) (broadcastInDim S8192x8x64 ![0, 1, 2] bcast_S8192x1x64_S8192x8x64_0_1_2 (broadcastInDim S8192x1x64 ![0, 2] bcast_S8192x64_S8192x1x64_0_2 C))) (mulf (extractStridedSlice S8192x8x64 ![0, 0, 64] (shapeCast _ A shapeCasts_S8192x1024_S8192x8x128) slices_S8192x8x128_S8192x8x64_0_0_64) (broadcastInDim S8192x8x64 ![0, 1, 2] bcast_S8192x1x64_S8192x8x64_0_1_2 (broadcastInDim S8192x1x64 ![0, 2] bcast_S8192x64_S8192x1x64_0_2 S)))⟩,
     ⟨S8192x8x64, addf (mulf (extractStridedSlice S8192x8x64 ![0, 0, 0] (shapeCast _ A shapeCasts_S8192x1024_S8192x8x128) slices_S8192x8x128_S8192x8x64_0_0_0) (broadcastInDim S8192x8x64 ![0, 1, 2] bcast_S8192x1x64_S8192x8x64_0_1_2 (broadcastInDim S8192x1x64 ![0, 2] bcast_S8192x64_S8192x1x64_0_2 S))) (mulf (extractStridedSlice S8192x8x64 ![0, 0, 64] (shapeCast _ A shapeCasts_S8192x1024_S8192x8x128) slices_S8192x8x128_S8192x8x64_0_0_64) (broadcastInDim S8192x8x64 ![0, 1, 2] bcast_S8192x1x64_S8192x8x64_0_1_2 (broadcastInDim S8192x1x64 ![0, 2] bcast_S8192x64_S8192x1x64_0_2 C)))⟩]
    concatenates_S8192x8x64_S8192x8x64_S8192x8x128_d2

/-- The whole projection. -/
def ZREF (X : FVec Ideal S8192x2048 .f32) (G : FVec Ideal S2048 .f32) (W : FVec Ideal S4x2048x16384 .f32) : FVec Ideal S8192x16384 .f32 :=
  concatenate S8192x16384 1 [⟨S8192x1024, (extractStridedSlice S8192x1024 ![0, 0] (PROD X G W) slices_S8192x16384_S8192x1024_0_0)⟩, ⟨S8192x1024, (extractStridedSlice S8192x1024 ![0, 1024] (PROD X G W) slices_S8192x16384_S8192x1024_0_1024)⟩, ⟨S8192x1024, (extractStridedSlice S8192x1024 ![0, 2048] (PROD X G W) slices_S8192x16384_S8192x1024_0_2048)⟩, ⟨S8192x1024, (shapeCast _ (ROTM (extractStridedSlice S8192x1024 ![0, 3072] (PROD X G W) slices_S8192x16384_S8192x1024_0_3072) COSM SINM) shapeCasts_S8192x8x128_S8192x1024)⟩, ⟨S8192x1024, (shapeCast _ (ROTM (extractStridedSlice S8192x1024 ![0, 4096] (PROD X G W) slices_S8192x16384_S8192x1024_0_4096) COSM SINM) shapeCasts_S8192x8x128_S8192x1024)⟩, ⟨S8192x1024, (extractStridedSlice S8192x1024 ![0, 5120] (PROD X G W) slices_S8192x16384_S8192x1024_0_5120)⟩, ⟨S8192x1024, (shapeCast _ (ROTR (extractStridedSlice S8192x1024 ![0, 6144] (PROD X G W) slices_S8192x16384_S8192x1024_0_6144) COSR SINR) shapeCasts_S8192x8x128_S8192x1024)⟩, ⟨S8192x1024, (shapeCast _ (mulf (ROTR (extractStridedSlice S8192x1024 ![0, 7168] (PROD X G W) slices_S8192x16384_S8192x1024_0_7168) COSR SINR) (broadcastInDim S8192x8x128 ![] bcast_S_S8192x8x128 (constant S_ .f32 0x3DB504F3#32))) shapeCasts_S8192x8x128_S8192x1024)⟩, ⟨S8192x8192, (extractStridedSlice S8192x8192 ![0, 8192] (PROD X G W) slices_S8192x16384_S8192x8192_0_8192)⟩]
    concatenates_S8192x1024_S8192x1024_S8192x1024_S8192x1024_S8192x1024_S8192x1024_S8192x1024_S8192x1024_S8192x8192_S8192x16384_d1

/-- Heads stored row by row. -/
def KAREF (X : FVec Ideal S8192x2048 .f32) (G : FVec Ideal S2048 .f32) (W : FVec Ideal S4x2048x16384 .f32) : FVec Ideal S65536x128 .f32 := shapeCast _ (extractStridedSlice S8192x1024 ![0, 1024] (PROD X G W) slices_S8192x16384_S8192x1024_0_1024) shapeCasts_S8192x1024_S65536x128
def VAREF (X : FVec Ideal S8192x2048 .f32) (G : FVec Ideal S2048 .f32) (W : FVec Ideal S4x2048x16384 .f32) : FVec Ideal S65536x128 .f32 := shapeCast _ (extractStridedSlice S8192x1024 ![0, 2048] (PROD X G W) slices_S8192x16384_S8192x1024_0_2048) shapeCasts_S8192x1024_S65536x128
def KMREF (X : FVec Ideal S8192x2048 .f32) (G : FVec Ideal S2048 .f32) (W : FVec Ideal S4x2048x16384 .f32) : FVec Ideal S65536x128 .f32 := shapeCast _ (ROTM (extractStridedSlice S8192x1024 ![0, 4096] (PROD X G W) slices_S8192x16384_S8192x1024_0_4096) COSM SINM) shapeCasts_S8192x8x128_S65536x128
def VMREF (X : FVec Ideal S8192x2048 .f32) (G : FVec Ideal S2048 .f32) (W : FVec Ideal S4x2048x16384 .f32) : FVec Ideal S65536x128 .f32 := shapeCast _ (extractStridedSlice S8192x1024 ![0, 5120] (PROD X G W) slices_S8192x16384_S8192x1024_0_5120) shapeCasts_S8192x1024_S65536x128

theorem res0 (m : (ℓ : Loc nD τ sig) → Buf (Elt Ideal) ℓ) (c : Dev nD) : Cert.InprojRefIdeal.Value.res_out0 m c
    = ZREF (m ((c.tc : Thread nD τ).loc main_arg0)) (m ((c.tc : Thread nD τ).loc main_arg1)) (m ((c.tc : Thread nD τ).loc main_arg2)) := by
  delta Cert.InprojRefIdeal.Value.res_out0 Cert.InprojRefIdeal.Value.res_main_v149 ZREF
  rfl

theorem res3 (m : (ℓ : Loc nD τ sig) → Buf (Elt Ideal) ℓ) (c : Dev nD) : Cert.InprojRefIdeal.Value.res_out3 m c
    = KMREF (m ((c.tc : Thread nD τ).loc main_arg0)) (m ((c.tc : Thread nD τ).loc main_arg1)) (m ((c.tc : Thread nD τ).loc main_arg2)) := by
  delta Cert.InprojRefIdeal.Value.res_out3 Cert.InprojRefIdeal.Value.res_main_v152 KMREF
  rfl

theorem rotM_lo (A : FVec Ideal S8192x1024 .f32) (C S : FVec Ideal S8192x16 .f32) (r : Fin 8192) (h : Fin 8) (l : Fin 128) (hl : l.val < 16) :
    ROTM A C S (ix3 r h l) = A (ix2 r ⟨h.val * 128 + l.val, by omega⟩) * C (ix2 r ⟨l.val, hl⟩) - A (ix2 r ⟨h.val * 128 + (16 + l.val), by omega⟩) * S (ix2 r ⟨l.val, hl⟩) := by
  unfold ROTM
  pointwise []
  rw [dif_pos hl]

theorem rotM_mid (A : FVec Ideal S8192x1024 .f32) (C S : FVec Ideal S8192x16 .f32) (r : Fin 8192) (h : Fin 8) (l : Fin 128) (hl : ¬ l.val < 16) (hl2 : l.val - 16 < 16) :
    ROTM A C S (ix3 r h l) = A (ix2 r ⟨h.val * 128 + (l.val - 16), by omega⟩) * S (ix2 r ⟨l.val - 16, hl2⟩) + A (ix2 r ⟨h.val * 128 + (16 + (l.val - 16)), by omega⟩) * C (ix2 r ⟨l.val - 16, hl2⟩) := by
  unfold ROTM
  pointwise []
  rw [dif_neg hl, dif_pos hl2]

theorem rotM_hi (A : FVec Ideal S8192x1024 .f32) (C S : FVec Ideal S8192x16 .f32) (r : Fin 8192) (h : Fin 8) (l : Fin 128) (hl : ¬ l.val < 16) (hl2 : ¬ l.val - 16 < 16) :
    ROTM A C S (ix3 r h l) = A (ix2 r ⟨h.val * 128 + (32 + (l.val - 16 - 16)), by omega⟩) := by
  unfold ROTM
  pointwise []
  rw [dif_neg hl, dif_neg hl2]

theorem rotR_lo (A : FVec Ideal S8192x1024 .f32) (C S : FVec Ideal S8192x64 .f32) (r : Fin 8192) (h : Fin 8) (l : Fin 128) (hl : l.val < 64) :
    ROTR A C S (ix3 r h l) = A (ix2 r ⟨h.val * 128 + l.val, by omega⟩) * C (ix2 r ⟨l.val, hl⟩) - A (ix2 r ⟨h.val * 128 + (64 + l.val), by omega⟩) * S (ix2 r ⟨l.val, hl⟩) := by
  unfold ROTR
  pointwise []
  rw [dif_pos hl]

theorem rotR_hi (A : FVec Ideal S8192x1024 .f32) (C S : FVec Ideal S8192x64 .f32) (r : Fin 8192) (h : Fin 8) (l : Fin 128) (hl : ¬ l.val < 64) :
    ROTR A C S (ix3 r h l) = A (ix2 r ⟨h.val * 128 + (l.val - 64), by omega⟩) * S (ix2 r ⟨l.val - 64, by omega⟩) + A (ix2 r ⟨h.val * 128 + (64 + (l.val - 64)), by omega⟩) * C (ix2 r ⟨l.val - 64, by omega⟩) := by
  unfold ROTR
  pointwise []
  rw [dif_neg hl]

theorem cat_0 (u0 u1 u2 u3 u4 u5 u6 u7 : FVec Ideal S8192x1024 .f32) (u8 : FVec Ideal S8192x8192 .f32) (r : Fin 8192) (q : Fin 16384) (h : q.val / 1024 = 0) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u0 (ix2 r ⟨q.val - 0, by omega⟩) := by
  pointwise []
  rw [dif_pos (show q.val < 1024 by omega)]
  all_goals exact congrArg (fun e => u0 (ix2 r e)) (Fin.ext (by dsimp only; omega))

theorem cat_1 (u0 u1 u2 u3 u4 u5 u6 u7 : FVec Ideal S8192x1024 .f32) (u8 : FVec Ideal S8192x8192 .f32) (r : Fin 8192) (q : Fin 16384) (h : q.val / 1024 = 1) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u1 (ix2 r ⟨q.val - 1024, by omega⟩) := by
  pointwise []
  rw [dif_neg (show ¬ q.val < 1024 by omega), dif_pos (show q.val - 1024 < 1024 by omega)]
  all_goals exact congrArg (fun e => u1 (ix2 r e)) (Fin.ext (by dsimp only; omega))

theorem cat_2 (u0 u1 u2 u3 u4 u5 u6 u7 : FVec Ideal S8192x1024 .f32) (u8 : FVec Ideal S8192x8192 .f32) (r : Fin 8192) (q : Fin 16384) (h : q.val / 1024 = 2) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u2 (ix2 r ⟨q.val - 2048, by omega⟩) := by
  pointwise []
  rw [dif_neg (show ¬ q.val < 1024 by omega), dif_neg (show ¬ q.val - 1024 < 1024 by omega), dif_pos (show q.val - 1024 - 1024 < 1024 by omega)]
  all_goals exact congrArg (fun e => u2 (ix2 r e)) (Fin.ext (by dsimp only; omega))

theorem cat_3 (u0 u1 u2 u3 u4 u5 u6 u7 : FVec Ideal S8192x1024 .f32) (u8 : FVec Ideal S8192x8192 .f32) (r : Fin 8192) (q : Fin 16384) (h : q.val / 1024 = 3) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u3 (ix2 r ⟨q.val - 3072, by omega⟩) := by
  pointwise []
  rw [dif_neg (show ¬ q.val < 1024 by omega), dif_neg (show ¬ q.val - 1024 < 1024 by omega), dif_neg (show ¬ q.val - 1024 - 1024 < 1024 by omega), dif_pos (show q.val - 1024 - 1024 - 1024 < 1024 by omega)]
  all_goals exact congrArg (fun e => u3 (ix2 r e)) (Fin.ext (by dsimp only; omega))

theorem cat_4 (u0 u1 u2 u3 u4 u5 u6 u7 : FVec Ideal S8192x1024 .f32) (u8 : FVec Ideal S8192x8192 .f32) (r : Fin 8192) (q : Fin 16384) (h : q.val / 1024 = 4) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u4 (ix2 r ⟨q.val - 4096, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_pos (show q.val - 1024 - 1024 - 1024 - 1024 < 1024 by omega)]
  all_goals exact congrArg (fun e => u4 (ix2 r e)) (Fin.ext (by dsimp only; omega))

theorem cat_5 (u0 u1 u2 u3 u4 u5 u6 u7 : FVec Ideal S8192x1024 .f32) (u8 : FVec Ideal S8192x8192 .f32) (r : Fin 8192) (q : Fin 16384) (h : q.val / 1024 = 5) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u5 (ix2 r ⟨q.val - 5120, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_pos (show q.val - 1024 - 1024 - 1024 - 1024 - 1024 < 1024 by omega)]
  all_goals exact congrArg (fun e => u5 (ix2 r e)) (Fin.ext (by dsimp only; omega))

theorem cat_6 (u0 u1 u2 u3 u4 u5 u6 u7 : FVec Ideal S8192x1024 .f32) (u8 : FVec Ideal S8192x8192 .f32) (r : Fin 8192) (q : Fin 16384) (h : q.val / 1024 = 6) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u6 (ix2 r ⟨q.val - 6144, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_pos (show q.val - 1024 - 1024 - 1024 - 1024 - 1024 - 1024 < 1024 by omega)]
  all_goals exact congrArg (fun e => u6 (ix2 r e)) (Fin.ext (by dsimp only; omega))

theorem cat_7 (u0 u1 u2 u3 u4 u5 u6 u7 : FVec Ideal S8192x1024 .f32) (u8 : FVec Ideal S8192x8192 .f32) (r : Fin 8192) (q : Fin 16384) (h : q.val / 1024 = 7) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u7 (ix2 r ⟨q.val - 7168, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_neg (show ¬ q.val - 1024 - 1024 - 1024 - 1024 - 1024 - 1024 < 1024 by omega), dif_pos (show q.val - 1024 - 1024 - 1024 - 1024 - 1024 - 1024 - 1024 < 1024 by omega)]
  all_goals exact congrArg (fun e => u7 (ix2 r e)) (Fin.ext (by dsimp only; omega))

theorem cat_8 (u0 u1 u2 u3 u4 u5 u6 u7 : FVec Ideal S8192x1024 .f32) (u8 : FVec Ideal S8192x8192 .f32) (r : Fin 8192) (q : Fin 16384) (h : 8 ≤ q.val / 1024) :
    concatenate S8192x16384 1 [⟨S8192x1024, u0⟩, ⟨S8192x1024, u1⟩, ⟨S8192x1024, u2⟩, ⟨S8192x1024, u3⟩, ⟨S8192x1024, u4⟩, ⟨S8192x1024, u5⟩, ⟨S8192x1024, u6⟩, ⟨S8192x1024, u7⟩, ⟨S8192x8192, u8⟩] concatenates_S8192x1024_S8192x1024_S8192x1024_S8192x1024_S8192x1024_S8192x1024_S8192x1024_S8192x1024_S8192x8192_S8192x16384_d1 (ix2 r q) = u8 (ix2 r ⟨q.val - 8192, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_neg (show ¬ q.val - 1024 - 1024 - 1024 - 1024 - 1024 - 1024 < 1024 by omega), dif_neg (show ¬ q.val - 1024 - 1024 - 1024 - 1024 - 1024 - 1024 - 1024 < 1024 by omega)]
  all_goals exact congrArg (fun e => u8 (ix2 r e)) (Fin.ext (by dsimp only; omega))

end Cert.InprojRefIdeal.Spec

end
-- ==== Proof.InprojIdx.lean ====
/- The input projection: which block of its array each window takes, and the product at a grid point. -/
module

public import proofs.«01_k».proof.Proof.InprojDat
public import proofs.«01_k».proof.Proof.InprojRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-- Which block of its array each window of the call takes at a grid point, decided over all the points. -/
theorem idx : ∀ t : Fin cfg0.N,
    win0_0.index t = ![t.val / 16, 0]
      ∧ win0_1.index t = ![0, 0]
      ∧ win0_2.index t = ![0, 0, t.val % 16]
      ∧ win0_3.index t = ![t.val / 16, 0]
      ∧ win0_4.index t = ![t.val / 16, 0]
      ∧ win0_5.index t = ![t.val / 16, 0]
      ∧ win0_6.index t = ![t.val / 16, 0]
      ∧ win0_7.index t = ![t.val / 16, 0]
      ∧ win0_8.index t = ![t.val / 16, t.val % 16]
      ∧ win0_9.index t = ![t.val / 16, 0]
      ∧ win0_10.index t = ![t.val / 16, 0]
      ∧ win0_11.index t = ![t.val / 16, 0]
      ∧ win0_12.index t = ![t.val / 16, 0] :=
  (by decide +kernel : ∀ t : Fin grid0.N, _)

/-- The points of a row block see the same rows of the residual stream. -/
theorem rows_eq (c : Dev nD) (t u : Fin cfg0.N) (h : t.val / 16 = u.val / 16) : iblk m c 0 t = iblk m c 0 u := by
  funext y
  blk_ext [iblk, V, idx t, idx u]

/-- Every point sees the whole gain. -/
theorem gain_eq (c : Dev nD) (t u : Fin cfg0.N) : iblk m c 1 t = iblk m c 1 u := by
  funext y
  blk_ext [iblk, V, idx t, idx u]

/-- The normalised rows of a point are those of its own blocks. -/
theorem xsv_own (c : Dev nD) (t : Fin cfg0.N) : xsv m c t = k0_pay1 (iblk m c 0 t) (iblk m c 1 t) := by
  unfold xsv
  rw [rows_eq m c (seg t 0 (Nat.zero_lt_succ _)) t (by show (t.val / 16 * 16 + 0) / 16 = t.val / 16; omega),
    gain_eq m c (seg t 0 (Nat.zero_lt_succ _)) t]

/-- The number of points. -/
theorem lt256 (t : Fin cfg0.N) : t.val < 256 := t.isLt

/-- A row of the array from a row of a point's block. -/
abbrev rowOf (t : Fin cfg0.N) (a : Fin 512) : Fin 8192 := ⟨t.val / 16 * 512 + a.val, by have := lt256 t; omega⟩
/-- A column of the array from a column of a point's block. -/
abbrev colOf (t : Fin cfg0.N) (b : Fin 1024) : Fin 16384 := ⟨t.val % 16 * 1024 + b.val, by have := lt256 t; omega⟩

/-- The product of the whole arrays. -/
abbrev PR (c : Dev nD) : (⟨2, ![8192, 16384]⟩ : Shape).Idx → EReal :=
  Cert.InprojRefIdeal.Spec.PROD (m ((c : Thread nD τ).loc main_arg0)) (m ((c : Thread nD τ).loc main_arg1)) (m ((c : Thread nD τ).loc main_arg2))

/-- The product at a point is the reference's at the point's rows and columns. -/
theorem prod_at (c : Dev nD) (t : Fin cfg0.N) (a : Fin 512) (b : Fin 1024) :
    (prod m c t : S512x1024.Idx → EReal) (ix2 a b) = PR m c (ix2 (rowOf t a) (colOf t b)) := by
  unfold prod PR
  rw [xsv_own]
  unfold rowOf colOf
  pointwise [k0_pay1, k0_pay2, Cert.InprojRefIdeal.Spec.PROD]
  blk_point [iblk, V, idx t]

end Cert.InprojIdeal.Result

end
-- ==== Proof.InprojTab.lean ====
/- The input projection: the tables of cosines and sines that the host lays out. -/
module

public import proofs.«01_k».proof.Proof.Gen.InprojIdeal.Frame
public import proofs.«01_k».proof.Proof.InprojRef
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-- The cosines of the block attention's rotation, and ones beyond them. -/
theorem tab3_lo (c : Dev nD) (r : Fin 8192) (l : Fin 128) (hl : l.val < 16) : @Eq EReal ((V m c main_v19 : S8192x128.Idx → EReal) (ix2 r l)) (Cert.InprojRefIdeal.Spec.COSM (ix2 r ⟨l.val, hl⟩)) := by
  dsimp only [V]
  after_reads_simp
  pointwise []
  rw [dif_pos hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab3_mid (c : Dev nD) (r : Fin 8192) (l : Fin 128) (hl : ¬ l.val < 16) (hl2 : l.val - 16 < 16) : @Eq EReal ((V m c main_v19 : S8192x128.Idx → EReal) (ix2 r l)) (Cert.InprojRefIdeal.Spec.COSM (ix2 r ⟨l.val - 16, hl2⟩)) := by
  dsimp only [V]
  after_reads_simp
  pointwise []
  rw [dif_neg hl, dif_pos hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab3_hi (c : Dev nD) (r : Fin 8192) (l : Fin 128) (hl : ¬ l.val < 16) (hl2 : ¬ l.val - 16 < 16) : @Eq EReal ((V m c main_v19 : S8192x128.Idx → EReal) (ix2 r l)) (1) := by
  dsimp only [V]
  after_reads_simp
  pointwise []
  rw [dif_neg hl, dif_neg hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

/-- The negated sines, and zeros beyond them. -/
theorem tab4_lo (c : Dev nD) (r : Fin 8192) (l : Fin 128) (hl : l.val < 16) : @Eq EReal ((V m c main_v21 : S8192x128.Idx → EReal) (ix2 r l)) (-Cert.InprojRefIdeal.Spec.SINM (ix2 r ⟨l.val, hl⟩)) := by
  dsimp only [V]
  after_reads_simp
  pointwise []
  rw [dif_pos hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab4_mid (c : Dev nD) (r : Fin 8192) (l : Fin 128) (hl : ¬ l.val < 16) (hl2 : l.val - 16 < 16) : @Eq EReal ((V m c main_v21 : S8192x128.Idx → EReal) (ix2 r l)) (0) := by
  dsimp only [V]
  after_reads_simp
  pointwise []
  rw [dif_neg hl, dif_pos hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab4_hi (c : Dev nD) (r : Fin 8192) (l : Fin 128) (hl : ¬ l.val < 16) (hl2 : ¬ l.val - 16 < 16) : @Eq EReal ((V m c main_v21 : S8192x128.Idx → EReal) (ix2 r l)) (0) := by
  dsimp only [V]
  after_reads_simp
  pointwise []
  rw [dif_neg hl, dif_neg hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

/-- The sines in the second sixteen columns, and zeros elsewhere. -/
theorem tab5_lo (c : Dev nD) (r : Fin 8192) (l : Fin 128) (hl : l.val < 16) : @Eq EReal ((V m c main_v22 : S8192x128.Idx → EReal) (ix2 r l)) (0) := by
  dsimp only [V]
  after_reads_simp
  pointwise []
  rw [dif_pos hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab5_mid (c : Dev nD) (r : Fin 8192) (l : Fin 128) (hl : ¬ l.val < 16) (hl2 : l.val - 16 < 16) : @Eq EReal ((V m c main_v22 : S8192x128.Idx → EReal) (ix2 r l)) (Cert.InprojRefIdeal.Spec.SINM (ix2 r ⟨l.val - 16, hl2⟩)) := by
  dsimp only [V]
  after_reads_simp
  pointwise []
  rw [dif_neg hl, dif_pos hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab5_hi (c : Dev nD) (r : Fin 8192) (l : Fin 128) (hl : ¬ l.val < 16) (hl2 : ¬ l.val - 16 < 16) : @Eq EReal ((V m c main_v22 : S8192x128.Idx → EReal) (ix2 r l)) (0) := by
  dsimp only [V]
  after_reads_simp
  pointwise []
  rw [dif_neg hl, dif_neg hl2]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

/-- The cosines of the retention's rotation, twice. -/
theorem tab6_lo (c : Dev nD) (r : Fin 8192) (l : Fin 128) (hl : l.val < 64) : @Eq EReal ((V m c main_v34 : S8192x128.Idx → EReal) (ix2 r l)) (Cert.InprojRefIdeal.Spec.COSR (ix2 r ⟨l.val, hl⟩)) := by
  dsimp only [V]
  after_reads_simp
  pointwise []
  rw [dif_pos hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab6_hi (c : Dev nD) (r : Fin 8192) (l : Fin 128) (hl : ¬ l.val < 64) : @Eq EReal ((V m c main_v34 : S8192x128.Idx → EReal) (ix2 r l)) (Cert.InprojRefIdeal.Spec.COSR (ix2 r ⟨l.val - 64, by omega⟩)) := by
  dsimp only [V]
  after_reads_simp
  pointwise []
  rw [dif_neg hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

/-- The negated sines and the sines. -/
theorem tab7_lo (c : Dev nD) (r : Fin 8192) (l : Fin 128) (hl : l.val < 64) : @Eq EReal ((V m c main_v36 : S8192x128.Idx → EReal) (ix2 r l)) (-Cert.InprojRefIdeal.Spec.SINR (ix2 r ⟨l.val, hl⟩)) := by
  dsimp only [V]
  after_reads_simp
  pointwise []
  rw [dif_pos hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

theorem tab7_hi (c : Dev nD) (r : Fin 8192) (l : Fin 128) (hl : ¬ l.val < 64) : @Eq EReal ((V m c main_v36 : S8192x128.Idx → EReal) (ix2 r l)) (Cert.InprojRefIdeal.Spec.SINR (ix2 r ⟨l.val - 64, by omega⟩)) := by
  dsimp only [V]
  after_reads_simp
  pointwise []
  rw [dif_neg hl]
  try after_reads_simp
  pointwise [Cert.InprojRefIdeal.Spec.COSM, Cert.InprojRefIdeal.Spec.SINM, Cert.InprojRefIdeal.Spec.ANGM, Cert.InprojRefIdeal.Spec.COSR, Cert.InprojRefIdeal.Spec.SINR, Cert.InprojRefIdeal.Spec.ANGR, Cert.InprojRefIdeal.Spec.POS]

end Cert.InprojIdeal.Result

end
-- ==== Proof.InprojRot.lean ====
/- The input projection: the rotated heads of a grid point are the reference's. -/
module

public import proofs.«01_k».proof.Proof.InprojIdx
public import proofs.«01_k».proof.Proof.InprojTab
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-! A block of a table is the table at the block's rows. -/

theorem blk3_at (c : Dev nD) (t : Fin cfg0.N) (a : Fin 512) (l : Fin 128) :
    (iblk m c 3 t : S512x128.Idx → EReal) (ix2 a l) = (V m c main_v19 : S8192x128.Idx → EReal) (ix2 (rowOf t a) l) := by
  have e : (win0_3.blk t).view.emb (ix2 a l) = ix2 (rowOf t a) l := by blk_point [idx t]
  show V m c main_v19 ((win0_3.blk t).view.emb (ix2 a l)) = _
  rw [e]

theorem blk4_at (c : Dev nD) (t : Fin cfg0.N) (a : Fin 512) (l : Fin 128) :
    (iblk m c 4 t : S512x128.Idx → EReal) (ix2 a l) = (V m c main_v21 : S8192x128.Idx → EReal) (ix2 (rowOf t a) l) := by
  have e : (win0_4.blk t).view.emb (ix2 a l) = ix2 (rowOf t a) l := by blk_point [idx t]
  show V m c main_v21 ((win0_4.blk t).view.emb (ix2 a l)) = _
  rw [e]

theorem blk5_at (c : Dev nD) (t : Fin cfg0.N) (a : Fin 512) (l : Fin 128) :
    (iblk m c 5 t : S512x128.Idx → EReal) (ix2 a l) = (V m c main_v22 : S8192x128.Idx → EReal) (ix2 (rowOf t a) l) := by
  have e : (win0_5.blk t).view.emb (ix2 a l) = ix2 (rowOf t a) l := by blk_point [idx t]
  show V m c main_v22 ((win0_5.blk t).view.emb (ix2 a l)) = _
  rw [e]

theorem blk6_at (c : Dev nD) (t : Fin cfg0.N) (a : Fin 512) (l : Fin 128) :
    (iblk m c 6 t : S512x128.Idx → EReal) (ix2 a l) = (V m c main_v34 : S8192x128.Idx → EReal) (ix2 (rowOf t a) l) := by
  have e : (win0_6.blk t).view.emb (ix2 a l) = ix2 (rowOf t a) l := by blk_point [idx t]
  show V m c main_v34 ((win0_6.blk t).view.emb (ix2 a l)) = _
  rw [e]

theorem blk7_at (c : Dev nD) (t : Fin cfg0.N) (a : Fin 512) (l : Fin 128) :
    (iblk m c 7 t : S512x128.Idx → EReal) (ix2 a l) = (V m c main_v36 : S8192x128.Idx → EReal) (ix2 (rowOf t a) l) := by
  have e : (win0_7.blk t).view.emb (ix2 a l) = ix2 (rowOf t a) l := by blk_point [idx t]
  show V m c main_v36 ((win0_7.blk t).view.emb (ix2 a l)) = _
  rw [e]

/-- A partly rotated head at an index. -/
theorem part_at (A : FVec Ideal S512x1024 .f32) (c s1 s2 : FVec Ideal S512x128 .f32) (j : Fin 8) (a : Fin 512) (l : Fin 128) :
    part A c s1 s2 j (ix2 a l) = (A (ix2 a ⟨j.val * 128 + l.val, by omega⟩) * c (ix2 a l)
        + A (ix2 a ⟨j.val * 128 + (l.val + 16) % 128, by omega⟩) * s1 (ix2 a l)
        + A (ix2 a ⟨j.val * 128 + (l.val + 112) % 128, by omega⟩) * s2 (ix2 a l) : EReal) := by
  unfold part head
  pointwise []
  have e0 : (⟨128 * j.val + l.val, by omega⟩ : Fin 1024) = ⟨j.val * 128 + l.val, by omega⟩ := Fin.ext (by show 128 * j.val + l.val = j.val * 128 + l.val; omega)
  have e1 : (⟨128 * j.val + (l.val + 128 - 112) % 128, by omega⟩ : Fin 1024) = ⟨j.val * 128 + (l.val + 16) % 128, by omega⟩ := Fin.ext (by show 128 * j.val + (l.val + 128 - 112) % 128 = j.val * 128 + (l.val + 16) % 128; omega)
  have e2 : (⟨128 * j.val + (l.val + 128 - 16) % 128, by omega⟩ : Fin 1024) = ⟨j.val * 128 + (l.val + 112) % 128, by omega⟩ := Fin.ext (by show 128 * j.val + (l.val + 128 - 16) % 128 = j.val * 128 + (l.val + 112) % 128; omega)
  rw [e0, e1, e2]

/-- A wholly rotated head at an index. -/
theorem full_at (A : FVec Ideal S512x1024 .f32) (c s : FVec Ideal S512x128 .f32) (k : EReal) (j : Fin 8) (a : Fin 512) (l : Fin 128) :
    full A c s k j (ix2 a l) = ((A (ix2 a ⟨j.val * 128 + l.val, by omega⟩) * c (ix2 a l)
        + A (ix2 a ⟨j.val * 128 + (l.val + 64) % 128, by omega⟩) * s (ix2 a l)) * k : EReal) := by
  unfold full head
  pointwise []
  have e0 : (⟨128 * j.val + l.val, by omega⟩ : Fin 1024) = ⟨j.val * 128 + l.val, by omega⟩ := Fin.ext (by show 128 * j.val + l.val = j.val * 128 + l.val; omega)
  have e1 : (⟨128 * j.val + (l.val + 128 - 64) % 128, by omega⟩ : Fin 1024) = ⟨j.val * 128 + (l.val + 64) % 128, by omega⟩ := Fin.ext (by show 128 * j.val + (l.val + 128 - 64) % 128 = j.val * 128 + (l.val + 64) % 128; omega)
  rw [e0, e1]

section
variable (c : Dev nD) (t : Fin cfg0.N)

/-- The product of a point at a head's column. -/
theorem prod_head (A : (⟨2, ![8192, 1024]⟩ : Shape).Idx → EReal)
    (hA : ∀ (r : Fin 8192) (q : Fin 1024), A (ix2 r q) = PR m c (ix2 r (colOf t q)))
    (a : Fin 512) (b : Fin 1024) : (prod m c t : S512x1024.Idx → EReal) (ix2 a b) = A (ix2 (rowOf t a) b) :=
  (prod_at m c t a b).trans (hA _ _).symm

/-- The partly rotated heads of a point. -/
theorem prodM_at (A : (⟨2, ![8192, 1024]⟩ : Shape).Idx → EReal)
    (hA : ∀ (r : Fin 8192) (q : Fin 1024), A (ix2 r q) = PR m c (ix2 r (colOf t q)))
    (j : Fin 8) (a : Fin 512) (l : Fin 128) :
    (prodM m c t j (ix2 a l) : EReal) = Cert.InprojRefIdeal.Spec.ROTM A Cert.InprojRefIdeal.Spec.COSM Cert.InprojRefIdeal.Spec.SINM (ix3 (rowOf t a) j l) := by
  unfold prodM
  rw [part_at, blk3_at, blk4_at, blk5_at, prod_head m c t A hA, prod_head m c t A hA, prod_head m c t A hA]
  by_cases h1 : l.val < 16
  · rw [tab3_lo m c _ l h1, tab4_lo m c _ l h1, tab5_lo m c _ l h1, Cert.InprojRefIdeal.Spec.rotM_lo _ _ _ _ _ _ h1, mul_zero, add_zero, mul_neg, ← sub_eq_add_neg]
    have e : (⟨j.val * 128 + (l.val + 16) % 128, by omega⟩ : Fin 1024) = ⟨j.val * 128 + (16 + l.val), by omega⟩ := Fin.ext (by show j.val * 128 + (l.val + 16) % 128 = j.val * 128 + (16 + l.val); omega)
    rw [e]
  · by_cases h2 : l.val - 16 < 16
    · rw [tab3_mid m c _ l h1 h2, tab4_mid m c _ l h1 h2, tab5_mid m c _ l h1 h2, Cert.InprojRefIdeal.Spec.rotM_mid _ _ _ _ _ _ h1 h2, mul_zero, add_zero, add_comm]
      have e : (⟨j.val * 128 + (l.val + 112) % 128, by omega⟩ : Fin 1024) = ⟨j.val * 128 + (l.val - 16), by omega⟩ := Fin.ext (by show j.val * 128 + (l.val + 112) % 128 = j.val * 128 + (l.val - 16); omega)
      have e' : (⟨j.val * 128 + l.val, by omega⟩ : Fin 1024) = ⟨j.val * 128 + (16 + (l.val - 16)), by omega⟩ := Fin.ext (by show j.val * 128 + l.val = j.val * 128 + (16 + (l.val - 16)); omega)
      rw [e, e']
    · rw [tab3_hi m c _ l h1 h2, tab4_hi m c _ l h1 h2, tab5_hi m c _ l h1 h2, Cert.InprojRefIdeal.Spec.rotM_hi _ _ _ _ _ _ h1 h2, mul_zero, mul_zero, add_zero, add_zero, mul_one]
      have e' : (⟨j.val * 128 + l.val, by omega⟩ : Fin 1024) = ⟨j.val * 128 + (32 + (l.val - 16 - 16)), by omega⟩ := Fin.ext (by show j.val * 128 + l.val = j.val * 128 + (32 + (l.val - 16 - 16)); omega)
      rw [e']

/-- The wholly rotated heads of a point, with the point's scale. -/
theorem prodR_at (A : (⟨2, ![8192, 1024]⟩ : Shape).Idx → EReal)
    (hA : ∀ (r : Fin 8192) (q : Fin 1024), A (ix2 r q) = PR m c (ix2 r (colOf t q)))
    (j : Fin 8) (a : Fin 512) (l : Fin 128) :
    (prodR m c t j (ix2 a l) : EReal) = Cert.InprojRefIdeal.Spec.ROTR A Cert.InprojRefIdeal.Spec.COSR Cert.InprojRefIdeal.Spec.SINR (ix3 (rowOf t a) j l)
      * k0_pay46 (F := Ideal) (BitVec.ofNat 32 ((grid0.coords t) 1).val) := by
  unfold prodR
  rw [full_at, blk6_at, blk7_at, prod_head m c t A hA, prod_head m c t A hA]
  congr 1
  by_cases h1 : l.val < 64
  · rw [tab6_lo m c _ l h1, tab7_lo m c _ l h1, Cert.InprojRefIdeal.Spec.rotR_lo _ _ _ _ _ _ h1, mul_neg, ← sub_eq_add_neg]
    have e : (⟨j.val * 128 + (l.val + 64) % 128, by omega⟩ : Fin 1024) = ⟨j.val * 128 + (64 + l.val), by omega⟩ := Fin.ext (by show j.val * 128 + (l.val + 64) % 128 = j.val * 128 + (64 + l.val); omega)
    rw [e]
  · rw [tab6_hi m c _ l h1, tab7_hi m c _ l h1, Cert.InprojRefIdeal.Spec.rotR_hi _ _ _ _ _ _ h1, add_comm]
    have e : (⟨j.val * 128 + (l.val + 64) % 128, by omega⟩ : Fin 1024) = ⟨j.val * 128 + (l.val - 64), by omega⟩ := Fin.ext (by show j.val * 128 + (l.val + 64) % 128 = j.val * 128 + (l.val - 64); omega)
    have e' : (⟨j.val * 128 + l.val, by omega⟩ : Fin 1024) = ⟨j.val * 128 + (64 + (l.val - 64)), by omega⟩ := Fin.ext (by show j.val * 128 + l.val = j.val * 128 + (64 + (l.val - 64)); omega)
    rw [e, e']

end

/-- The scale is one at the queries' points -/
theorem scale_q (t : Fin cfg0.N) (h : t.val % 16 = 6) : (k0_pay46 (F := Ideal) (BitVec.ofNat 32 ((grid0.coords t) 1).val) : EReal) = 1 := by
  have e : ((grid0.coords t) 1).val = 6 := ((by decide +kernel : ∀ t : Fin grid0.N, ((grid0.coords t) 1).val = t.val % 16) t).trans h
  rw [e]
  unfold k0_pay46
  pointwise []
  rfl

/-- and the reciprocal root of the head's size at the keys'. -/
theorem scale_k (t : Fin cfg0.N) (h : t.val % 16 = 7) : (k0_pay46 (F := Ideal) (BitVec.ofNat 32 ((grid0.coords t) 1).val) : EReal) = Ideal.ofBits .f32 0x3DB504F3#32 := by
  have e : ((grid0.coords t) 1).val = 7 := ((by decide +kernel : ∀ t : Fin grid0.N, ((grid0.coords t) 1).val = t.val % 16) t).trans h
  rw [e]
  unfold k0_pay46
  pointwise []

end Cert.InprojIdeal.Result

end
-- ==== Proof.InprojProjection.lean ====
/- The input projection: what the call leaves in the projection is the reference's. -/
module

public import proofs.«01_k».proof.Proof.InprojRot
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-- Heads put back side by side. -/
theorem back_at (u : FVec Ideal ⟨3, ![8192, 8, 128]⟩ .f32) (h : (⟨3, ![8192, 8, 128]⟩ : Shape).ShapeCasts ⟨2, ![8192, 1024]⟩) (r : Fin 8192) (q : Fin 1024) :
    shapeCast ⟨2, ![8192, 1024]⟩ u h (ix2 r q) = u (ix3 r ⟨q.val / 128, by omega⟩ ⟨q.val % 128, by omega⟩) := by
  pointwise []

/-- Heads stored row by row, from heads side by side -/
theorem stack_at (u : FVec Ideal ⟨2, ![8192, 1024]⟩ .f32) (h : (⟨2, ![8192, 1024]⟩ : Shape).ShapeCasts ⟨2, ![65536, 128]⟩) (p : Fin 65536) (l : Fin 128) :
    shapeCast ⟨2, ![65536, 128]⟩ u h (ix2 p l) = u (ix2 ⟨p.val / 8, by omega⟩ ⟨p.val % 8 * 128 + l.val, by omega⟩) := by
  pointwise []

/-- and from heads of their own. -/
theorem stack3_at (u : FVec Ideal ⟨3, ![8192, 8, 128]⟩ .f32) (h : (⟨3, ![8192, 8, 128]⟩ : Shape).ShapeCasts ⟨2, ![65536, 128]⟩) (p : Fin 65536) (l : Fin 128) :
    shapeCast ⟨2, ![65536, 128]⟩ u h (ix2 p l) = u (ix3 ⟨p.val / 8, by omega⟩ ⟨p.val % 8, by omega⟩ l) := by
  pointwise []

/-- A segment of the product at a point of that segment. -/
theorem seg_at (c : Dev nD) (t : Fin cfg0.N) (k : ℕ) (hk : t.val % 16 = k) (h : (⟨2, ![8192, 16384]⟩ : Shape).Slices ![0, 1024 * k] ⟨2, ![8192, 1024]⟩) (r : Fin 8192) (q : Fin 1024) :
    extractStridedSlice ⟨2, ![8192, 1024]⟩ ![0, 1024 * k] (PR m c) h (ix2 r q) = PR m c (ix2 r (colOf t q)) := by
  have ht := lt256 t
  have e : extractStridedSlice ⟨2, ![8192, 1024]⟩ ![0, 1024 * k] (PR m c) h (ix2 r q) = PR m c (ix2 r ⟨1024 * k + q.val, by omega⟩) := by
    pointwise []
  rw [e]
  exact congrArg (fun z => PR m c (ix2 r z)) (Fin.ext (by show 1024 * k + q.val = t.val % 16 * 1024 + q.val; omega))

/-- The columns of a point, counted within its segment. -/
theorem col_sub (t : Fin cfg0.N) (b : Fin 1024) (k : ℕ) (hk : t.val % 16 = k) (hlt : (colOf t b).val - 1024 * k < 1024) :
    (⟨(colOf t b).val - 1024 * k, hlt⟩ : Fin 1024) = b :=
  Fin.ext (by show t.val % 16 * 1024 + b.val - 1024 * k = b.val; omega)

/-! What a point stores in its block of the projection, segment by segment. -/

theorem point8_0 (c : Dev nD) (t : Fin cfg0.N) (a : Fin 512) (b : Fin 1024) (hk : t.val % 16 = 0) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 0 := by show (t.val % 16 * 1024 + b.val) / 1024 = 0; omega
  have hz : (⟨(colOf t b).val - 0, by have := (colOf t b).isLt; omega⟩ : Fin 1024) = b := col_sub t b 0 hk _
  unfold Cert.InprojRefIdeal.Spec.ZREF
  rw [Cert.InprojRefIdeal.Spec.cat_0 _ _ _ _ _ _ _ _ _ _ _ hq, hz]
  have hA : ∀ (r : Fin 8192) (q : Fin 1024), (extractStridedSlice Cert.InprojRefIdeal.S8192x1024 ![0, 0] (PR m c) Cert.InprojRefIdeal.Gen.slices_S8192x16384_S8192x1024_0_0) (ix2 r q) = PR m c (ix2 r (colOf t q)) := fun r q => seg_at m c t 0 hk _ r q
  unfold zv
  rw [if_neg (by omega), if_neg (by omega)]
  exact (prod_at m c t a b).trans (hA _ _).symm

theorem point8_1 (c : Dev nD) (t : Fin cfg0.N) (a : Fin 512) (b : Fin 1024) (hk : t.val % 16 = 1) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 1 := by show (t.val % 16 * 1024 + b.val) / 1024 = 1; omega
  have hz : (⟨(colOf t b).val - 1024, by have := (colOf t b).isLt; omega⟩ : Fin 1024) = b := col_sub t b 1 hk _
  unfold Cert.InprojRefIdeal.Spec.ZREF
  rw [Cert.InprojRefIdeal.Spec.cat_1 _ _ _ _ _ _ _ _ _ _ _ hq, hz]
  have hA : ∀ (r : Fin 8192) (q : Fin 1024), (extractStridedSlice Cert.InprojRefIdeal.S8192x1024 ![0, 1024] (PR m c) Cert.InprojRefIdeal.Gen.slices_S8192x16384_S8192x1024_0_1024) (ix2 r q) = PR m c (ix2 r (colOf t q)) := fun r q => seg_at m c t 1 hk _ r q
  unfold zv
  rw [if_neg (by omega), if_neg (by omega)]
  exact (prod_at m c t a b).trans (hA _ _).symm

theorem point8_2 (c : Dev nD) (t : Fin cfg0.N) (a : Fin 512) (b : Fin 1024) (hk : t.val % 16 = 2) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 2 := by show (t.val % 16 * 1024 + b.val) / 1024 = 2; omega
  have hz : (⟨(colOf t b).val - 2048, by have := (colOf t b).isLt; omega⟩ : Fin 1024) = b := col_sub t b 2 hk _
  unfold Cert.InprojRefIdeal.Spec.ZREF
  rw [Cert.InprojRefIdeal.Spec.cat_2 _ _ _ _ _ _ _ _ _ _ _ hq, hz]
  have hA : ∀ (r : Fin 8192) (q : Fin 1024), (extractStridedSlice Cert.InprojRefIdeal.S8192x1024 ![0, 2048] (PR m c) Cert.InprojRefIdeal.Gen.slices_S8192x16384_S8192x1024_0_2048) (ix2 r q) = PR m c (ix2 r (colOf t q)) := fun r q => seg_at m c t 2 hk _ r q
  unfold zv
  rw [if_neg (by omega), if_neg (by omega)]
  exact (prod_at m c t a b).trans (hA _ _).symm

theorem point8_3 (c : Dev nD) (t : Fin cfg0.N) (a : Fin 512) (b : Fin 1024) (hk : t.val % 16 = 3) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 3 := by show (t.val % 16 * 1024 + b.val) / 1024 = 3; omega
  have hz : (⟨(colOf t b).val - 3072, by have := (colOf t b).isLt; omega⟩ : Fin 1024) = b := col_sub t b 3 hk _
  unfold Cert.InprojRefIdeal.Spec.ZREF
  rw [Cert.InprojRefIdeal.Spec.cat_3 _ _ _ _ _ _ _ _ _ _ _ hq, hz]
  have hA : ∀ (r : Fin 8192) (q : Fin 1024), (extractStridedSlice Cert.InprojRefIdeal.S8192x1024 ![0, 3072] (PR m c) Cert.InprojRefIdeal.Gen.slices_S8192x16384_S8192x1024_0_3072) (ix2 r q) = PR m c (ix2 r (colOf t q)) := fun r q => seg_at m c t 3 hk _ r q
  unfold zv
  rw [if_pos (by omega), cols_at _ ⟨b.val / 128, by omega⟩ a ⟨b.val % 128, by omega⟩ _ rfl (by show b.val = 128 * (b.val / 128) + b.val % 128; omega)]
  refine Eq.trans ?_ (back_at _ _ _ _).symm
  exact prodM_at m c t _ hA _ _ _

theorem point8_4 (c : Dev nD) (t : Fin cfg0.N) (a : Fin 512) (b : Fin 1024) (hk : t.val % 16 = 4) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 4 := by show (t.val % 16 * 1024 + b.val) / 1024 = 4; omega
  have hz : (⟨(colOf t b).val - 4096, by have := (colOf t b).isLt; omega⟩ : Fin 1024) = b := col_sub t b 4 hk _
  unfold Cert.InprojRefIdeal.Spec.ZREF
  rw [Cert.InprojRefIdeal.Spec.cat_4 _ _ _ _ _ _ _ _ _ _ _ hq, hz]
  have hA : ∀ (r : Fin 8192) (q : Fin 1024), (extractStridedSlice Cert.InprojRefIdeal.S8192x1024 ![0, 4096] (PR m c) Cert.InprojRefIdeal.Gen.slices_S8192x16384_S8192x1024_0_4096) (ix2 r q) = PR m c (ix2 r (colOf t q)) := fun r q => seg_at m c t 4 hk _ r q
  unfold zv
  rw [if_pos (by omega), cols_at _ ⟨b.val / 128, by omega⟩ a ⟨b.val % 128, by omega⟩ _ rfl (by show b.val = 128 * (b.val / 128) + b.val % 128; omega)]
  refine Eq.trans ?_ (back_at _ _ _ _).symm
  exact prodM_at m c t _ hA _ _ _

theorem point8_5 (c : Dev nD) (t : Fin cfg0.N) (a : Fin 512) (b : Fin 1024) (hk : t.val % 16 = 5) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 5 := by show (t.val % 16 * 1024 + b.val) / 1024 = 5; omega
  have hz : (⟨(colOf t b).val - 5120, by have := (colOf t b).isLt; omega⟩ : Fin 1024) = b := col_sub t b 5 hk _
  unfold Cert.InprojRefIdeal.Spec.ZREF
  rw [Cert.InprojRefIdeal.Spec.cat_5 _ _ _ _ _ _ _ _ _ _ _ hq, hz]
  have hA : ∀ (r : Fin 8192) (q : Fin 1024), (extractStridedSlice Cert.InprojRefIdeal.S8192x1024 ![0, 5120] (PR m c) Cert.InprojRefIdeal.Gen.slices_S8192x16384_S8192x1024_0_5120) (ix2 r q) = PR m c (ix2 r (colOf t q)) := fun r q => seg_at m c t 5 hk _ r q
  unfold zv
  rw [if_neg (by omega), if_neg (by omega)]
  exact (prod_at m c t a b).trans (hA _ _).symm

theorem point8_6 (c : Dev nD) (t : Fin cfg0.N) (a : Fin 512) (b : Fin 1024) (hk : t.val % 16 = 6) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 6 := by show (t.val % 16 * 1024 + b.val) / 1024 = 6; omega
  have hz : (⟨(colOf t b).val - 6144, by have := (colOf t b).isLt; omega⟩ : Fin 1024) = b := col_sub t b 6 hk _
  unfold Cert.InprojRefIdeal.Spec.ZREF
  rw [Cert.InprojRefIdeal.Spec.cat_6 _ _ _ _ _ _ _ _ _ _ _ hq, hz]
  have hA : ∀ (r : Fin 8192) (q : Fin 1024), (extractStridedSlice Cert.InprojRefIdeal.S8192x1024 ![0, 6144] (PR m c) Cert.InprojRefIdeal.Gen.slices_S8192x16384_S8192x1024_0_6144) (ix2 r q) = PR m c (ix2 r (colOf t q)) := fun r q => seg_at m c t 6 hk _ r q
  unfold zv
  rw [if_neg (by omega), if_pos (by omega), cols_at _ ⟨b.val / 128, by omega⟩ a ⟨b.val % 128, by omega⟩ _ rfl (by show b.val = 128 * (b.val / 128) + b.val % 128; omega)]
  refine Eq.trans ?_ (back_at _ _ _ _).symm
  refine (prodR_at m c t _ hA _ _ _).trans ?_
  rw [scale_q t hk]
  exact mul_one _

theorem point8_7 (c : Dev nD) (t : Fin cfg0.N) (a : Fin 512) (b : Fin 1024) (hk : t.val % 16 = 7) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 7 := by show (t.val % 16 * 1024 + b.val) / 1024 = 7; omega
  have hz : (⟨(colOf t b).val - 7168, by have := (colOf t b).isLt; omega⟩ : Fin 1024) = b := col_sub t b 7 hk _
  unfold Cert.InprojRefIdeal.Spec.ZREF
  rw [Cert.InprojRefIdeal.Spec.cat_7 _ _ _ _ _ _ _ _ _ _ _ hq, hz]
  have hA : ∀ (r : Fin 8192) (q : Fin 1024), (extractStridedSlice Cert.InprojRefIdeal.S8192x1024 ![0, 7168] (PR m c) Cert.InprojRefIdeal.Gen.slices_S8192x16384_S8192x1024_0_7168) (ix2 r q) = PR m c (ix2 r (colOf t q)) := fun r q => seg_at m c t 7 hk _ r q
  unfold zv
  rw [if_neg (by omega), if_pos (by omega), cols_at _ ⟨b.val / 128, by omega⟩ a ⟨b.val % 128, by omega⟩ _ rfl (by show b.val = 128 * (b.val / 128) + b.val % 128; omega)]
  refine Eq.trans ?_ (back_at _ _ _ _).symm
  refine (prodR_at m c t _ hA _ _ _).trans ?_
  rw [scale_k t hk]
  pointwise []

theorem point8_8 (c : Dev nD) (t : Fin cfg0.N) (a : Fin 512) (b : Fin 1024) (hk : 8 ≤ t.val % 16) :
    (zv m c t : S512x1024.Idx → EReal) (ix2 a b) = Cert.InprojRefIdeal.Spec.ZREF (m ((c : Thread nD τ).loc main_arg0)) (m ((c : Thread nD τ).loc main_arg1)) (m ((c : Thread nD τ).loc main_arg2)) (ix2 (rowOf t a) (colOf t b)) := by
  have ht := lt256 t
  have hq : 8 ≤ (colOf t b).val / 1024 := by show 8 ≤ (t.val % 16 * 1024 + b.val) / 1024; omega
  unfold Cert.InprojRefIdeal.Spec.ZREF
  rw [Cert.InprojRefIdeal.Spec.cat_8 _ _ _ _ _ _ _ _ _ _ _ hq]
  unfold zv
  rw [if_neg (by omega), if_neg (by omega), prod_at]
  pointwise []
  exact congrArg (fun z => PR m c (ix2 (rowOf t a) z)) (Fin.ext (by show (colOf t b).val = 8192 + ((colOf t b).val - 8192); have : 8192 ≤ (colOf t b).val := by omega
                                                                    omega))

/-- After the call the first result is the whole projection. -/
theorem final8 (c : Dev nD) : (dats m 0 c).arrAt 8 (cfgs 0).N = Cert.InprojRefIdeal.Spec.ZREF (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨a, b, rfl⟩ : ∃ (a : Fin 512) (b : Fin 1024), y = ix2 a b := ⟨y 0, y 1, eq_ix2 y⟩
  have e : ((cfg0.win 8).blk t).view.emb (ix2 a b) = ix2 (rowOf t a) (colOf t b) := by
    show (win0_8.blk t).view.emb (ix2 a b) = ix2 (rowOf t a) (colOf t b)
    blk_point [idx t]
  rw [e]
  have ht := lt256 t
  rcases (by omega : t.val % 16 = 0 ∨ t.val % 16 = 1 ∨ t.val % 16 = 2 ∨ t.val % 16 = 3 ∨ t.val % 16 = 4 ∨ t.val % 16 = 5 ∨ t.val % 16 = 6 ∨ t.val % 16 = 7 ∨ 8 ≤ t.val % 16) with h | h | h | h | h | h | h | h | h
  · exact point8_0 m c t a b h
  · exact point8_1 m c t a b h
  · exact point8_2 m c t a b h
  · exact point8_3 m c t a b h
  · exact point8_4 m c t a b h
  · exact point8_5 m c t a b h
  · exact point8_6 m c t a b h
  · exact point8_7 m c t a b h
  · exact point8_8 m c t a b h

end Cert.InprojIdeal.Result

end
-- ==== Proof.InprojHeads.lean ====
/- The input projection: what the call leaves in the four arrays of heads is the reference's. -/
module

public import proofs.«01_k».proof.Proof.InprojProjection
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-- A row of the array of heads from a row of a point's block. -/
abbrev headRow (t : Fin cfg0.N) (p : Fin 4096) : Fin 65536 := ⟨t.val / 16 * 4096 + p.val, by have := lt256 t; omega⟩

/-- The point of segment `k` in a row block: its rows and its segment. -/
theorem seg_row (t : Fin cfg0.N) (k : ℕ) (hk : k < 16) (a : Fin 512) : rowOf (seg t k hk) a = rowOf t a :=
  Fin.ext (by show (t.val / 16 * 16 + k) / 16 * 512 + a.val = t.val / 16 * 512 + a.val; omega)
theorem seg_mod (t : Fin cfg0.N) (k : ℕ) (hk : k < 16) : (seg t k hk).val % 16 = k := by
  show (t.val / 16 * 16 + k) % 16 = k; omega

/-- A row of heads belongs to the row of the stream at an eighth of its number. -/
theorem headRow_row (t : Fin cfg0.N) (p : Fin 4096) (h1 : (headRow t p).val / 8 < 8192) (h2 : p.val / 8 < 512) : (⟨(headRow t p).val / 8, h1⟩ : Fin 8192) = rowOf t ⟨p.val / 8, h2⟩ :=
  Fin.ext (by show (t.val / 16 * 4096 + p.val) / 8 = t.val / 16 * 512 + p.val / 8; omega)

/-- A head of a segment at an index. -/
theorem head_seg (c : Dev nD) (t : Fin cfg0.N) (k : ℕ) (hk : k < 16) (h : (⟨2, ![8192, 16384]⟩ : Shape).Slices ![0, 1024 * k] ⟨2, ![8192, 1024]⟩) (j : Fin 8) (a : Fin 512) (l : Fin 128) :
    (head (prod m c (seg t k hk)) j (ix2 a l) : EReal)
      = extractStridedSlice ⟨2, ![8192, 1024]⟩ ![0, 1024 * k] (PR m c) h (ix2 (rowOf t a) ⟨j.val * 128 + l.val, by omega⟩) := by
  rw [seg_at m c (seg t k hk) k (seg_mod t k hk), ← seg_row t k hk a, ← prod_at]
  unfold head
  pointwise []
  exact congrArg (fun z => prod m c (seg t k hk) (ix2 a z)) (Fin.ext (by show 128 * j.val + l.val = j.val * 128 + l.val; omega))

/-- The heads of a segment, stored row by row. -/
theorem rows_seg (c : Dev nD) (t : Fin cfg0.N) (k : ℕ) (hk : k < 16) (h : (⟨2, ![8192, 16384]⟩ : Shape).Slices ![0, 1024 * k] ⟨2, ![8192, 1024]⟩)
    (h' : (⟨2, ![8192, 1024]⟩ : Shape).ShapeCasts ⟨2, ![65536, 128]⟩) (p : Fin 4096) (l : Fin 128) :
    (rows (head (prod m c (seg t k hk))) (ix2 p l) : EReal)
      = shapeCast ⟨2, ![65536, 128]⟩ (extractStridedSlice ⟨2, ![8192, 1024]⟩ ![0, 1024 * k] (PR m c) h) h' (ix2 (headRow t p) l) := by
  rw [rows_at _ ⟨p.val % 8, by omega⟩ ⟨p.val / 8, by omega⟩ l _ (by show p.val = 8 * (p.val / 8) + p.val % 8; omega) rfl]
  refine (head_seg m c t k hk h _ _ _).trans (Eq.trans ?_ (stack_at _ h' _ _).symm)
  have e : (⟨p.val % 8 * 128 + l.val, by omega⟩ : Fin 1024) = ⟨(headRow t p).val % 8 * 128 + l.val, by omega⟩ :=
    Fin.ext (by show p.val % 8 * 128 + l.val = (t.val / 16 * 4096 + p.val) % 8 * 128 + l.val; omega)
  rw [headRow_row t p _ (by omega), e]

/-- The rotated heads of a segment, stored row by row. -/
theorem rowsM_seg (c : Dev nD) (t : Fin cfg0.N) (k : ℕ) (hk : k < 16) (h : (⟨2, ![8192, 16384]⟩ : Shape).Slices ![0, 1024 * k] ⟨2, ![8192, 1024]⟩)
    (h' : (⟨3, ![8192, 8, 128]⟩ : Shape).ShapeCasts ⟨2, ![65536, 128]⟩) (p : Fin 4096) (l : Fin 128) :
    (rows (prodM m c (seg t k hk)) (ix2 p l) : EReal)
      = shapeCast ⟨2, ![65536, 128]⟩ (Cert.InprojRefIdeal.Spec.ROTM (extractStridedSlice ⟨2, ![8192, 1024]⟩ ![0, 1024 * k] (PR m c) h) Cert.InprojRefIdeal.Spec.COSM Cert.InprojRefIdeal.Spec.SINM) h' (ix2 (headRow t p) l) := by
  rw [rows_at _ ⟨p.val % 8, by omega⟩ ⟨p.val / 8, by omega⟩ l _ (by show p.val = 8 * (p.val / 8) + p.val % 8; omega) rfl]
  refine (prodM_at m c (seg t k hk) _ (fun r q => seg_at m c (seg t k hk) k (seg_mod t k hk) h r q) _ _ _).trans (Eq.trans ?_ (stack3_at _ h' _ _).symm)
  have e : (⟨p.val % 8, by omega⟩ : Fin 8) = ⟨(headRow t p).val % 8, by omega⟩ :=
    Fin.ext (by show p.val % 8 = (t.val / 16 * 4096 + p.val) % 8; omega)
  rw [headRow_row t p _ (by omega), seg_row, e]

/-- After the call result 1 is the first attention's keys. -/
theorem final9 (c : Dev nD) : (dats m 0 c).arrAt 9 (cfgs 0).N = Cert.InprojRefIdeal.Spec.KAREF (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain ⟨a, b, rfl⟩ : ∃ (a : Fin 4096) (b : Fin 128), y = ix2 a b := ⟨y 0, y 1, eq_ix2 y⟩
  have e : ((cfg0.win 9).blk t).view.emb (ix2 a b) = ix2 (headRow t a) b := by
    show (win0_9.blk t).view.emb (ix2 a b) = ix2 (headRow t a) b
    blk_point [idx t]
  rw [e]
  unfold kav
  exact rows_seg m c t 1 (by decide) _ _ a b

/-- After the call result 2 is its values. -/
theorem final10 (c : Dev nD) : (dats m 0 c).arrAt 10 (cfgs 0).N = Cert.InprojRefIdeal.Spec.VAREF (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  obtain ⟨a, b, rfl⟩ : ∃ (a : Fin 4096) (b : Fin 128), y = ix2 a b := ⟨y 0, y 1, eq_ix2 y⟩
  have e : ((cfg0.win 10).blk t).view.emb (ix2 a b) = ix2 (headRow t a) b := by
    show (win0_10.blk t).view.emb (ix2 a b) = ix2 (headRow t a) b
    blk_point [idx t]
  rw [e]
  unfold vav
  exact rows_seg m c t 2 (by decide) _ _ a b

/-- After the call result 3 is the block attention's rotated keys. -/
theorem final11 (c : Dev nD) : (dats m 0 c).arrAt 11 (cfgs 0).N = Cert.InprojRefIdeal.Spec.KMREF (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  obtain ⟨a, b, rfl⟩ : ∃ (a : Fin 4096) (b : Fin 128), y = ix2 a b := ⟨y 0, y 1, eq_ix2 y⟩
  have e : ((cfg0.win 11).blk t).view.emb (ix2 a b) = ix2 (headRow t a) b := by
    show (win0_11.blk t).view.emb (ix2 a b) = ix2 (headRow t a) b
    blk_point [idx t]
  rw [e]
  unfold kmv
  exact rowsM_seg m c t 4 (by decide) _ _ a b

/-- After the call result 4 is its values. -/
theorem final12 (c : Dev nD) : (dats m 0 c).arrAt 12 (cfgs 0).N = Cert.InprojRefIdeal.Spec.VMREF (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  obtain ⟨a, b, rfl⟩ : ∃ (a : Fin 4096) (b : Fin 128), y = ix2 a b := ⟨y 0, y 1, eq_ix2 y⟩
  have e : ((cfg0.win 12).blk t).view.emb (ix2 a b) = ix2 (headRow t a) b := by
    show (win0_12.blk t).view.emb (ix2 a b) = ix2 (headRow t a) b
    blk_point [idx t]
  rw [e]
  unfold vmv
  exact rows_seg m c t 5 (by decide) _ _ a b

end Cert.InprojIdeal.Result

end
-- ==== Proof.InprojPair.lean ====
/- The input projection computes its reference. -/
module

public import proofs.«01_k».proof.Defs
public import proofs.«01_k».proof.Proof.InprojHeads
public import proofs.«01_k».proof.Proof.InprojFrame
public import proofs.«01_k».proof.Proof.Gen.InprojRefIdeal.Run
public import Idealize.ShloMosaic.Lib.Claim

@[expose] public section

set_option maxRecDepth 16384

noncomputable section

open Idealize.ShloMosaic Idealize.SL.Sem

namespace Cert.InprojIdeal.Result

set_option maxHeartbeats 4000000 in
/-- The input projection computes its reference: the projection and the four arrays of heads. -/
theorem pair : Cert.algebraic_InprojIdeal_InprojRefIdeal := by
  pair_intro
  · run_from Cert.InprojIdeal.Result.run_main m g
  · refine θ_run_mono (Cert.InprojRefIdeal.Value.run m' g') ?_
    intro r h c
    have hc := h c
    have h0 := (hagree c).1
    have h1 := (hagree c).2.1
    have h2 := (hagree c).2.2
    refine ⟨?_, ?_, ?_, ?_, ?_, hc.2.2.2.2.2⟩
    · rw [hc.1]
      refine (Cert.InprojRefIdeal.Spec.res0 m' c).trans ?_
      rw [h0, h1, h2]
      exact (final8 m c).symm
    · rw [hc.2.1, h0, h1, h2]
      exact (final9 m c).symm
    · rw [hc.2.2.1, h0, h1, h2]
      exact (final10 m c).symm
    · rw [hc.2.2.2.1]
      refine (Cert.InprojRefIdeal.Spec.res3 m' c).trans ?_
      rw [h0, h1, h2]
      exact (final11 m c).symm
    · rw [hc.2.2.2.2.1, h0, h1, h2]
      exact (final12 m c).symm

end Cert.InprojIdeal.Result

end
-- ==== Proof.FinalNormSampleResult.lean ====
/- The last root-mean-square norm: the one grid point normalises the 64 rows of the sampled positions, so what it stores is the
   norm of the whole array. -/
module

public import proofs.«01_k».proof.Proof.Gen.FinalNormSampleIdeal.Value
public import proofs.«01_k».proof.Proof.Gen.FinalNormSampleRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNormSampleIdeal.Result

open Cert.FinalNormSampleIdeal Cert.FinalNormSampleIdeal.Gen

variable (m : (ℓ : Loc nD τ sig) → Buf (Elt Ideal) ℓ)

/-- The reference as one function of the residual stream and the gain: `x · rsqrt(mean x² + ε) · g`, row by row. -/
abbrev REF (X : FVec Ideal ⟨2, ![64, 2048]⟩ .f32) (G : FVec Ideal ⟨1, ![2048]⟩ .f32) : FVec Ideal ⟨2, ![64, 2048]⟩ .f32 :=
  mulf (mulf X (broadcastInDim Cert.FinalNormSampleRefIdeal.S64x2048 ![0, 1] Cert.FinalNormSampleRefIdeal.Gen.bcast_S64x1_S64x2048_0_1 (Host.rsqrt (addf (Host.divf (broadcastInDim Cert.FinalNormSampleRefIdeal.S64x1 ![0] Cert.FinalNormSampleRefIdeal.Gen.bcast_S64_S64x1_0 (Host.reduceAdd (mulf X X) (constant Cert.FinalNormSampleRefIdeal.S_ .f32 0x00000000#32) Cert.FinalNormSampleRefIdeal.Gen.reducesTo_S64x2048_S64_d1 Cert.FinalNormSampleRefIdeal.Gen.h_S_)) (broadcastInDim Cert.FinalNormSampleRefIdeal.S64x1 ![] Cert.FinalNormSampleRefIdeal.Gen.bcast_S_S64x1 (constant Cert.FinalNormSampleRefIdeal.S_ .f32 0x45000000#32))) (broadcastInDim Cert.FinalNormSampleRefIdeal.S64x1 ![] Cert.FinalNormSampleRefIdeal.Gen.bcast_S_S64x1 (constant Cert.FinalNormSampleRefIdeal.S_ .f32 0x358637BD#32)))))) (broadcastInDim Cert.FinalNormSampleRefIdeal.S64x2048 ![0, 1] Cert.FinalNormSampleRefIdeal.Gen.bcast_S1x2048_S64x2048_0_1 (broadcastInDim Cert.FinalNormSampleRefIdeal.S1x2048 ![1] Cert.FinalNormSampleRefIdeal.Gen.bcast_S2048_S1x2048_1 G))

/-- Which block of its array each window of the call takes at a grid point, decided over all the points. -/
theorem idx : ∀ t : Fin cfg0.N,
    win0_0.index t = ![(grid0.coords t 0).val, 0] ∧ win0_1.index t = ![0, 0] ∧ win0_2.index t = ![(grid0.coords t 0).val, 0] :=
  (by decide +kernel : ∀ t : Fin grid0.N, _)

/-- What the body stores at index `y` of its tile at grid point `t` is the reference at the place of the array
    where `y` lies. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- After the call the result array is the norm of the whole residual. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalNormSampleIdeal.Result

end
-- ==== Proof.InprojSamplePoint.lean ====
/- The sampled rows' input projection: which column block each grid point works on, and which buffers it leaves alone. -/
module

public import proofs.«01_k».proof.Proof.Gen.InprojSampleIdeal.Frame
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A row block begins. -/
theorem hc0 : ∀ t : Fin cfg0.N, (Scalar.cmpi .ne (Scalar.extui (Scalar.cmpi .eq (BitVec.ofNat 32 ((grid0.coords t) 1).val) 0#32)) 0#32) = 1#1 ↔ t.val % 16 = 0 :=
  (fun t => by
    have ht : t.val < 16 := Nat.lt_of_lt_of_eq t.isLt N_0
    have e1 : (grid0.coords t 1).val = t.val / 1 % 16 := Pipeline.Grid.coords_val t 1 (by decide) rfl
    simp only [e1]
    word_cmp
   : ∀ t : Fin grid0.N, (Scalar.cmpi .ne (Scalar.extui (Scalar.cmpi .eq (BitVec.ofNat 32 ((grid0.coords t) 1).val) 0#32)) 0#32) = 1#1 ↔ t.val % 16 = 0)

/-- The queries and keys of the block attention. -/
theorem hc2 : ∀ t : Fin cfg0.N, k0_cond2 (grid0.coords t) = 1#1 ↔ (3 ≤ t.val % 16 ∧ t.val % 16 ≤ 4) :=
  (fun t => by
    have ht : t.val < 16 := Nat.lt_of_lt_of_eq t.isLt N_0
    have e1 : (grid0.coords t 1).val = t.val / 1 % 16 := Pipeline.Grid.coords_val t 1 (by decide) rfl
    simp only [k0_cond2, e1]
    word_cmp
   : ∀ t : Fin grid0.N, k0_cond2 (grid0.coords t) = 1#1 ↔ (3 ≤ t.val % 16 ∧ t.val % 16 ≤ 4))

/-- The queries and keys of the retention. -/
theorem hc4 : ∀ t : Fin cfg0.N, k0_cond4 (grid0.coords t) = 1#1 ↔ (6 ≤ t.val % 16 ∧ t.val % 16 ≤ 7) :=
  (fun t => by
    have ht : t.val < 16 := Nat.lt_of_lt_of_eq t.isLt N_0
    have e1 : (grid0.coords t 1).val = t.val / 1 % 16 := Pipeline.Grid.coords_val t 1 (by decide) rfl
    simp only [k0_cond4, e1]
    word_cmp
   : ∀ t : Fin grid0.N, k0_cond4 (grid0.coords t) = 1#1 ↔ (6 ≤ t.val % 16 ∧ t.val % 16 ≤ 7))

/-- Column block 1. -/
theorem hc6 : ∀ t : Fin cfg0.N, k0_cond6 (grid0.coords t) = 1#1 ↔ t.val % 16 = 1 :=
  (fun t => by
    have ht : t.val < 16 := Nat.lt_of_lt_of_eq t.isLt N_0
    have e1 : (grid0.coords t 1).val = t.val / 1 % 16 := Pipeline.Grid.coords_val t 1 (by decide) rfl
    simp only [k0_cond6, e1]
    word_cmp
   : ∀ t : Fin grid0.N, k0_cond6 (grid0.coords t) = 1#1 ↔ t.val % 16 = 1)

/-- Column block 2. -/
theorem hc7 : ∀ t : Fin cfg0.N, k0_cond7 (grid0.coords t) = 1#1 ↔ t.val % 16 = 2 :=
  (fun t => by
    have ht : t.val < 16 := Nat.lt_of_lt_of_eq t.isLt N_0
    have e1 : (grid0.coords t 1).val = t.val / 1 % 16 := Pipeline.Grid.coords_val t 1 (by decide) rfl
    simp only [k0_cond7, e1]
    word_cmp
   : ∀ t : Fin grid0.N, k0_cond7 (grid0.coords t) = 1#1 ↔ t.val % 16 = 2)

/-- Column block 5. -/
theorem hc8 : ∀ t : Fin cfg0.N, k0_cond8 (grid0.coords t) = 1#1 ↔ t.val % 16 = 5 :=
  (fun t => by
    have ht : t.val < 16 := Nat.lt_of_lt_of_eq t.isLt N_0
    have e1 : (grid0.coords t 1).val = t.val / 1 % 16 := Pipeline.Grid.coords_val t 1 (by decide) rfl
    simp only [k0_cond8, e1]
    word_cmp
   : ∀ t : Fin grid0.N, k0_cond8 (grid0.coords t) = 1#1 ↔ t.val % 16 = 5)

/-- Column block 4. -/
theorem hc3 : ∀ t : Fin cfg0.N, k0_cond3 (grid0.coords t) = 1#1 ↔ t.val % 16 = 4 :=
  (fun t => by
    have ht : t.val < 16 := Nat.lt_of_lt_of_eq t.isLt N_0
    have e1 : (grid0.coords t 1).val = t.val / 1 % 16 := Pipeline.Grid.coords_val t 1 (by decide) rfl
    simp only [k0_cond3, e1]
    word_cmp
   : ∀ t : Fin grid0.N, k0_cond3 (grid0.coords t) = 1#1 ↔ t.val % 16 = 4)

/-- The other column blocks. -/
theorem hc5 : ∀ t : Fin cfg0.N, k0_cond5 (grid0.coords t) = 1#1 ↔ ¬(t.val % 16 = 3 ∨ t.val % 16 = 4 ∨ t.val % 16 = 6 ∨ t.val % 16 = 7) :=
  (by decide +kernel : ∀ t : Fin grid0.N, k0_cond5 (grid0.coords t) = 1#1 ↔ ¬(t.val % 16 = 3 ∨ t.val % 16 = 4 ∨ t.val % 16 = 6 ∨ t.val % 16 = 7))

theorem idle8 : ∀ t : Fin cfg0.N, cfg0.idle 8 (cfg0.grid.coords t) = false :=
  (by decide +kernel : ∀ t : Fin grid0.N, idle0 8 (grid0.coords t) = false)
theorem idle9 : ∀ t : Fin cfg0.N, cfg0.idle 9 (cfg0.grid.coords t) = !decide (t.val % 16 = 1) :=
  (by decide +kernel : ∀ t : Fin grid0.N, idle0 9 (grid0.coords t) = !decide (t.val % 16 = 1))
theorem idle10 : ∀ t : Fin cfg0.N, cfg0.idle 10 (cfg0.grid.coords t) = !decide (t.val % 16 = 2) :=
  (by decide +kernel : ∀ t : Fin grid0.N, idle0 10 (grid0.coords t) = !decide (t.val % 16 = 2))
theorem idle11 : ∀ t : Fin cfg0.N, cfg0.idle 11 (cfg0.grid.coords t) = !decide (t.val % 16 = 4) :=
  (by decide +kernel : ∀ t : Fin grid0.N, idle0 11 (grid0.coords t) = !decide (t.val % 16 = 4))
theorem idle12 : ∀ t : Fin cfg0.N, cfg0.idle 12 (cfg0.grid.coords t) = !decide (t.val % 16 = 5) :=
  (by decide +kernel : ∀ t : Fin grid0.N, idle0 12 (grid0.coords t) = !decide (t.val % 16 = 5))

/-- The point of column block `k` in the row block of point `t`. -/
def seg (t : Fin cfg0.N) (k : ℕ) (hk : k < 16) : Fin cfg0.N :=
  ⟨t.val / 16 * 16 + k, by have h : t.val < 16 := Nat.lt_of_lt_of_eq t.isLt N_0; exact Nat.lt_of_lt_of_eq (by omega) N_0.symm⟩

theorem seg_self (t : Fin cfg0.N) (k : ℕ) (hk : k < 16) (h : t.val % 16 = k) : seg t k hk = t :=
  Fin.ext (by show t.val / 16 * 16 + k = t.val; omega)

theorem seg_eq (t u : Fin cfg0.N) (k : ℕ) (hk : k < 16) (h : t.val / 16 = u.val / 16) : seg t k hk = seg u k hk :=
  Fin.ext (by show t.val / 16 * 16 + k = u.val / 16 * 16 + k; omega)

/-- A window stored at one column block of each row block and written back at the last holds, past that
    column block, what was stored there. -/
theorem kv_before {c : Dev nD} (dat : Dat τ (Elt F) Unit ℕ (UR sig nD τ) ℕ cfg0 c) (w : Fin cfg0.W) (k : ℕ)
    (hi : ∀ t : Fin cfg0.N, cfg0.idle w (cfg0.grid.coords t) = !decide (t.val % 16 = k))
    (hf : ∀ t, (cfg0.win w).fetch t = false) (hl : ∀ t, (cfg0.win w).flush t = true ↔ t.val % 16 = 15)
    (hk : ∀ t d, dat.kept w t d = dat.after w t)
    (ha : ∀ t u : Fin cfg0.N, t.val / 16 = u.val / 16 → dat.after w t = dat.after w u) :
    ∀ (n : ℕ) (hn : n < cfg0.N) (d), k < n % 16 → dat.before w ⟨n, hn⟩ d = dat.after w ⟨n, hn⟩ := by
  intro n
  induction n with
  | zero => intro hn d h; exact absurd h (by omega)
  | succ n ih =>
    intro hn d h
    have hn' : n < cfg0.N := Nat.lt_of_succ_lt hn
    have hfl : (cfg0.win w).flush ⟨n, hn'⟩ ≠ true := fun e => by
      have e' : n % 16 = 15 := (hl ⟨n, hn'⟩).mp e
      omega
    refine (dat.before_of_pos w ⟨n + 1, hn⟩ (Nat.succ_ne_zero n) (hf _) d).trans ?_
    refine (if_neg hfl).trans ?_
    refine Eq.trans ?_ (ha ⟨n, hn'⟩ ⟨n + 1, hn⟩ (by show n / 16 = (n + 1) / 16; omega))
    show dat.left w ⟨n, hn'⟩ d = _
    unfold Dat.left
    by_cases e : n % 16 = k
    · rw [hi ⟨n, hn'⟩, show decide ((⟨n, hn'⟩ : Fin cfg0.N).val % 16 = k) = true from decide_eq_true e]
      exact hk _ _
    · rw [hi ⟨n, hn'⟩, show decide ((⟨n, hn'⟩ : Fin cfg0.N).val % 16 = k) = false from decide_eq_false e]
      exact ih hn' d (by omega)

/-- Away from its column block such a window is handed on as it was found. -/
theorem kv_leaves {c : Dev nD} (dat : Dat τ (Elt F) Unit ℕ (UR sig nD τ) ℕ cfg0 c) (w : Fin cfg0.W) (k : ℕ) (hk15 : k < 15)
    (hi : ∀ t : Fin cfg0.N, cfg0.idle w (cfg0.grid.coords t) = !decide (t.val % 16 = k))
    (hf : ∀ t, (cfg0.win w).fetch t = false) (hl : ∀ t, (cfg0.win w).flush t = true ↔ t.val % 16 = 15)
    (hk : ∀ t d, dat.kept w t d = dat.after w t)
    (ha : ∀ t u : Fin cfg0.N, t.val / 16 = u.val / 16 → dat.after w t = dat.after w u) (t : Fin cfg0.N) (ht : t.val % 16 ≠ k) :
    iprop(∃ d, owns (c : Thread nD τ) ((cfg0.win w).stage (cfg0.slots t w)) fullShare (dat.before w t d)) ⊢ (dat.leavesExact w t : sProp (MT nD τ sig Unit (Elt F) ℕ (UR sig nD τ) ℕ)) := by
  have hidle : cfg0.idle w (cfg0.grid.coords t) = true := by rw [hi t, decide_eq_false ht]; rfl
  by_cases h : t.val % 16 = 15
  · unfold Dat.leavesExact
    rw [hidle, (hl t).mpr h]
    simp only [kv_before dat w k hi hf hl hk ha t.val t.isLt _ (by omega)]
    iintro ⟨%d, H⟩
    iexact H
  · rw [Dat.leavesExact_idle dat w t hidle (Bool.eq_false_iff.mpr fun e => h ((hl t).mp e))]

/-- At its column block it holds what is stored there. -/
theorem kv_live {c : Dev nD} (dat : Dat τ (Elt F) Unit ℕ (UR sig nD τ) ℕ cfg0 c) (w : Fin cfg0.W) (k : ℕ)
    (hi : ∀ t : Fin cfg0.N, cfg0.idle w (cfg0.grid.coords t) = !decide (t.val % 16 = k)) (t : Fin cfg0.N) (ht : t.val % 16 = k) :
    (dat.leavesExact w t : sProp (MT nD τ sig Unit (Elt F) ℕ (UR sig nD τ) ℕ)) = owns (c : Thread nD τ) ((cfg0.win w).stage (cfg0.slots t w)) fullShare (dat.after w t) := by
  unfold Dat.leavesExact
  rw [hi t, decide_eq_true ht]; rfl

end Cert.InprojSampleIdeal.Result

end
-- ==== Proof.InprojSampleSpec.lean ====
/- The sampled rows' input projection: what its stores leave, as functions of what a grid point reads. -/
module

public import proofs.«01_k».proof.Proof.Gen.InprojSampleIdeal.Frame
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Eight blocks of 128 columns side by side. -/
def cols (p : Fin 8 → FVec F S64x128 .f32) : FVec F S64x1024 .f32 := fun y =>
  p ⟨(y 1).val / 128, by have h : (y 1).val < 1024 := (y 1).isLt; omega⟩
    (ix2 ⟨(y 0).val, (y 0).isLt⟩ ⟨(y 1).val % 128, Nat.mod_lt _ (by decide)⟩)

/-- Eight blocks of 64 rows interleaved: row `8 r + j` is row `r` of block `j`. -/
def rows (p : Fin 8 → FVec F S64x128 .f32) : FVec F S512x128 .f32 := fun y =>
  p ⟨(y 0).val % 8, Nat.mod_lt _ (by decide)⟩
    (ix2 ⟨(y 0).val / 8, by have h : (y 0).val < 512 := (y 0).isLt; omega⟩ ⟨(y 1).val, (y 1).isLt⟩)

theorem slices (j : Fin 8) : S64x1024.Slices ![0, 128 * j.val] S64x128 := by
  revert j; decide

/-- The columns of one head. -/
def head (A : FVec F S64x1024 .f32) (j : Fin 8) : FVec F S64x128 .f32 :=
  extractStridedSlice S64x128 ![0, 128 * j.val] A (slices j)

/-- One head rotated over its first 32 columns: `x · c + x₊₁₆ · s₁ + x₋₁₆ · s₂`. -/
def part (A : FVec F S64x1024 .f32) (c s1 s2 : FVec F S64x128 .f32) (j : Fin 8) : FVec F S64x128 .f32 :=
  addf (addf (mulf (head A j) c) (mulf (dynamicRotate 1 112#32 none (head A j) rotates_S64x128_d1) s1))
    (mulf (dynamicRotate 1 16#32 none (head A j) rotates_S64x128_d1) s2)

/-- One head rotated over all its columns and scaled: `(x · c + x₊₆₄ · s) · k`. -/
def full (A : FVec F S64x1024 .f32) (c s : FVec F S64x128 .f32) (k : F .f32) (j : Fin 8) : FVec F S64x128 .f32 :=
  mulf (addf (mulf (head A j) c) (mulf (dynamicRotate 1 64#32 none (head A j) rotates_S64x128_d1) s))
    (broadcast S64x128 k)

theorem cols_at (p : Fin 8 → FVec F S64x128 .f32) (j : Fin 8) (r : Fin 64) (e : Fin 128) (y : S64x1024.Idx)
    (h0 : (y 0).val = r.val) (h1 : (y 1).val = 128 * j.val + e.val) : cols p y = p j (ix2 r e) := by
  unfold cols
  have hj : (⟨(y 1).val / 128, by have h : (y 1).val < 1024 := (y 1).isLt; omega⟩ : Fin 8) = j := Fin.ext (by show (y 1).val / 128 = j.val; omega)
  have hr : (⟨(y 0).val, (y 0).isLt⟩ : Fin 64) = r := Fin.ext h0
  have he : (⟨(y 1).val % 128, Nat.mod_lt _ (by decide)⟩ : Fin 128) = e := Fin.ext (by show (y 1).val % 128 = e.val; omega)
  rw [hj, hr, he]

theorem rows_at (p : Fin 8 → FVec F S64x128 .f32) (j : Fin 8) (r : Fin 64) (e : Fin 128) (y : S512x128.Idx)
    (h0 : (y 0).val = 8 * r.val + j.val) (h1 : (y 1).val = e.val) : rows p y = p j (ix2 r e) := by
  unfold rows
  have hj : (⟨(y 0).val % 8, Nat.mod_lt _ (by decide)⟩ : Fin 8) = j := Fin.ext (by show (y 0).val % 8 = j.val; omega)
  have hr : (⟨(y 0).val / 8, by have h : (y 0).val < 512 := (y 0).isLt; omega⟩ : Fin 64) = r := Fin.ext (by show (y 0).val / 8 = r.val; omega)
  have he : (⟨(y 1).val, (y 1).isLt⟩ : Fin 128) = e := Fin.ext h1
  rw [hj, hr, he]

/-- What eight stores into a block's columns leave. -/
theorem read_cols {κ : Kind} {sp : Space} (v : View sig κ sp S64x1024 .f32) (f) (p0 p1 p2 p3 p4 p5 p6 p7 : FVec F S64x128 .f32) :
    v.read (Elt F) (v.writes (Elt F) f
      [⟨Rect.unit (s := S64x1024) ![0, 896] S64x128.size inb_S64x1024_S64x128_0_896, p7⟩,
       ⟨Rect.unit (s := S64x1024) ![0, 768] S64x128.size inb_S64x1024_S64x128_0_768, p6⟩,
       ⟨Rect.unit (s := S64x1024) ![0, 640] S64x128.size inb_S64x1024_S64x128_0_640, p5⟩,
       ⟨Rect.unit (s := S64x1024) ![0, 512] S64x128.size inb_S64x1024_S64x128_0_512, p4⟩,
       ⟨Rect.unit (s := S64x1024) ![0, 384] S64x128.size inb_S64x1024_S64x128_0_384, p3⟩,
       ⟨Rect.unit (s := S64x1024) ![0, 256] S64x128.size inb_S64x1024_S64x128_0_256, p2⟩,
       ⟨Rect.unit (s := S64x1024) ![0, 128] S64x128.size inb_S64x1024_S64x128_0_128, p1⟩,
       ⟨Rect.unit (s := S64x1024) ![0, 0] S64x128.size inb_S64x1024_S64x128_0_0, p0⟩])
      = cols ![p0, p1, p2, p3, p4, p5, p6, p7] := by
  funext y
  refine View.read_writes_apply_of_pieces v f _ _ ?_ y ?_
  · simp only [List.mem_cons, List.not_mem_nil, or_false]
    rintro p (rfl | rfl | rfl | rfl | rfl | rfl | rfl | rfl) x <;> obtain ⟨r, e, rfl⟩ : ∃ (r : Fin 64) (e : Fin 128), x = ix2 r e := ⟨x 0, x 1, eq_ix2 x⟩
    · refine Eq.symm (cols_at _ 7 r e _ ?_ ?_)
      · show 0 + 1 * r.val = r.val; omega
      · show 896 + 1 * e.val = 128 * 7 + e.val; omega
    · refine Eq.symm (cols_at _ 6 r e _ ?_ ?_)
      · show 0 + 1 * r.val = r.val; omega
      · show 768 + 1 * e.val = 128 * 6 + e.val; omega
    · refine Eq.symm (cols_at _ 5 r e _ ?_ ?_)
      · show 0 + 1 * r.val = r.val; omega
      · show 640 + 1 * e.val = 128 * 5 + e.val; omega
    · refine Eq.symm (cols_at _ 4 r e _ ?_ ?_)
      · show 0 + 1 * r.val = r.val; omega
      · show 512 + 1 * e.val = 128 * 4 + e.val; omega
    · refine Eq.symm (cols_at _ 3 r e _ ?_ ?_)
      · show 0 + 1 * r.val = r.val; omega
      · show 384 + 1 * e.val = 128 * 3 + e.val; omega
    · refine Eq.symm (cols_at _ 2 r e _ ?_ ?_)
      · show 0 + 1 * r.val = r.val; omega
      · show 256 + 1 * e.val = 128 * 2 + e.val; omega
    · refine Eq.symm (cols_at _ 1 r e _ ?_ ?_)
      · show 0 + 1 * r.val = r.val; omega
      · show 128 + 1 * e.val = 128 * 1 + e.val; omega
    · refine Eq.symm (cols_at _ 0 r e _ ?_ ?_)
      · show 0 + 1 * r.val = r.val; omega
      · show 0 + 1 * e.val = 128 * 0 + e.val; omega
  · have hy0 : (y 0).val < 64 := (y 0).isLt
    have hy1 : (y 1).val < 1024 := (y 1).isLt
    have hm : ∀ (k : ℕ) (h), k ≤ (y 1).val → (y 1).val < k + 128 → y ∈ (Rect.unit (s := S64x1024) ![0, k] S64x128.size h).set := fun k h h1 h2 => by
      rw [Rect.mem_set_unit]
      intro a
      match a with
      | 0 => exact ⟨Nat.zero_le _, by show (y 0).val < 0 + 64; omega⟩
      | 1 => exact ⟨h1, h2⟩
    simp only [List.exists_mem_cons_iff]
    rcases (by omega : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128)) with h | h | h | h | h | h | h | h
    · exact .inl (hm _ _ h.1 h.2)
    · exact .inr <| .inl (hm _ _ h.1 h.2)
    · exact .inr <| .inr <| .inl (hm _ _ h.1 h.2)
    · exact .inr <| .inr <| .inr <| .inl (hm _ _ h.1 h.2)
    · exact .inr <| .inr <| .inr <| .inr <| .inl (hm _ _ h.1 h.2)
    · exact .inr <| .inr <| .inr <| .inr <| .inr <| .inl (hm _ _ h.1 h.2)
    · exact .inr <| .inr <| .inr <| .inr <| .inr <| .inr <| .inl (hm _ _ h.1 h.2)
    · exact .inr <| .inr <| .inr <| .inr <| .inr <| .inr <| .inr <| .inl (hm _ _ h.1 h.2)

/-- What eight interleaved stores of rows leave. -/
theorem read_rows {κ : Kind} {sp : Space} (v : View sig κ sp S512x128 .f32) (f) (p0 p1 p2 p3 p4 p5 p6 p7 : FVec F S64x128 .f32) :
    v.read (Elt F) (v.writes (Elt F) f
      [⟨⟨(⟨![7, 0], S64x128.size, ![8, 1], inb_S512x128_S64x128_7_0_s_8_1⟩ : LoadRect S512x128), spos_8_1⟩, p7⟩,
       ⟨⟨(⟨![6, 0], S64x128.size, ![8, 1], inb_S512x128_S64x128_6_0_s_8_1⟩ : LoadRect S512x128), spos_8_1⟩, p6⟩,
       ⟨⟨(⟨![5, 0], S64x128.size, ![8, 1], inb_S512x128_S64x128_5_0_s_8_1⟩ : LoadRect S512x128), spos_8_1⟩, p5⟩,
       ⟨⟨(⟨![4, 0], S64x128.size, ![8, 1], inb_S512x128_S64x128_4_0_s_8_1⟩ : LoadRect S512x128), spos_8_1⟩, p4⟩,
       ⟨⟨(⟨![3, 0], S64x128.size, ![8, 1], inb_S512x128_S64x128_3_0_s_8_1⟩ : LoadRect S512x128), spos_8_1⟩, p3⟩,
       ⟨⟨(⟨![2, 0], S64x128.size, ![8, 1], inb_S512x128_S64x128_2_0_s_8_1⟩ : LoadRect S512x128), spos_8_1⟩, p2⟩,
       ⟨⟨(⟨![1, 0], S64x128.size, ![8, 1], inb_S512x128_S64x128_1_0_s_8_1⟩ : LoadRect S512x128), spos_8_1⟩, p1⟩,
       ⟨⟨(⟨![0, 0], S64x128.size, ![8, 1], inb_S512x128_S64x128_0_0_s_8_1⟩ : LoadRect S512x128), spos_8_1⟩, p0⟩])
      = rows ![p0, p1, p2, p3, p4, p5, p6, p7] := by
  funext y
  refine View.read_writes_apply_of_pieces v f _ _ ?_ y ?_
  · simp only [List.mem_cons, List.not_mem_nil, or_false]
    rintro p (rfl | rfl | rfl | rfl | rfl | rfl | rfl | rfl) x <;> obtain ⟨r, e, rfl⟩ : ∃ (r : Fin 64) (e : Fin 128), x = ix2 r e := ⟨x 0, x 1, eq_ix2 x⟩
    · refine Eq.symm (rows_at _ 7 r e _ ?_ ?_)
      · show 7 + 8 * r.val = 8 * r.val + 7; omega
      · show 0 + 1 * e.val = e.val; omega
    · refine Eq.symm (rows_at _ 6 r e _ ?_ ?_)
      · show 6 + 8 * r.val = 8 * r.val + 6; omega
      · show 0 + 1 * e.val = e.val; omega
    · refine Eq.symm (rows_at _ 5 r e _ ?_ ?_)
      · show 5 + 8 * r.val = 8 * r.val + 5; omega
      · show 0 + 1 * e.val = e.val; omega
    · refine Eq.symm (rows_at _ 4 r e _ ?_ ?_)
      · show 4 + 8 * r.val = 8 * r.val + 4; omega
      · show 0 + 1 * e.val = e.val; omega
    · refine Eq.symm (rows_at _ 3 r e _ ?_ ?_)
      · show 3 + 8 * r.val = 8 * r.val + 3; omega
      · show 0 + 1 * e.val = e.val; omega
    · refine Eq.symm (rows_at _ 2 r e _ ?_ ?_)
      · show 2 + 8 * r.val = 8 * r.val + 2; omega
      · show 0 + 1 * e.val = e.val; omega
    · refine Eq.symm (rows_at _ 1 r e _ ?_ ?_)
      · show 1 + 8 * r.val = 8 * r.val + 1; omega
      · show 0 + 1 * e.val = e.val; omega
    · refine Eq.symm (rows_at _ 0 r e _ ?_ ?_)
      · show 0 + 8 * r.val = 8 * r.val + 0; omega
      · show 0 + 1 * e.val = e.val; omega
  · have hy0 : (y 0).val < 512 := (y 0).isLt
    have hy1 : (y 1).val < 128 := (y 1).isLt
    have hm : ∀ (k : ℕ) (h) (h'), (y 0).val % 8 = k → y ∈ (⟨(⟨![k, 0], S64x128.size, ![8, 1], h⟩ : LoadRect S512x128), h'⟩ : Rect S512x128).set := fun k h h' hk => by
      refine (LoadRect.mem_set _).mpr ?_
      intro a
      match a with
      | 0 => exact ⟨(y 0).val / 8, by show (y 0).val / 8 < 64; omega, by show (y 0).val = k + 8 * ((y 0).val / 8); omega⟩
      | 1 => exact ⟨(y 1).val, hy1, by show (y 1).val = 0 + 1 * (y 1).val; omega⟩
    simp only [List.exists_mem_cons_iff]
    rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
    · exact .inl (hm _ _ spos_8_1 h)
    · exact .inr <| .inl (hm _ _ spos_8_1 h)
    · exact .inr <| .inr <| .inl (hm _ _ spos_8_1 h)
    · exact .inr <| .inr <| .inr <| .inl (hm _ _ spos_8_1 h)
    · exact .inr <| .inr <| .inr <| .inr <| .inl (hm _ _ spos_8_1 h)
    · exact .inr <| .inr <| .inr <| .inr <| .inr <| .inl (hm _ _ spos_8_1 h)
    · exact .inr <| .inr <| .inr <| .inr <| .inr <| .inr <| .inl (hm _ _ spos_8_1 h)
    · exact .inr <| .inr <| .inr <| .inr <| .inr <| .inr <| .inr <| .inl (hm _ _ spos_8_1 h)

theorem pay31_eq (x : Vec F S64x128 .f32) : k0_pay31 x = x := shapeCast_id _ _
theorem pay32_eq (x : Vec F S64x128 .f32) : k0_pay32 x = x := shapeCast_id _ _
theorem pay33_eq (x : Vec F S64x128 .f32) : k0_pay33 x = x := shapeCast_id _ _
theorem pay44_eq (x : Vec F S64x128 .f32) : k0_pay44 x = x := shapeCast_id _ _
theorem pay45_eq (x : Vec F S64x128 .f32) : k0_pay45 x = x := shapeCast_id _ _

/-- A whole buffer, loaded. -/
theorem at_whole {s : Shape} {e : EltTy} (m : Memref sig .tc .vmem s e) (h : m.IsWhole) (x : Vec F s e) {off : Fin s.rank → ℕ}
    (inb : ∀ a, off a + s.size a ≤ s.size a) :
    m.view.readAt (Elt F) (Rect.unit off s.size inb).toLoadRect (h.unread x) = x :=
  (View.readAt_full _ _ _).trans (h.read_unread x)

end Cert.InprojSampleIdeal.Result

end
-- ==== Proof.InprojSampleDat.lean ====
/- The sampled rows' input projection: what the buffers hold after each grid point. -/
module

public import proofs.«01_k».proof.Proof.InprojSamplePoint
public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev ms0 (t : Fin cfg0.N) : Memref sig .tc .vmem S64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x128 .f32 := win0_12.stage (cfg0.slots t 12)
abbrev hs12 (t : Fin cfg0.N) : (ms12 t).IsWhole := hstage0_12 ((cfg0.slots t 12).cast nbuf0_12)
/-- The buffer carried between points. -/
abbrev scM : Memref sig .tc .vmem S64x2048 .bf16 := Memref.whole cc0_scratch0

theorem PhiA_eq (c : Dev nD) :
    (Pipeline.ΦA spec0 c : sProp (MT nD τ sig Unit (Elt F) ℕ (UR sig nD τ) ℕ)) = iprop((∃ d, owns (c : Thread nD τ) scM fullShare d) ∗ (∃ r, prngReg c r)) := by
  unfold Pipeline.ΦA; rw [scopedRest0_eq]; simp only [owns_whole]; try rfl

/-- The normalised rows of the row block of point `t`. -/
def xsv (c : Dev nD) (t : Fin cfg0.N) : FVec F S64x2048 .bf16 :=
  k0_pay1 (iblk m c 0 (seg t 0 (Nat.zero_lt_succ _))) (iblk m c 1 (seg t 0 (Nat.zero_lt_succ _)))

theorem xsv_eq (c : Dev nD) (t u : Fin cfg0.N) (h : t.val / 16 = u.val / 16) : xsv m c t = xsv m c u := by
  unfold xsv; rw [seg_eq t u 0 _ h]

/-- The product of those rows with the weights of point `t`. -/
def prod (c : Dev nD) (t : Fin cfg0.N) : FVec F S64x1024 .f32 := k0_pay2 (xsv m c t) (iblk m c 2 t)

/-- The product rotated head by head over the first columns. -/
def prodM (c : Dev nD) (t : Fin cfg0.N) : Fin 8 → FVec F S64x128 .f32 :=
  part (prod m c t) (iblk m c 3 t) (iblk m c 4 t) (iblk m c 5 t)

/-- The product rotated head by head over all columns, and scaled. -/
def prodR (c : Dev nD) (t : Fin cfg0.N) : Fin 8 → FVec F S64x128 .f32 :=
  full (prod m c t) (iblk m c 6 t) (iblk m c 7 t) (k0_pay46 (BitVec.ofNat 32 ((grid0.coords t) 1).val))

/-- What point `t` stores in its block of the projection. -/
def zv (c : Dev nD) (t : Fin cfg0.N) : FVec F S64x1024 .f32 :=
  if 3 ≤ t.val % 16 ∧ t.val % 16 ≤ 4 then cols (prodM m c t)
  else if 6 ≤ t.val % 16 ∧ t.val % 16 ≤ 7 then cols (prodR m c t)
  else prod m c t

/-- The heads stored row by row. -/
def kav (c : Dev nD) (t : Fin cfg0.N) : FVec F S512x128 .f32 := rows (head (prod m c (seg t 1 (by decide))))
def vav (c : Dev nD) (t : Fin cfg0.N) : FVec F S512x128 .f32 := rows (head (prod m c (seg t 2 (by decide))))
def kmv (c : Dev nD) (t : Fin cfg0.N) : FVec F S512x128 .f32 := rows (prodM m c (seg t 4 (by decide)))
def vmv (c : Dev nD) (t : Fin cfg0.N) : FVec F S512x128 .f32 := rows (head (prod m c (seg t 5 (by decide))))

/-- Before a point: any contents of the carried buffer at the first, and the normalised rows after that. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) scM fullShare (xsv m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (t : Fin cfg0.N) (hz : t.val % 16 ≠ 0) :
    PhiS m c t.val (Nat.le_of_lt t.isLt) = iprop(owns (c : Thread nD τ) scM fullShare (xsv m c t) ∗ (∃ r, prngReg c r)) := by
  obtain ⟨n, hn⟩ := t
  cases n with
  | zero => exact absurd (Nat.zero_mod _) hz
  | succ n =>
    have hz' : (n + 1) % 16 ≠ 0 := hz
    have e : xsv m c ⟨n, Nat.lt_of_succ_lt hn⟩ = xsv m c ⟨n + 1, hn⟩ := xsv_eq m c _ _ (by show n / 16 = (n + 1) / 16; omega)
    rw [← e]; rfl

theorem PhiS_any (c : Dev nD) (n : ℕ) (h : n ≤ cfg0.N) : PhiS m c n h ⊢ Pipeline.ΦA spec0 c := by
  cases n with
  | zero => exact Idealize.SL.BI.Entails.refl _
  | succ n =>
    rw [PhiA_eq]
    show (iprop(owns (c : Thread nD τ) scM fullShare (xsv m c ⟨n, h⟩) ∗ (∃ r, prngReg c r)) : sProp (MT nD τ sig Unit (Elt F) ℕ (UR sig nD τ) ℕ)) ⊢ _
    iintro ⟨HS, Hg⟩
    isplitl [HS]
    · iexists _; iexact HS
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zv m c t
    | ⟨9, _⟩ => kav m c t
    | ⟨10, _⟩ => vav m c t
    | ⟨11, _⟩ => kmv m c t
    | ⟨12, _⟩ => vmv m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = zv m c t := by dsimp only [dats]
theorem after0_9 (c : Dev nD) (t : Fin cfg0.N) : (dats m 0 c).after 9 t = kav m c t := by dsimp only [dats]
theorem after0_10 (c : Dev nD) (t : Fin cfg0.N) : (dats m 0 c).after 10 t = vav m c t := by dsimp only [dats]
theorem after0_11 (c : Dev nD) (t : Fin cfg0.N) : (dats m 0 c).after 11 t = kmv m c t := by dsimp only [dats]
theorem after0_12 (c : Dev nD) (t : Fin cfg0.N) : (dats m 0 c).after 12 t = vmv m c t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    ((dats m 0 c).leavesExact 0 t : sProp (MT nD τ sig Unit (Elt F) ℕ (UR sig nD τ) ℕ)) = owns (c : Thread nD τ) (ms0 t) fullShare (iblk m c 0 t) := by
  rw [← after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    ((dats m 0 c).leavesExact 1 t : sProp (MT nD τ sig Unit (Elt F) ℕ (UR sig nD τ) ℕ)) = owns (c : Thread nD τ) (ms1 t) fullShare (iblk m c 1 t) := by
  rw [← after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    ((dats m 0 c).leavesExact 2 t : sProp (MT nD τ sig Unit (Elt F) ℕ (UR sig nD τ) ℕ)) = owns (c : Thread nD τ) (ms2 t) fullShare (iblk m c 2 t) := by
  rw [← after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    ((dats m 0 c).leavesExact 3 t : sProp (MT nD τ sig Unit (Elt F) ℕ (UR sig nD τ) ℕ)) = owns (c : Thread nD τ) (ms3 t) fullShare (iblk m c 3 t) := by
  rw [← after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    ((dats m 0 c).leavesExact 4 t : sProp (MT nD τ sig Unit (Elt F) ℕ (UR sig nD τ) ℕ)) = owns (c : Thread nD τ) (ms4 t) fullShare (iblk m c 4 t) := by
  rw [← after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    ((dats m 0 c).leavesExact 5 t : sProp (MT nD τ sig Unit (Elt F) ℕ (UR sig nD τ) ℕ)) = owns (c : Thread nD τ) (ms5 t) fullShare (iblk m c 5 t) := by
  rw [← after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    ((dats m 0 c).leavesExact 6 t : sProp (MT nD τ sig Unit (Elt F) ℕ (UR sig nD τ) ℕ)) = owns (c : Thread nD τ) (ms6 t) fullShare (iblk m c 6 t) := by
  rw [← after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    ((dats m 0 c).leavesExact 7 t : sProp (MT nD τ sig Unit (Elt F) ℕ (UR sig nD τ) ℕ)) = owns (c : Thread nD τ) (ms7 t) fullShare (iblk m c 7 t) := by
  rw [← after0_7]
theorem leaves0_8 (c : Dev nD) (t : Fin cfg0.N) :
    ((dats m 0 c).leavesExact 8 t : sProp (MT nD τ sig Unit (Elt F) ℕ (UR sig nD τ) ℕ)) = owns (c : Thread nD τ) (ms8 t) fullShare (zv m c t) := by
  unfold Dat.leavesExact
  rw [idle8 t, ← after0_8]
theorem kav_eq (c : Dev nD) (t u : Fin cfg0.N) (h : t.val / 16 = u.val / 16) : (dats m 0 c).after 9 t = (dats m 0 c).after 9 u := by
  rw [after0_9, after0_9]; unfold kav; rw [seg_eq t u 1 _ h]
theorem keep9 (c : Dev nD) (t : Fin cfg0.N) (h : t.val % 16 ≠ 1) :
    iprop(∃ d, owns (c : Thread nD τ) (ms9 t) fullShare ((dats m 0 c).before 9 t d)) ⊢ ((dats m 0 c).leavesExact 9 t : sProp (MT nD τ sig Unit (Elt F) ℕ (UR sig nD τ) ℕ)) :=
  kv_leaves (dats m 0 c) 9 1 (by decide) idle9 (fun _ => rfl) flush0_9 (fun _ _ => rfl) (kav_eq m c) t h
theorem live9 (c : Dev nD) (t : Fin cfg0.N) (h : t.val % 16 = 1) :
    ((dats m 0 c).leavesExact 9 t : sProp (MT nD τ sig Unit (Elt F) ℕ (UR sig nD τ) ℕ)) = owns (c : Thread nD τ) (ms9 t) fullShare (rows (head (prod m c t))) := by
  refine (kv_live (dats m 0 c) 9 1 idle9 t h).trans ?_
  rw [after0_9]; unfold kav; rw [seg_self t 1 _ h]
theorem vav_eq (c : Dev nD) (t u : Fin cfg0.N) (h : t.val / 16 = u.val / 16) : (dats m 0 c).after 10 t = (dats m 0 c).after 10 u := by
  rw [after0_10, after0_10]; unfold vav; rw [seg_eq t u 2 _ h]
theorem keep10 (c : Dev nD) (t : Fin cfg0.N) (h : t.val % 16 ≠ 2) :
    iprop(∃ d, owns (c : Thread nD τ) (ms10 t) fullShare ((dats m 0 c).before 10 t d)) ⊢ ((dats m 0 c).leavesExact 10 t : sProp (MT nD τ sig Unit (Elt F) ℕ (UR sig nD τ) ℕ)) :=
  kv_leaves (dats m 0 c) 10 2 (by decide) idle10 (fun _ => rfl) flush0_10 (fun _ _ => rfl) (vav_eq m c) t h
theorem live10 (c : Dev nD) (t : Fin cfg0.N) (h : t.val % 16 = 2) :
    ((dats m 0 c).leavesExact 10 t : sProp (MT nD τ sig Unit (Elt F) ℕ (UR sig nD τ) ℕ)) = owns (c : Thread nD τ) (ms10 t) fullShare (rows (head (prod m c t))) := by
  refine (kv_live (dats m 0 c) 10 2 idle10 t h).trans ?_
  rw [after0_10]; unfold vav; rw [seg_self t 2 _ h]
theorem kmv_eq (c : Dev nD) (t u : Fin cfg0.N) (h : t.val / 16 = u.val / 16) : (dats m 0 c).after 11 t = (dats m 0 c).after 11 u := by
  rw [after0_11, after0_11]; unfold kmv; rw [seg_eq t u 4 _ h]
theorem keep11 (c : Dev nD) (t : Fin cfg0.N) (h : t.val % 16 ≠ 4) :
    iprop(∃ d, owns (c : Thread nD τ) (ms11 t) fullShare ((dats m 0 c).before 11 t d)) ⊢ ((dats m 0 c).leavesExact 11 t : sProp (MT nD τ sig Unit (Elt F) ℕ (UR sig nD τ) ℕ)) :=
  kv_leaves (dats m 0 c) 11 4 (by decide) idle11 (fun _ => rfl) flush0_11 (fun _ _ => rfl) (kmv_eq m c) t h
theorem live11 (c : Dev nD) (t : Fin cfg0.N) (h : t.val % 16 = 4) :
    ((dats m 0 c).leavesExact 11 t : sProp (MT nD τ sig Unit (Elt F) ℕ (UR sig nD τ) ℕ)) = owns (c : Thread nD τ) (ms11 t) fullShare (rows (prodM m c t)) := by
  refine (kv_live (dats m 0 c) 11 4 idle11 t h).trans ?_
  rw [after0_11]; unfold kmv; rw [seg_self t 4 _ h]
theorem vmv_eq (c : Dev nD) (t u : Fin cfg0.N) (h : t.val / 16 = u.val / 16) : (dats m 0 c).after 12 t = (dats m 0 c).after 12 u := by
  rw [after0_12, after0_12]; unfold vmv; rw [seg_eq t u 5 _ h]
theorem keep12 (c : Dev nD) (t : Fin cfg0.N) (h : t.val % 16 ≠ 5) :
    iprop(∃ d, owns (c : Thread nD τ) (ms12 t) fullShare ((dats m 0 c).before 12 t d)) ⊢ ((dats m 0 c).leavesExact 12 t : sProp (MT nD τ sig Unit (Elt F) ℕ (UR sig nD τ) ℕ)) :=
  kv_leaves (dats m 0 c) 12 5 (by decide) idle12 (fun _ => rfl) flush0_12 (fun _ _ => rfl) (vmv_eq m c) t h
theorem live12 (c : Dev nD) (t : Fin cfg0.N) (h : t.val % 16 = 5) :
    ((dats m 0 c).leavesExact 12 t : sProp (MT nD τ sig Unit (Elt F) ℕ (UR sig nD τ) ℕ)) = owns (c : Thread nD τ) (ms12 t) fullShare (rows (head (prod m c t))) := by
  refine (kv_live (dats m 0 c) 12 5 idle12 t h).trans ?_
  rw [after0_12]; unfold vmv; rw [seg_self t 5 _ h]

end Cert.InprojSampleIdeal.Result

end
-- ==== Proof.InprojSampleRunA.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The first point of a row block: it normalises the rows, and stores its product as it is. -/
theorem run_A (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : ¬ (k0_cond8 i = 1#1)) (x0 : Vec F S64x2048 .f32) (x1 : Vec F S1x2048 .f32) (w : Vec F S1x2048x1024 .bf16) :
      ∀ (E : Set ℕ) (K : PUnit → sProp (MT nD τ sig Unit (Elt F) ℕ (UR sig nD τ) ℕ)),
        iprop(owns (c : Thread nD τ) arg2 fullShare (x0) ∗ owns (c : Thread nD τ) arg3 fullShare (x1) ∗ owns (c : Thread nD τ) arg4 fullShare (w) ∗ (∃ d, owns (c : Thread nD τ) arg10 fullShare d) ∗ (∃ d, owns (c : Thread nD τ) arg15 fullShare d)
            ∗ (iprop(owns (c : Thread nD τ) arg2 fullShare (x0) ∗ owns (c : Thread nD τ) arg3 fullShare (x1) ∗ owns (c : Thread nD τ) arg4 fullShare (w) ∗ owns (c : Thread nD τ) arg10 fullShare (k0_pay2 (k0_pay1 x0 x1) w) ∗ owns (c : Thread nD τ) arg15 fullShare (k0_pay1 x0 x1)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%d10, %f10, -, H10⟩, ⟨%d15, %f15, -, H15⟩, Hk⟩
  obtain rfl := harg2.eq_unread hf2; obtain rfl := harg3.eq_unread hf3; obtain rfl := harg4.eq_unread hf4
  have e2 : View.readAt (Elt F) arg2.view (Rect.unit (s := S64x2048) ![0, 0] S64x2048.size inb_S64x2048_S64x2048_0_0).toLoadRect (harg2.unread x0) = x0 := at_whole _ _ _ _
  have e2' : View.readAt (Elt F) arg2.view (Rect.unit (s := S64x2048) ![0, 0] ![64, 2048] inb_S64x2048_S64x2048_0_0).toLoadRect (harg2.unread x0) = x0 := at_whole _ _ _ _
  have e3 : View.readAt (Elt F) arg3.view (Rect.unit (s := S1x2048) ![0, 0] S1x2048.size inb_S1x2048_S1x2048_0_0).toLoadRect (harg3.unread x1) = x1 := at_whole _ _ _ _
  have e3' : View.readAt (Elt F) arg3.view (Rect.unit (s := S1x2048) ![0, 0] ![1, 2048] inb_S1x2048_S1x2048_0_0).toLoadRect (harg3.unread x1) = x1 := at_whole _ _ _ _
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  sl_exec (disch := first | sl_exact hc0 | sl_exact hc2 | sl_exact hc4 | sl_exact hc5 | sl_exact hc6 | sl_exact hc7 | sl_exact hc8)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H10]
  · iexists _; isplitr; swap; · iexact H10
    ipureintro
    unfold run_A.sl.v3
    exact (View.read_writes_full _ _ _ _ _).trans (congrArg (k0_pay2 · w) (View.readCov_full _ _ _ _ _))
  iexists _; isplitr; swap; · iexact H15
  ipureintro
  unfold run_A.sl.H15_1
  exact View.read_writes_full _ _ _ _ _

end Cert.InprojSampleIdeal.Result

end
-- ==== Proof.InprojSampleRunD.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that stores its product as it is. -/
theorem run_D (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : ¬ (k0_cond8 i = 1#1)) (w : Vec F S1x2048x1024 .bf16) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d)
            ∗ (iprop(owns (c : Thread nD τ) arg4 fullShare (w) ∗ owns (c : Thread nD τ) arg15 fullShare (xs) ∗ owns (c : Thread nD τ) arg10 fullShare (k0_pay2 xs w)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  iexists _; isplitr; swap; · iexact H10
  ipureintro
  exact (View.read_writes_full _ _ _ _ _).trans (by simp only [e4, e4', e15, e15'])

end Cert.InprojSampleIdeal.Result

end
-- ==== Proof.InprojSampleRunR.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over all their columns. -/
theorem run_R (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : (k0_cond4 i = 1#1)) (hc5 : ¬ (k0_cond5 i = 1#1)) (w : Vec F S1x2048x1024 .bf16) (tc : Vec F S64x128 .f32) (ts : Vec F S64x128 .f32) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg8 fullShare (tc) ∗ owns (c : Thread nD τ) arg9 fullShare (ts) ∗ owns (c : Thread nD τ) arg15 fullShare (xs) ∗ (∃ d, owns (c : Thread nD τ) arg10 fullShare d)
            ∗ (iprop(owns (c : Thread nD τ) arg4 fullShare (w) ∗ owns (c : Thread nD τ) arg8 fullShare (tc) ∗ owns (c : Thread nD τ) arg9 fullShare (ts) ∗ owns (c : Thread nD τ) arg15 fullShare (xs) ∗ owns (c : Thread nD τ) arg10 fullShare (cols (full (k0_pay2 xs w) tc ts (k0_pay46 (BitVec.ofNat 32 (i 1).val))))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f8, %hf8, H8⟩, ⟨%f9, %hf9, H9⟩, ⟨%f15, %hf15, H15⟩, ⟨%d10, %f10, -, H10⟩, Hk⟩
  obtain rfl := harg4.eq_unread hf4; obtain rfl := harg8.eq_unread hf8; obtain rfl := harg9.eq_unread hf9; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e8 : View.readAt (Elt F) arg8.view (Rect.unit (s := S64x128) ![0, 0] S64x128.size inb_S64x128_S64x128_0_0).toLoadRect (harg8.unread tc) = tc := at_whole _ _ _ _
  have e8' : View.readAt (Elt F) arg8.view (Rect.unit (s := S64x128) ![0, 0] ![64, 128] inb_S64x128_S64x128_0_0).toLoadRect (harg8.unread tc) = tc := at_whole _ _ _ _
  have e9 : View.readAt (Elt F) arg9.view (Rect.unit (s := S64x128) ![0, 0] S64x128.size inb_S64x128_S64x128_0_0).toLoadRect (harg9.unread ts) = ts := at_whole _ _ _ _
  have e9' : View.readAt (Elt F) arg9.view (Rect.unit (s := S64x128) ![0, 0] ![64, 128] inb_S64x128_S64x128_0_0).toLoadRect (harg9.unread ts) = ts := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc4 | sl_exact hc5)
  sl_step
  iapply Hk
  isplitl [H4]
  · iexists _; isplitr; swap; · iexact H4
    ipureintro
    exact harg4.read_unread _
  isplitl [H8]
  · iexists _; isplitr; swap; · iexact H8
    ipureintro
    exact harg8.read_unread _
  isplitl [H9]
  · iexists _; isplitr; swap; · iexact H9
    ipureintro
    exact harg9.read_unread _
  isplitl [H15]
  · iexists _; isplitr; swap; · iexact H15
    ipureintro
    exact harg15.read_unread _
  iexists _; isplitr; swap; · iexact H10
  ipureintro
  delta run_R.sl.r_1 run_R.sl.r
  (try simp only [e4, e4', e8, e8', e9, e9', e15, e15', k0_pay3, k0_pay4, k0_pay5, k0_pay6, k0_pay47, k0_pay48, k0_pay49, k0_pay50, pay44_eq, pay45_eq])
  exact (read_cols _ _ _ _ _ _ _ _ _ _).trans (congrArg cols (funext fun j => by fin_cases j <;> rfl))

end Cert.InprojSampleIdeal.Result

end
-- ==== Proof.InprojSampleRunK6.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K6 (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : (k0_cond6 i = 1#1)) (hc7 : ¬ (k0_cond7 i = 1#1)) (hc8 : ¬ (k0_cond8 i = 1#1)) (w : Vec F S1x2048x1024 .bf16) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg11 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg11 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d11, %f11, -, H11⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H11
  ipureintro
  skip
  (try simp only [e4, e4', e15, e15', k0_pay7, k0_pay8, k0_pay9, k0_pay10, k0_pay11, k0_pay12, k0_pay13, k0_pay14])
  exact (read_rows _ _ _ _ _ _ _ _ _ _).trans (congrArg rows (funext fun j => by fin_cases j <;> rfl))

end Cert.InprojSampleIdeal.Result

end
-- ==== Proof.InprojSampleRunK7.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K7 (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : (k0_cond7 i = 1#1)) (hc8 : ¬ (k0_cond8 i = 1#1)) (w : Vec F S1x2048x1024 .bf16) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg12 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg12 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d12, %f12, -, H12⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H12
  ipureintro
  skip
  (try simp only [e4, e4', e15, e15', k0_pay15, k0_pay16, k0_pay17, k0_pay18, k0_pay19, k0_pay20, k0_pay21, k0_pay22])
  exact (read_rows _ _ _ _ _ _ _ _ _ _).trans (congrArg rows (funext fun j => by fin_cases j <;> rfl))

end Cert.InprojSampleIdeal.Result

end
-- ==== Proof.InprojSampleRunK8.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point that also stores its heads, row by row. -/
theorem run_K8 (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : ¬ (k0_cond2 i = 1#1)) (hc4 : ¬ (k0_cond4 i = 1#1)) (hc5 : (k0_cond5 i = 1#1)) (hc6 : ¬ (k0_cond6 i = 1#1)) (hc7 : ¬ (k0_cond7 i = 1#1)) (hc8 : (k0_cond8 i = 1#1)) (w : Vec F S1x2048x1024 .bf16) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg15 fullShare (xs) ∗ (∃ d, owns (c : Thread nD τ) arg10 fullShare d) ∗ (∃ d, owns (c : Thread nD τ) arg14 fullShare d)
            ∗ (iprop(owns (c : Thread nD τ) arg4 fullShare (w) ∗ owns (c : Thread nD τ) arg15 fullShare (xs) ∗ owns (c : Thread nD τ) arg10 fullShare (k0_pay2 xs w) ∗ owns (c : Thread nD τ) arg14 fullShare (rows (head (k0_pay2 xs w)))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f15, %hf15, H15⟩, ⟨%d10, %f10, -, H10⟩, ⟨%d14, %f14, -, H14⟩, Hk⟩
  obtain rfl := harg4.eq_unread hf4; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc4 | sl_exact hc5 | sl_exact hc6 | sl_exact hc7 | sl_exact hc8)
  sl_step
  iapply Hk
  isplitl [H4]
  · iexists _; isplitr; swap; · iexact H4
    ipureintro
    exact harg4.read_unread _
  isplitl [H15]
  · iexists _; isplitr; swap; · iexact H15
    ipureintro
    exact harg15.read_unread _
  isplitl [H10]
  · iexists _; isplitr; swap; · iexact H10
    ipureintro
    exact (View.read_writes_full _ _ _ _ _).trans (by simp only [e4, e4', e15, e15'])
  iexists _; isplitr; swap; · iexact H14
  ipureintro
  skip
  (try simp only [e4, e4', e15, e15', k0_pay23, k0_pay24, k0_pay25, k0_pay26, k0_pay27, k0_pay28, k0_pay29, k0_pay30])
  exact (read_rows _ _ _ _ _ _ _ _ _ _).trans (congrArg rows (funext fun j => by fin_cases j <;> rfl))

end Cert.InprojSampleIdeal.Result

end
-- ==== Proof.InprojSampleRunM3.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over their first columns. -/
theorem run_M3 (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : (k0_cond2 i = 1#1)) (hc3 : ¬ (k0_cond3 i = 1#1)) (hc4 : ¬ (k0_cond4 i = 1#1)) (hc5 : ¬ (k0_cond5 i = 1#1)) (w : Vec F S1x2048x1024 .bf16) (tc : Vec F S64x128 .f32) (t1 : Vec F S64x128 .f32) (t2 : Vec F S64x128 .f32) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ (∃ d, owns (c : Thread nD τ) arg10 fullShare d)
            ∗ (iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ owns (c : Thread nD τ) arg10 fullShare (cols (part (k0_pay2 xs w) tc t1 t2))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f15, %hf15, H15⟩, ⟨%d10, %f10, -, H10⟩, Hk⟩
  obtain rfl := harg4.eq_unread hf4; obtain rfl := harg5.eq_unread hf5; obtain rfl := harg6.eq_unread hf6; obtain rfl := harg7.eq_unread hf7; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e5 : View.readAt (Elt F) arg5.view (Rect.unit (s := S64x128) ![0, 0] S64x128.size inb_S64x128_S64x128_0_0).toLoadRect (harg5.unread tc) = tc := at_whole _ _ _ _
  have e5' : View.readAt (Elt F) arg5.view (Rect.unit (s := S64x128) ![0, 0] ![64, 128] inb_S64x128_S64x128_0_0).toLoadRect (harg5.unread tc) = tc := at_whole _ _ _ _
  have e6 : View.readAt (Elt F) arg6.view (Rect.unit (s := S64x128) ![0, 0] S64x128.size inb_S64x128_S64x128_0_0).toLoadRect (harg6.unread t1) = t1 := at_whole _ _ _ _
  have e6' : View.readAt (Elt F) arg6.view (Rect.unit (s := S64x128) ![0, 0] ![64, 128] inb_S64x128_S64x128_0_0).toLoadRect (harg6.unread t1) = t1 := at_whole _ _ _ _
  have e7 : View.readAt (Elt F) arg7.view (Rect.unit (s := S64x128) ![0, 0] S64x128.size inb_S64x128_S64x128_0_0).toLoadRect (harg7.unread t2) = t2 := at_whole _ _ _ _
  have e7' : View.readAt (Elt F) arg7.view (Rect.unit (s := S64x128) ![0, 0] ![64, 128] inb_S64x128_S64x128_0_0).toLoadRect (harg7.unread t2) = t2 := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc3 | sl_exact hc4 | sl_exact hc5)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H15]
  · iexists _; isplitr; swap; · iexact H15
    ipureintro
    exact harg15.read_unread _
  iexists _; isplitr; swap; · iexact H10
  ipureintro
  delta run_M3.sl.r_9 run_M3.sl.r_8 run_M3.sl.r_7 run_M3.sl.r_6 run_M3.sl.r_5 run_M3.sl.r_4 run_M3.sl.r_3 run_M3.sl.r_2 run_M3.sl.r_1 run_M3.sl.r
  (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
  exact (read_cols _ _ _ _ _ _ _ _ _ _).trans (congrArg cols (funext fun j => by fin_cases j <;> rfl))

end Cert.InprojSampleIdeal.Result

end
-- ==== Proof.InprojSampleRunM4.lean ====
/- The sampled rows' input projection: what one grid point stores, by the column block it works on. -/
module

public import proofs.«01_k».proof.Proof.InprojSampleSpec
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- A point whose heads are rotated over their first columns. -/
theorem run_M4 (c : Dev nD) (i : grid0.Coords) (arg2 : Memref sig .tc .vmem S64x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1024 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S64x2048 .bf16) (harg15 : arg15.IsWhole) (hc0 : ¬ ((Scalar.cmpi .ne (Scalar.extui (Scalar.cmpi .eq (BitVec.ofNat 32 (i 1).val) 0#32)) 0#32) = 1#1)) (hc2 : (k0_cond2 i = 1#1)) (hc3 : (k0_cond3 i = 1#1)) (hc4 : ¬ (k0_cond4 i = 1#1)) (hc5 : ¬ (k0_cond5 i = 1#1)) (w : Vec F S1x2048x1024 .bf16) (tc : Vec F S64x128 .f32) (t1 : Vec F S64x128 .f32) (t2 : Vec F S64x128 .f32) (xs : Vec F S64x2048 .bf16) :
      ∀ (E : Set ℕ) (K : PUnit → sProp (MT nD τ sig Unit (Elt F) ℕ (UR sig nD τ) ℕ)),
        iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ (∃ d, owns (c : Thread nD τ) arg10 fullShare d) ∗ (∃ d, owns (c : Thread nD τ) arg13 fullShare d)
            ∗ (iprop(owns (c : Thread nD τ) arg4 fullShare (w) ∗ owns (c : Thread nD τ) arg5 fullShare (tc) ∗ owns (c : Thread nD τ) arg6 fullShare (t1) ∗ owns (c : Thread nD τ) arg7 fullShare (t2) ∗ owns (c : Thread nD τ) arg15 fullShare (xs) ∗ owns (c : Thread nD τ) arg10 fullShare (cols (part (k0_pay2 xs w) tc t1 t2)) ∗ owns (c : Thread nD τ) arg13 fullShare (rows (part (k0_pay2 xs w) tc t1 t2))) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_eq_skeleton]; unfold cc0_inproj_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f15, %hf15, H15⟩, ⟨%d10, %f10, -, H10⟩, ⟨%d13, %f13, -, H13⟩, Hk⟩
  obtain rfl := harg4.eq_unread hf4; obtain rfl := harg5.eq_unread hf5; obtain rfl := harg6.eq_unread hf6; obtain rfl := harg7.eq_unread hf7; obtain rfl := harg15.eq_unread hf15
  have e4 : View.readAt (Elt F) arg4.view (Rect.unit (s := S1x2048x1024) ![0, 0, 0] S1x2048x1024.size inb_S1x2048x1024_S1x2048x1024_0_0_0).toLoadRect (harg4.unread w) = w := at_whole _ _ _ _
  have e4' : View.readAt (Elt F) arg4.view (Rect.unit (s := S1x2048x1024) ![0, 0, 0] ![1, 2048, 1024] inb_S1x2048x1024_S1x2048x1024_0_0_0).toLoadRect (harg4.unread w) = w := at_whole _ _ _ _
  have e5 : View.readAt (Elt F) arg5.view (Rect.unit (s := S64x128) ![0, 0] S64x128.size inb_S64x128_S64x128_0_0).toLoadRect (harg5.unread tc) = tc := at_whole _ _ _ _
  have e5' : View.readAt (Elt F) arg5.view (Rect.unit (s := S64x128) ![0, 0] ![64, 128] inb_S64x128_S64x128_0_0).toLoadRect (harg5.unread tc) = tc := at_whole _ _ _ _
  have e6 : View.readAt (Elt F) arg6.view (Rect.unit (s := S64x128) ![0, 0] S64x128.size inb_S64x128_S64x128_0_0).toLoadRect (harg6.unread t1) = t1 := at_whole _ _ _ _
  have e6' : View.readAt (Elt F) arg6.view (Rect.unit (s := S64x128) ![0, 0] ![64, 128] inb_S64x128_S64x128_0_0).toLoadRect (harg6.unread t1) = t1 := at_whole _ _ _ _
  have e7 : View.readAt (Elt F) arg7.view (Rect.unit (s := S64x128) ![0, 0] S64x128.size inb_S64x128_S64x128_0_0).toLoadRect (harg7.unread t2) = t2 := at_whole _ _ _ _
  have e7' : View.readAt (Elt F) arg7.view (Rect.unit (s := S64x128) ![0, 0] ![64, 128] inb_S64x128_S64x128_0_0).toLoadRect (harg7.unread t2) = t2 := at_whole _ _ _ _
  have e15 : View.readAt (Elt F) arg15.view (Rect.unit (s := S64x2048) ![0, 0] S64x2048.size inb_S64x2048_S64x2048_0_0).toLoadRect (harg15.unread xs) = xs := at_whole _ _ _ _
  have e15' : View.readAt (Elt F) arg15.view (Rect.unit (s := S64x2048) ![0, 0] ![64, 2048] inb_S64x2048_S64x2048_0_0).toLoadRect (harg15.unread xs) = xs := at_whole _ _ _ _
  sl_exec (disch := first | sl_exact hc0 | sl_exact hc2 | sl_exact hc3 | sl_exact hc4 | sl_exact hc5)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H15]
  · iexists _; isplitr; swap; · iexact H15
    ipureintro
    exact harg15.read_unread _
  isplitl [H10]
  · iexists _; isplitr; swap; · iexact H10
    ipureintro
    delta run_M4.sl.r_9 run_M4.sl.r_8 run_M4.sl.r_7 run_M4.sl.r_6 run_M4.sl.r_5 run_M4.sl.r_4 run_M4.sl.r_3 run_M4.sl.r_2 run_M4.sl.r_1 run_M4.sl.r
    (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
    exact (read_cols _ _ _ _ _ _ _ _ _ _).trans (congrArg cols (funext fun j => by fin_cases j <;> rfl))
  iexists _; isplitr; swap; · iexact H13
  ipureintro
  delta run_M4.sl.r_9 run_M4.sl.r_8 run_M4.sl.r_7 run_M4.sl.r_6 run_M4.sl.r_5 run_M4.sl.r_4 run_M4.sl.r_3 run_M4.sl.r_2 run_M4.sl.r_1 run_M4.sl.r
  (try simp only [e4, e4', e5, e5', e6, e6', e7, e7', e15, e15', k0_pay34, k0_pay35, k0_pay36, k0_pay37, k0_pay38, k0_pay39, k0_pay40, k0_pay41, k0_pay42, k0_pay43, pay31_eq, pay32_eq, pay33_eq])
  exact (read_rows _ _ _ _ _ _ _ _ _ _).trans (congrArg rows (funext fun j => by fin_cases j <;> rfl))

end Cert.InprojSampleIdeal.Result

end
-- ==== Proof.InprojSampleFrame.lean ====
/- The sampled rows' input projection: the run of the call, from any memory, over any floats. -/
module

public import proofs.«01_k».proof.Proof.InprojSampleDat
public import proofs.«01_k».proof.Proof.InprojSampleRunA
public import proofs.«01_k».proof.Proof.InprojSampleRunD
public import proofs.«01_k».proof.Proof.InprojSampleRunR
public import proofs.«01_k».proof.Proof.InprojSampleRunK6
public import proofs.«01_k».proof.Proof.InprojSampleRunK7
public import proofs.«01_k».proof.Proof.InprojSampleRunK8
public import proofs.«01_k».proof.Proof.InprojSampleRunM3
public import proofs.«01_k».proof.Proof.InprojSampleRunM4
public import Idealize.ShloMosaic.Lib.Claim
public import proofs.«01_k».proof.Proof.Gen.InprojSampleIdeal.Skeleton
public import Idealize.ShloMosaic.Lib.Pointwise
public import Idealize.ShloMosaic.Lib.VecWindow

@[expose] public section

set_option maxRecDepth 16384

noncomputable section

namespace Cert.InprojSampleIdeal.Result

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1600000 in
/-- The first point of a row block. -/
theorem body_A (c : Dev nD) (t : Fin cfg0.N) (hN : t.val < 16) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t]
  refine (sep_mono_left (PhiS_any m c _ _)).trans ?_
  rw [PhiA_eq]
  rw [show zv m c t = k0_pay2 (xsv m c t) (iblk m c 2 t) from (if_neg (by omega)).trans (if_neg (by omega)),
    show xsv m c t = k0_pay1 (iblk m c 0 t) (iblk m c 1 t) from by unfold xsv; rw [seg_self t 0 _ h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hc0 t).mpr (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) (fun h => absurd ((hc8 t).mp h) (by omega)) (iblk m c 0 t) (iblk m c 1 t) (iblk m c 2 t) Set.univ _)
  isplitl [H0]; · iexact H0
  isplitl [H1]; · iexact H1
  isplitl [H2]; · iexact H2
  isplitl [H8]; · iexists _; iexact H8
  isplitl [HS]; · iexact HS
  iintro ⟨H0, H1, H2, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that only stores its product. -/
theorem body_D (c : Dev nD) (t : Fin cfg0.N) (hN : t.val < 16) (h : 8 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) (fun h => absurd ((hc8 t).mp h) (by omega)) (iblk m c 2 t) (xsv m c t) Set.univ _)
  isplitl [H2]; · iexact H2
  isplitl [HS]; · iexact HS
  isplitl [H8]; · iexists _; iexact H8
  iintro ⟨H2, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that also stores its heads row by row. -/
theorem body_K6 (c : Dev nD) (t : Fin cfg0.N) (hN : t.val < 16) (h : t.val % 16 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live9 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) ((hc6 t).mpr (by omega)) (fun h => absurd ((hc7 t).mp h) (by omega)) (fun h => absurd ((hc8 t).mp h) (by omega)) (iblk m c 2 t) (xsv m c t) Set.univ _)
  isplitl [H2]; · iexact H2
  isplitl [HS]; · iexact HS
  isplitl [H8]; · iexists _; iexact H8
  isplitl [H9]; · iexists _; iexact H9
  iintro ⟨H2, HS, H8, H9⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- A point that also stores its heads row by row. -/
theorem body_K7 (c : Dev nD) (t : Fin cfg0.N) (hN : t.val < 16) (h : t.val % 16 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live10 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) ((hc7 t).mpr (by omega)) (fun h => absurd ((hc8 t).mp h) (by omega)) (iblk m c 2 t) (xsv m c t) Set.univ _)
  isplitl [H2]; · iexact H2
  isplitl [HS]; · iexact HS
  isplitl [H8]; · iexists _; iexact H8
  isplitl [H10]; · iexists _; iexact H10
  iintro ⟨H2, HS, H8, H10⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iexact H10
  isplitl [H11]; · iapply (keep11 m c t (by omega)); iexists _; iexact H11
  iapply (keep12 m c t (by omega)); iexists _; iexact H12

set_option maxHeartbeats 1600000 in
/-- A point that also stores its heads row by row. -/
theorem body_K8 (c : Dev nD) (t : Fin cfg0.N) (hN : t.val < 16) (h : t.val % 16 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = k0_pay2 (xsv m c t) (iblk m c 2 t) from (if_neg (by omega)).trans (if_neg (by omega))]
  rw [live12 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_K8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) (fun h => absurd ((hc4 t).mp h) (by omega)) ((hc5 t).mpr (by omega)) (fun h => absurd ((hc6 t).mp h) (by omega)) (fun h => absurd ((hc7 t).mp h) (by omega)) ((hc8 t).mpr (by omega)) (iblk m c 2 t) (xsv m c t) Set.univ _)
  isplitl [H2]; · iexact H2
  isplitl [HS]; · iexact HS
  isplitl [H8]; · iexists _; iexact H8
  isplitl [H12]; · iexists _; iexact H12
  iintro ⟨H2, HS, H8, H12⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iexact H12

set_option maxHeartbeats 1600000 in
/-- The queries of the block attention. -/
theorem body_M3 (c : Dev nD) (t : Fin cfg0.N) (hN : t.val < 16) (h : t.val % 16 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (part (k0_pay2 (xsv m c t) (iblk m c 2 t)) (iblk m c 3 t) (iblk m c 4 t) (iblk m c 5 t)) from if_pos (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_M3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) ((hc2 t).mpr (by omega)) (fun h => absurd ((hc3 t).mp h) (by omega)) (fun h => absurd ((hc4 t).mp h) (by omega)) (fun h => absurd ((hc5 t).mp h) (by omega)) (iblk m c 2 t) (iblk m c 3 t) (iblk m c 4 t) (iblk m c 5 t) (xsv m c t) Set.univ _)
  isplitl [H2]; · iexact H2
  isplitl [H3]; · iexact H3
  isplitl [H4]; · iexact H4
  isplitl [H5]; · iexact H5
  isplitl [HS]; · iexact HS
  isplitl [H8]; · iexists _; iexact H8
  iintro ⟨H2, H3, H4, H5, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

set_option maxHeartbeats 1600000 in
/-- The keys of the block attention. -/
theorem body_M4 (c : Dev nD) (t : Fin cfg0.N) (hN : t.val < 16) (h : t.val % 16 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (part (k0_pay2 (xsv m c t) (iblk m c 2 t)) (iblk m c 3 t) (iblk m c 4 t) (iblk m c 5 t)) from if_pos (by omega)]
  rw [live11 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_M4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) ((hc2 t).mpr (by omega)) ((hc3 t).mpr (by omega)) (fun h => absurd ((hc4 t).mp h) (by omega)) (fun h => absurd ((hc5 t).mp h) (by omega)) (iblk m c 2 t) (iblk m c 3 t) (iblk m c 4 t) (iblk m c 5 t) (xsv m c t) Set.univ _)
  isplitl [H2]; · iexact H2
  isplitl [H3]; · iexact H3
  isplitl [H4]; · iexact H4
  isplitl [H5]; · iexact H5
  isplitl [HS]; · iexact HS
  isplitl [H8]; · iexists _; iexact H8
  isplitl [H11]; · iexists _; iexact H11
  iintro ⟨H2, H3, H4, H5, HS, H8, H11⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iexact H11
  iapply (keep12 m c t (by omega)); iexists _; iexact H12

set_option maxHeartbeats 1600000 in
/-- The queries and keys of the retention. -/
theorem body_R (c : Dev nD) (t : Fin cfg0.N) (hN : t.val < 16) (h : 6 ≤ t.val % 16 ∧ t.val % 16 ≤ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8]
  rw [show (dats m 0 c).Φ t.succ = iprop(owns (c : Thread nD τ) scM fullShare (xsv m c t) ∗ (∃ r, prngReg c r)) from rfl]
  rw [PhiS_castSucc m c t, PhiS_pos m c t (by omega)]
  rw [show zv m c t = cols (full (k0_pay2 (xsv m c t) (iblk m c 2 t)) (iblk m c 6 t) (iblk m c 7 t) (k0_pay46 (BitVec.ofNat 32 ((grid0.coords t) 1).val))) from (if_neg (by omega)).trans (if_pos (by omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_R c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => absurd ((hc0 t).mp h) (by omega)) (fun h => absurd ((hc2 t).mp h) (by omega)) ((hc4 t).mpr (by omega)) (fun h => absurd ((hc5 t).mp h) (by omega)) (iblk m c 2 t) (iblk m c 6 t) (iblk m c 7 t) (xsv m c t) Set.univ _)
  isplitl [H2]; · iexact H2
  isplitl [H6]; · iexact H6
  isplitl [H7]; · iexact H7
  isplitl [HS]; · iexact HS
  isplitl [H8]; · iexists _; iexact H8
  iintro ⟨H2, H6, H7, HS, H8⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (keep9 m c t (by omega)); iexists _; iexact H9
  isplitl [H10]; · iapply (keep10 m c t (by omega)); iexists _; iexact H10
  isplitl [H11]; · iapply (keep11 m c t (by omega)); iexists _; iexact H11
  iapply (keep12 m c t (by omega)); iexists _; iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  rcases (by omega : t.val % 16 = 0 ∨ t.val % 16 = 1 ∨ t.val % 16 = 2 ∨ t.val % 16 = 3 ∨ t.val % 16 = 4 ∨ t.val % 16 = 5
      ∨ (6 ≤ t.val % 16 ∧ t.val % 16 ≤ 7) ∨ 8 ≤ t.val % 16) with h | h | h | h | h | h | h | h
  · exact body_A m c t hN h
  · exact body_K6 m c t hN h
  · exact body_K7 m c t hN h
  · exact body_M3 m c t hN h
  · exact body_M4 m c t hN h
  · exact body_K8 m c t hN h
  · exact body_R m c t hN h
  · exact body_D m c t hN h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  (show (dats m 0 c).Φ (Fin.last cfg0.N) = PhiS m c cfg0.N (Nat.le_refl _) from rfl) ▸ PhiS_any m c _ _

set_option backward.isDefEq.respectTransparency.types false in
/-- The run: the arrays end at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InprojSampleIdeal.Result

end
-- ==== Proof.InprojSampleWords.lean ====
/- The sampled rows' input projection over words: the program printed for it is the one printed for the extended reals, read at
   words, so the run of the one is the run of the other. -/
module

public import proofs.«01_k».proof.Defs
public import proofs.«01_k».proof.Proof.InprojSampleFrame
public import proofs.«01_k».proof.Proof.Gen.InprojSample
public import proofs.«01_k».proof.Proof.Gen.InprojSampleIdeal
public import Idealize.ShloMosaic.Lib.Claim

@[expose] public section

set_option maxRecDepth 16384

noncomputable section

namespace Cert.InprojSampleIdeal.Words

open Idealize.ShloMosaic Idealize.SL.Sem

set_option maxHeartbeats 4000000 in
/-- The two kernels have one body table: there is one label, and its function is the same. -/
theorem body_same : Cert.InprojSample.defs₀ (F := Bits) = Cert.InprojSampleIdeal.defs₀ (F := Bits) := by
  unfold Cert.InprojSample.defs₀ Cert.InprojSampleIdeal.defs₀
  refine congrArg Defs.onTc (funext fun l => ?_)
  match l with
  | ⟨0, _⟩ =>
    funext a
    obtain ⟨t, s⟩ := a
    rfl
  | ⟨_ + 1, h⟩ => exact absurd h (Nat.not_lt.2 (Nat.le_add_left _ _))

theorem defs_same : Cert.InprojSample.defs (F := Bits) = Cert.InprojSampleIdeal.defs (F := Bits) :=
  congrArg (Pipeline.defs (Cert.InprojSampleIdeal.pcfgs (F := Bits))) body_same

set_option maxHeartbeats 4000000 in
/-- The two host programs are one. -/
theorem main_same : Cert.InprojSample.main (F := Bits) = Cert.InprojSampleIdeal.main (F := Bits) := by
  funext c
  unfold Cert.InprojSample.main Cert.InprojSampleIdeal.main
  rfl

/-- Over words the arguments end unchanged and every semaphore at zero. -/
theorem frame : Cert.quiescent_InprojSample := by
  intro m ρ _
  rw [defs_same, main_same]
  exact Cert.InprojSampleIdeal.Result.frame (F := Bits) m ρ

end Cert.InprojSampleIdeal.Words

end
-- ==== Proof.InprojSampleRef.lean ====
/- The reference of the sampled rows' input projection as functions of the residual stream, the gain and the stacked weights, and
   what they are at an index. -/
module

public import proofs.«01_k».proof.Proof.Gen.InprojSampleRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojSampleRefIdeal.Spec

open Cert.InprojSampleRefIdeal Cert.InprojSampleRefIdeal.Gen

/-- The product of the normalised rows with the first layer's weights. -/
def PROD (X : FVec Ideal S64x2048 .f32) (G : FVec Ideal S2048 .f32) (W : FVec Ideal S4x2048x16384 .f32) : FVec Ideal S64x16384 .f32 :=
  Host.dotGeneral dot_S64x2048_S2048x16384_S64x16384_1_0_0_1_n_n none (mulf (mulf X (broadcastInDim S64x2048 ![0, 1] bcast_S64x1_S64x2048_0_1 (Host.rsqrt (addf (Host.divf (broadcastInDim S64x1 ![0] bcast_S64_S64x1_0 (Host.reduceAdd (mulf X X) (constant S_ .f32 0x00000000#32) reducesTo_S64x2048_S64_d1 h_S_)) (broadcastInDim S64x1 ![] bcast_S_S64x1 (constant S_ .f32 0x45000000#32))) (broadcastInDim S64x1 ![] bcast_S_S64x1 (constant S_ .f32 0x358637BD#32)))))) (broadcastInDim S64x2048 ![0, 1] bcast_S1x2048_S64x2048_0_1 (broadcastInDim S1x2048 ![1] bcast_S2048_S1x2048_1 G))) (shapeCast _ (extractStridedSlice S1x2048x16384 ![0, 0, 0] W slices_S4x2048x16384_S1x2048x16384_0_0_0) shapeCasts_S1x2048x16384_S2048x16384)

/-- The positions: eight sequences of eight, each after the 16384 positions of the cache. -/
def POS : IVec S64 32 :=
  shapeCast _ (broadcastInDim S8x8 ![0, 1] bcast_S1x8_S8x8_0_1 (shapeCast _ (addi (broadcastInDim S8 ![] bcast_S_S8 (constantI S_ 32 16384#32)) (iotaInDim S8 32 0)) shapeCasts_S8_S1x8)) shapeCasts_S8x8_S64

/-- The angles of the block attention's rotation, their cosines and sines. -/
def ANGM : FVec Ideal S64x16 .f32 :=
  mulf (broadcastInDim S64x16 ![0, 1] bcast_S64x1_S64x16_0_1 (broadcastInDim S64x1 ![0] bcast_S64_S64x1_0 (sitofp .f32 POS)))
    (broadcastInDim S64x16 ![0, 1] bcast_S1x16_S64x16_0_1 (broadcastInDim S1x16 ![1] bcast_S16_S1x16_1
      (Host.exp (mulf (sitofp .f32 (iotaInDim S16 32 0)) (broadcastInDim S16 ![] bcast_S_S16 (constant S_ .f32 0xBF51F533#32))))))
def COSM : FVec Ideal S64x16 .f32 := Host.cos ANGM
def SINM : FVec Ideal S64x16 .f32 := Host.sin ANGM

/-- The angles of the retention's rotation, their cosines and sines. -/
def ANGR : FVec Ideal S64x64 .f32 :=
  mulf (broadcastInDim S64x64 ![0, 1] bcast_S64x1_S64x64_0_1 (broadcastInDim S64x1 ![0] bcast_S64_S64x1_0 (sitofp .f32 POS)))
    (broadcastInDim S64x64 ![0, 1] bcast_S1x64_S64x64_0_1 (broadcastInDim S1x64 ![1] bcast_S64_S1x64_1
      (Host.exp (mulf (sitofp .f32 (iotaInDim S64 32 0)) (broadcastInDim S64 ![] bcast_S_S64 (constant S_ .f32 0xBE135D8E#32))))))
def COSR : FVec Ideal S64x64 .f32 := Host.cos ANGR
def SINR : FVec Ideal S64x64 .f32 := Host.sin ANGR

/-- The rotation of the first 32 columns of every head, -/
def ROTM (A : FVec Ideal S64x1024 .f32) (C S : FVec Ideal S64x16 .f32) : FVec Ideal S64x8x128 .f32 :=
  concatenate S64x8x128 2
    [⟨S64x8x16, subf (mulf (extractStridedSlice S64x8x16 ![0, 0, 0] (shapeCast _ A shapeCasts_S64x1024_S64x8x128) slices_S64x8x128_S64x8x16_0_0_0) (broadcastInDim S64x8x16 ![0, 1, 2] bcast_S64x1x16_S64x8x16_0_1_2 (broadcastInDim S64x1x16 ![0, 2] bcast_S64x16_S64x1x16_0_2 C))) (mulf (extractStridedSlice S64x8x16 ![0, 0, 16] (shapeCast _ A shapeCasts_S64x1024_S64x8x128) slices_S64x8x128_S64x8x16_0_0_16) (broadcastInDim S64x8x16 ![0, 1, 2] bcast_S64x1x16_S64x8x16_0_1_2 (broadcastInDim S64x1x16 ![0, 2] bcast_S64x16_S64x1x16_0_2 S)))⟩,
     ⟨S64x8x16, addf (mulf (extractStridedSlice S64x8x16 ![0, 0, 0] (shapeCast _ A shapeCasts_S64x1024_S64x8x128) slices_S64x8x128_S64x8x16_0_0_0) (broadcastInDim S64x8x16 ![0, 1, 2] bcast_S64x1x16_S64x8x16_0_1_2 (broadcastInDim S64x1x16 ![0, 2] bcast_S64x16_S64x1x16_0_2 S))) (mulf (extractStridedSlice S64x8x16 ![0, 0, 16] (shapeCast _ A shapeCasts_S64x1024_S64x8x128) slices_S64x8x128_S64x8x16_0_0_16) (broadcastInDim S64x8x16 ![0, 1, 2] bcast_S64x1x16_S64x8x16_0_1_2 (broadcastInDim S64x1x16 ![0, 2] bcast_S64x16_S64x1x16_0_2 C)))⟩,
     ⟨S64x8x96, (extractStridedSlice S64x8x96 ![0, 0, 32] (shapeCast _ A shapeCasts_S64x1024_S64x8x128) slices_S64x8x128_S64x8x96_0_0_32)⟩]
    concatenates_S64x8x16_S64x8x16_S64x8x96_S64x8x128_d2

/-- and of all of them. -/
def ROTR (A : FVec Ideal S64x1024 .f32) (C S : FVec Ideal S64x64 .f32) : FVec Ideal S64x8x128 .f32 :=
  concatenate S64x8x128 2
    [⟨S64x8x64, subf (mulf (extractStridedSlice S64x8x64 ![0, 0, 0] (shapeCast _ A shapeCasts_S64x1024_S64x8x128) slices_S64x8x128_S64x8x64_0_0_0) (broadcastInDim S64x8x64 ![0, 1, 2] bcast_S64x1x64_S64x8x64_0_1_2 (broadcastInDim S64x1x64 ![0, 2] bcast_S64x64_S64x1x64_0_2 C))) (mulf (extractStridedSlice S64x8x64 ![0, 0, 64] (shapeCast _ A shapeCasts_S64x1024_S64x8x128) slices_S64x8x128_S64x8x64_0_0_64) (broadcastInDim S64x8x64 ![0, 1, 2] bcast_S64x1x64_S64x8x64_0_1_2 (broadcastInDim S64x1x64 ![0, 2] bcast_S64x64_S64x1x64_0_2 S)))⟩,
     ⟨S64x8x64, addf (mulf (extractStridedSlice S64x8x64 ![0, 0, 0] (shapeCast _ A shapeCasts_S64x1024_S64x8x128) slices_S64x8x128_S64x8x64_0_0_0) (broadcastInDim S64x8x64 ![0, 1, 2] bcast_S64x1x64_S64x8x64_0_1_2 (broadcastInDim S64x1x64 ![0, 2] bcast_S64x64_S64x1x64_0_2 S))) (mulf (extractStridedSlice S64x8x64 ![0, 0, 64] (shapeCast _ A shapeCasts_S64x1024_S64x8x128) slices_S64x8x128_S64x8x64_0_0_64) (broadcastInDim S64x8x64 ![0, 1, 2] bcast_S64x1x64_S64x8x64_0_1_2 (broadcastInDim S64x1x64 ![0, 2] bcast_S64x64_S64x1x64_0_2 C)))⟩]
    concatenates_S64x8x64_S64x8x64_S64x8x128_d2

/-- The whole projection. -/
def ZREF (X : FVec Ideal S64x2048 .f32) (G : FVec Ideal S2048 .f32) (W : FVec Ideal S4x2048x16384 .f32) : FVec Ideal S64x16384 .f32 :=
  concatenate S64x16384 1 [⟨S64x1024, (extractStridedSlice S64x1024 ![0, 0] (PROD X G W) slices_S64x16384_S64x1024_0_0)⟩, ⟨S64x1024, (extractStridedSlice S64x1024 ![0, 1024] (PROD X G W) slices_S64x16384_S64x1024_0_1024)⟩, ⟨S64x1024, (extractStridedSlice S64x1024 ![0, 2048] (PROD X G W) slices_S64x16384_S64x1024_0_2048)⟩, ⟨S64x1024, (shapeCast _ (ROTM (extractStridedSlice S64x1024 ![0, 3072] (PROD X G W) slices_S64x16384_S64x1024_0_3072) COSM SINM) shapeCasts_S64x8x128_S64x1024)⟩, ⟨S64x1024, (shapeCast _ (ROTM (extractStridedSlice S64x1024 ![0, 4096] (PROD X G W) slices_S64x16384_S64x1024_0_4096) COSM SINM) shapeCasts_S64x8x128_S64x1024)⟩, ⟨S64x1024, (extractStridedSlice S64x1024 ![0, 5120] (PROD X G W) slices_S64x16384_S64x1024_0_5120)⟩, ⟨S64x1024, (shapeCast _ (ROTR (extractStridedSlice S64x1024 ![0, 6144] (PROD X G W) slices_S64x16384_S64x1024_0_6144) COSR SINR) shapeCasts_S64x8x128_S64x1024)⟩, ⟨S64x1024, (shapeCast _ (mulf (ROTR (extractStridedSlice S64x1024 ![0, 7168] (PROD X G W) slices_S64x16384_S64x1024_0_7168) COSR SINR) (broadcastInDim S64x8x128 ![] bcast_S_S64x8x128 (constant S_ .f32 0x3DB504F3#32))) shapeCasts_S64x8x128_S64x1024)⟩, ⟨S64x8192, (extractStridedSlice S64x8192 ![0, 8192] (PROD X G W) slices_S64x16384_S64x8192_0_8192)⟩]
    concatenates_S64x1024_S64x1024_S64x1024_S64x1024_S64x1024_S64x1024_S64x1024_S64x1024_S64x8192_S64x16384_d1

/-- Heads stored row by row. -/
def KAREF (X : FVec Ideal S64x2048 .f32) (G : FVec Ideal S2048 .f32) (W : FVec Ideal S4x2048x16384 .f32) : FVec Ideal S512x128 .f32 := shapeCast _ (extractStridedSlice S64x1024 ![0, 1024] (PROD X G W) slices_S64x16384_S64x1024_0_1024) shapeCasts_S64x1024_S512x128
def VAREF (X : FVec Ideal S64x2048 .f32) (G : FVec Ideal S2048 .f32) (W : FVec Ideal S4x2048x16384 .f32) : FVec Ideal S512x128 .f32 := shapeCast _ (extractStridedSlice S64x1024 ![0, 2048] (PROD X G W) slices_S64x16384_S64x1024_0_2048) shapeCasts_S64x1024_S512x128
def KMREF (X : FVec Ideal S64x2048 .f32) (G : FVec Ideal S2048 .f32) (W : FVec Ideal S4x2048x16384 .f32) : FVec Ideal S512x128 .f32 := shapeCast _ (ROTM (extractStridedSlice S64x1024 ![0, 4096] (PROD X G W) slices_S64x16384_S64x1024_0_4096) COSM SINM) shapeCasts_S64x8x128_S512x128
def VMREF (X : FVec Ideal S64x2048 .f32) (G : FVec Ideal S2048 .f32) (W : FVec Ideal S4x2048x16384 .f32) : FVec Ideal S512x128 .f32 := shapeCast _ (extractStridedSlice S64x1024 ![0, 5120] (PROD X G W) slices_S64x16384_S64x1024_0_5120) shapeCasts_S64x1024_S512x128

theorem res0 (m : (ℓ : Loc nD τ sig) → Buf (Elt Ideal) ℓ) (c : Dev nD) : Cert.InprojSampleRefIdeal.Value.res_out0 m c
    = ZREF (m ((c.tc : Thread nD τ).loc main_arg0)) (m ((c.tc : Thread nD τ).loc main_arg1)) (m ((c.tc : Thread nD τ).loc main_arg2)) := by
  delta Cert.InprojSampleRefIdeal.Value.res_out0 Cert.InprojSampleRefIdeal.Value.res_main_v151 ZREF
  rfl

theorem res3 (m : (ℓ : Loc nD τ sig) → Buf (Elt Ideal) ℓ) (c : Dev nD) : Cert.InprojSampleRefIdeal.Value.res_out3 m c
    = KMREF (m ((c.tc : Thread nD τ).loc main_arg0)) (m ((c.tc : Thread nD τ).loc main_arg1)) (m ((c.tc : Thread nD τ).loc main_arg2)) := by
  delta Cert.InprojSampleRefIdeal.Value.res_out3 Cert.InprojSampleRefIdeal.Value.res_main_v154 KMREF
  rfl

theorem rotM_lo (A : FVec Ideal S64x1024 .f32) (C S : FVec Ideal S64x16 .f32) (r : Fin 64) (h : Fin 8) (l : Fin 128) (hl : l.val < 16) :
    ROTM A C S (ix3 r h l) = A (ix2 r ⟨h.val * 128 + l.val, by omega⟩) * C (ix2 r ⟨l.val, hl⟩) - A (ix2 r ⟨h.val * 128 + (16 + l.val), by omega⟩) * S (ix2 r ⟨l.val, hl⟩) := by
  unfold ROTM
  pointwise []
  rw [dif_pos hl]

theorem rotM_mid (A : FVec Ideal S64x1024 .f32) (C S : FVec Ideal S64x16 .f32) (r : Fin 64) (h : Fin 8) (l : Fin 128) (hl : ¬ l.val < 16) (hl2 : l.val - 16 < 16) :
    ROTM A C S (ix3 r h l) = A (ix2 r ⟨h.val * 128 + (l.val - 16), by omega⟩) * S (ix2 r ⟨l.val - 16, hl2⟩) + A (ix2 r ⟨h.val * 128 + (16 + (l.val - 16)), by omega⟩) * C (ix2 r ⟨l.val - 16, hl2⟩) := by
  unfold ROTM
  pointwise []
  rw [dif_neg hl, dif_pos hl2]

theorem rotM_hi (A : FVec Ideal S64x1024 .f32) (C S : FVec Ideal S64x16 .f32) (r : Fin 64) (h : Fin 8) (l : Fin 128) (hl : ¬ l.val < 16) (hl2 : ¬ l.val - 16 < 16) :
    ROTM A C S (ix3 r h l) = A (ix2 r ⟨h.val * 128 + (32 + (l.val - 16 - 16)), by omega⟩) := by
  unfold ROTM
  pointwise []
  rw [dif_neg hl, dif_neg hl2]

theorem rotR_lo (A : FVec Ideal S64x1024 .f32) (C S : FVec Ideal S64x64 .f32) (r : Fin 64) (h : Fin 8) (l : Fin 128) (hl : l.val < 64) :
    ROTR A C S (ix3 r h l) = A (ix2 r ⟨h.val * 128 + l.val, by omega⟩) * C (ix2 r ⟨l.val, hl⟩) - A (ix2 r ⟨h.val * 128 + (64 + l.val), by omega⟩) * S (ix2 r ⟨l.val, hl⟩) := by
  unfold ROTR
  pointwise []
  rw [dif_pos hl]

theorem rotR_hi (A : FVec Ideal S64x1024 .f32) (C S : FVec Ideal S64x64 .f32) (r : Fin 64) (h : Fin 8) (l : Fin 128) (hl : ¬ l.val < 64) :
    ROTR A C S (ix3 r h l) = A (ix2 r ⟨h.val * 128 + (l.val - 64), by omega⟩) * S (ix2 r ⟨l.val - 64, by omega⟩) + A (ix2 r ⟨h.val * 128 + (64 + (l.val - 64)), by omega⟩) * C (ix2 r ⟨l.val - 64, by omega⟩) := by
  unfold ROTR
  pointwise []
  rw [dif_neg hl]

theorem cat_0 (u0 u1 u2 u3 u4 u5 u6 u7 : FVec Ideal S64x1024 .f32) (u8 : FVec Ideal S64x8192 .f32) (r : Fin 64) (q : Fin 16384) (h : q.val / 1024 = 0) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u0 (ix2 r ⟨q.val - 0, by omega⟩) := by
  pointwise []
  rw [dif_pos (show q.val < 1024 by omega)]
  all_goals exact congrArg (fun e => u0 (ix2 r e)) (Fin.ext (by dsimp only; omega))

theorem cat_1 (u0 u1 u2 u3 u4 u5 u6 u7 : FVec Ideal S64x1024 .f32) (u8 : FVec Ideal S64x8192 .f32) (r : Fin 64) (q : Fin 16384) (h : q.val / 1024 = 1) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u1 (ix2 r ⟨q.val - 1024, by omega⟩) := by
  pointwise []
  rw [dif_neg (show ¬ q.val < 1024 by omega), dif_pos (show q.val - 1024 < 1024 by omega)]
  all_goals exact congrArg (fun e => u1 (ix2 r e)) (Fin.ext (by dsimp only; omega))

theorem cat_2 (u0 u1 u2 u3 u4 u5 u6 u7 : FVec Ideal S64x1024 .f32) (u8 : FVec Ideal S64x8192 .f32) (r : Fin 64) (q : Fin 16384) (h : q.val / 1024 = 2) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u2 (ix2 r ⟨q.val - 2048, by omega⟩) := by
  pointwise []
  rw [dif_neg (show ¬ q.val < 1024 by omega), dif_neg (show ¬ q.val - 1024 < 1024 by omega), dif_pos (show q.val - 1024 - 1024 < 1024 by omega)]
  all_goals exact congrArg (fun e => u2 (ix2 r e)) (Fin.ext (by dsimp only; omega))

theorem cat_3 (u0 u1 u2 u3 u4 u5 u6 u7 : FVec Ideal S64x1024 .f32) (u8 : FVec Ideal S64x8192 .f32) (r : Fin 64) (q : Fin 16384) (h : q.val / 1024 = 3) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u3 (ix2 r ⟨q.val - 3072, by omega⟩) := by
  pointwise []
  rw [dif_neg (show ¬ q.val < 1024 by omega), dif_neg (show ¬ q.val - 1024 < 1024 by omega), dif_neg (show ¬ q.val - 1024 - 1024 < 1024 by omega), dif_pos (show q.val - 1024 - 1024 - 1024 < 1024 by omega)]
  all_goals exact congrArg (fun e => u3 (ix2 r e)) (Fin.ext (by dsimp only; omega))

theorem cat_4 (u0 u1 u2 u3 u4 u5 u6 u7 : FVec Ideal S64x1024 .f32) (u8 : FVec Ideal S64x8192 .f32) (r : Fin 64) (q : Fin 16384) (h : q.val / 1024 = 4) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u4 (ix2 r ⟨q.val - 4096, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_pos (show q.val - 1024 - 1024 - 1024 - 1024 < 1024 by omega)]
  all_goals exact congrArg (fun e => u4 (ix2 r e)) (Fin.ext (by dsimp only; omega))

theorem cat_5 (u0 u1 u2 u3 u4 u5 u6 u7 : FVec Ideal S64x1024 .f32) (u8 : FVec Ideal S64x8192 .f32) (r : Fin 64) (q : Fin 16384) (h : q.val / 1024 = 5) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u5 (ix2 r ⟨q.val - 5120, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_pos (show q.val - 1024 - 1024 - 1024 - 1024 - 1024 < 1024 by omega)]
  all_goals exact congrArg (fun e => u5 (ix2 r e)) (Fin.ext (by dsimp only; omega))

theorem cat_6 (u0 u1 u2 u3 u4 u5 u6 u7 : FVec Ideal S64x1024 .f32) (u8 : FVec Ideal S64x8192 .f32) (r : Fin 64) (q : Fin 16384) (h : q.val / 1024 = 6) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u6 (ix2 r ⟨q.val - 6144, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_pos (show q.val - 1024 - 1024 - 1024 - 1024 - 1024 - 1024 < 1024 by omega)]
  all_goals exact congrArg (fun e => u6 (ix2 r e)) (Fin.ext (by dsimp only; omega))

theorem cat_7 (u0 u1 u2 u3 u4 u5 u6 u7 : FVec Ideal S64x1024 .f32) (u8 : FVec Ideal S64x8192 .f32) (r : Fin 64) (q : Fin 16384) (h : q.val / 1024 = 7) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u7 (ix2 r ⟨q.val - 7168, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_neg (show ¬ q.val - 1024 - 1024 - 1024 - 1024 - 1024 - 1024 < 1024 by omega), dif_pos (show q.val - 1024 - 1024 - 1024 - 1024 - 1024 - 1024 - 1024 < 1024 by omega)]
  all_goals exact congrArg (fun e => u7 (ix2 r e)) (Fin.ext (by dsimp only; omega))

theorem cat_8 (u0 u1 u2 u3 u4 u5 u6 u7 : FVec Ideal S64x1024 .f32) (u8 : FVec Ideal S64x8192 .f32) (r : Fin 64) (q : Fin 16384) (h : 8 ≤ q.val / 1024) :
    concatenate S64x16384 1 [⟨S64x1024, u0⟩, ⟨S64x1024, u1⟩, ⟨S64x1024, u2⟩, ⟨S64x1024, u3⟩, ⟨S64x1024, u4⟩, ⟨S64x1024, u5⟩, ⟨S64x1024, u6⟩, ⟨S64x1024, u7⟩, ⟨S64x8192, u8⟩] concatenates_S64x1024_S64x1024_S64x1024_S64x1024_S64x1024_S64x1024_S64x1024_S64x1024_S64x8192_S64x16384_d1 (ix2 r q) = u8 (ix2 r ⟨q.val - 8192, by omega⟩) := by
  pointwise []
  rw [dif_neg (show ¬ q.val < 1024 by omega), dif_neg (show ¬ q.val - 1024 < 1024 by omega), dif_neg (show ¬ q.val - 1024 - 1024 < 1024 by omega), dif_neg (show ¬ q.val - 1024 - 1024 - 1024 < 1024 by omega), dif_neg (show ¬ q.val - 1024 - 1024 - 1024 - 1024 < 1024 by omega), dif_neg (show ¬ q.val - 1024 - 1024 - 1024 - 1024 - 1024 < 1024 by omega), dif_neg (show ¬ q.val - 1024 - 1024 - 1024 - 1024 - 1024 - 1024 < 1024 by omega), dif_neg (show ¬ q.val - 1024 - 1024 - 1024 - 1024 - 1024 - 1024 - 1024 < 1024 by omega)]
  all_goals exact congrArg (fun e => u8 (ix2 r e)) (Fin.ext (by dsimp only; omega))

end Cert.InprojSampleRefIdeal.Spec

end
-- ==== Proof.InprojSampleIdx.lean ====
/- The sampled rows' input projection: which block of its array each window takes, and the product at a grid point. -/
module

public import proofs.«01_k».proof.Proof.InprojSampleDat
public import proofs.«01_k».proof.Proof.InprojSampleRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojSampleIdeal.Result

open Cert.InprojSampleIdeal Cert.InprojSampleIdeal.Gen

variable (m : (ℓ : Loc nD τ sig) → Buf (Elt Ideal) ℓ)

/-- Which block of its array each window of the call takes at a grid point, decided over all the points. -/
theorem idx : ∀ t : Fin cfg0.N,
    win0_0.index t = ![t.val / 16, 0]
      ∧ win0_1.index t = ![0, 0]
      ∧ win0_2.index t = ![0, 0, t.val % 16]
      ∧ win0_3.index t = ![t.val / 16, 0]
      ∧ win0_4.index t = ![t.val / 16, 0]
      ∧ win0_5.index t = ![t.val / 16, 0]
      ∧ win0_6.index t = ![t.val / 16, 0]
      ∧ win0_7.index t = ![t.val / 16, 0]
      ∧ win0_8.index t = ![t.val / 16, t.val % 16]
      ∧ win0_9.index t = ![t.val / 16, 0]
      ∧ win0_10.index t = ![t.val / 16, 0]
      ∧ win0_11.index t = ![t.val / 16, 0]
      ∧ win0_12.index t = ![t.val / 16, 0] :=
  (by decide +kernel : ∀ t : Fin grid0.N, _)

/-- The points of a row block see the same rows of the residual stream. -/
theorem rows_eq (c : Dev nD) (t u : Fin cfg0.N) (h : t.val / 16 = u.val / 16) : iblk m c 0 t = iblk m c 0 u := by
  funext y
  blk_ext [iblk, V, idx t, idx u]

/-- Every point sees the whole gain. -/
theorem gain_eq (c : Dev nD) (t u : Fin cfg0.N) : iblk m c 1 t = iblk m c 1 u := by
  funext y
  blk_ext [iblk, V, idx t, idx u]

/-- The normalised rows of a point are those of its own blocks. -/
theorem xsv_own (c : Dev nD) (t : Fin cfg0.N) : xsv m c t = k0_pay1 (iblk m c 0 t) (iblk m c 1 t) := by
  unfold xsv
  rw [rows_eq m c (seg t 0 (Nat.zero_lt_succ _)) t (by show (t.val / 16 * 16 + 0) / 16 = t.val / 16; omega),
    gain_eq m c (seg t 0 (Nat.zero_lt_succ _)) t]

/-- The number of points. -/
theorem lt16 (t : Fin cfg0.N) : t.val < 16 := t.isLt

/-- A row of the array from a row of a point's block. -/
abbrev rowOf (t : Fin cfg0.N) (a : Fin 64) : Fin 64 := ⟨t.val / 16 * 64 + a.val, by have := lt16 t; omega⟩
/-- A column of the array from a column of a point's block. -/
abbrev colOf (t : Fin cfg0.N) (b : Fin 1024) : Fin 16384 := ⟨t.val % 16 * 1024 + b.val, by have := lt16 t; omega⟩

/-- The product of the whole arrays. -/
abbrev PR (c : Dev nD) : (⟨2, ![64, 16384]⟩ : Shape).Idx → EReal :=
  Cert.InprojSampleRefIdeal.Spec.PROD (m ((c : Thread nD τ).loc main_arg0)) (m ((c : Thread nD τ).loc main_arg1)) (m ((c : Thread nD τ).loc main_arg2))

/-- The product at a point is the reference's at the point's rows and columns. -/
theorem prod_at (c : Dev nD) (t : Fin cfg0.N) (a : Fin 64) (b : Fin 1024) :
    (prod m c t : S64x1024.Idx → EReal) (ix2 a b) = PR m c (ix2 (rowOf t a) (colOf t b)) := by
  unfold prod PR
  rw [xsv_own]
  unfold rowOf colOf
  pointwise [k0_pay1, k0_pay2, Cert.InprojSampleRefIdeal.Spec.PROD]
  blk_point [iblk, V, idx t]

end Cert.InprojSampleIdeal.Result

end
-- ==== Proof.InprojSampleTab.lean ====
/- The sampled rows' input projection: the tables of cosines and sines that the host lays out. -/
module

public import proofs.«01_k».proof.Proof.Gen.InprojSampleIdeal.Frame
public import proofs.«01_k».proof.Proof.InprojSampleRef
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.InprojSampleIdeal.Result

open Cert.InprojSampleIdeal Cert.InprojSampleIdeal.Gen

variable (m : (ℓ : Loc nD τ sig) → Buf (Elt Ideal) ℓ)

/-- The cosines of the block attention's rotation, and ones beyond them. -/
theorem tab3_lo (c : Dev nD) (r : Fin 64) (l : Fin 128) (hl : l.val < 16) : @Eq EReal ((V m c main_v21 : S64x128.Idx → EReal) (ix2 r l)) (Cert.InprojSampleRefIdeal.Spec.COSM (ix2 r ⟨l.val, hl⟩)) := by
  dsimp only [V]
  after_reads_simp
  pointwise []
  rw [dif_pos hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab3_mid (c : Dev nD) (r : Fin 64) (l : Fin 128) (hl : ¬ l.val < 16) (hl2 : l.val - 16 < 16) : @Eq EReal ((V m c main_v21 : S64x128.Idx → EReal) (ix2 r l)) (Cert.InprojSampleRefIdeal.Spec.COSM (ix2 r ⟨l.val - 16, hl2⟩)) := by
  dsimp only [V]
  after_reads_simp
  pointwise []
  rw [dif_neg hl, dif_pos hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab3_hi (c : Dev nD) (r : Fin 64) (l : Fin 128) (hl : ¬ l.val < 16) (hl2 : ¬ l.val - 16 < 16) : @Eq EReal ((V m c main_v21 : S64x128.Idx → EReal) (ix2 r l)) (1) := by
  dsimp only [V]
  after_reads_simp
  pointwise []
  rw [dif_neg hl, dif_neg hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

/-- The negated sines, and zeros beyond them. -/
theorem tab4_lo (c : Dev nD) (r : Fin 64) (l : Fin 128) (hl : l.val < 16) : @Eq EReal ((V m c main_v23 : S64x128.Idx → EReal) (ix2 r l)) (-Cert.InprojSampleRefIdeal.Spec.SINM (ix2 r ⟨l.val, hl⟩)) := by
  dsimp only [V]
  after_reads_simp
  pointwise []
  rw [dif_pos hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab4_mid (c : Dev nD) (r : Fin 64) (l : Fin 128) (hl : ¬ l.val < 16) (hl2 : l.val - 16 < 16) : @Eq EReal ((V m c main_v23 : S64x128.Idx → EReal) (ix2 r l)) (0) := by
  dsimp only [V]
  after_reads_simp
  pointwise []
  rw [dif_neg hl, dif_pos hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab4_hi (c : Dev nD) (r : Fin 64) (l : Fin 128) (hl : ¬ l.val < 16) (hl2 : ¬ l.val - 16 < 16) : @Eq EReal ((V m c main_v23 : S64x128.Idx → EReal) (ix2 r l)) (0) := by
  dsimp only [V]
  after_reads_simp
  pointwise []
  rw [dif_neg hl, dif_neg hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

/-- The sines in the second sixteen columns, and zeros elsewhere. -/
theorem tab5_lo (c : Dev nD) (r : Fin 64) (l : Fin 128) (hl : l.val < 16) : @Eq EReal ((V m c main_v24 : S64x128.Idx → EReal) (ix2 r l)) (0) := by
  dsimp only [V]
  after_reads_simp
  pointwise []
  rw [dif_pos hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab5_mid (c : Dev nD) (r : Fin 64) (l : Fin 128) (hl : ¬ l.val < 16) (hl2 : l.val - 16 < 16) : @Eq EReal ((V m c main_v24 : S64x128.Idx → EReal) (ix2 r l)) (Cert.InprojSampleRefIdeal.Spec.SINM (ix2 r ⟨l.val - 16, hl2⟩)) := by
  dsimp only [V]
  after_reads_simp
  pointwise []
  rw [dif_neg hl, dif_pos hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab5_hi (c : Dev nD) (r : Fin 64) (l : Fin 128) (hl : ¬ l.val < 16) (hl2 : ¬ l.val - 16 < 16) : @Eq EReal ((V m c main_v24 : S64x128.Idx → EReal) (ix2 r l)) (0) := by
  dsimp only [V]
  after_reads_simp
  pointwise []
  rw [dif_neg hl, dif_neg hl2]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

/-- The cosines of the retention's rotation, twice. -/
theorem tab6_lo (c : Dev nD) (r : Fin 64) (l : Fin 128) (hl : l.val < 64) : @Eq EReal ((V m c main_v36 : S64x128.Idx → EReal) (ix2 r l)) (Cert.InprojSampleRefIdeal.Spec.COSR (ix2 r ⟨l.val, hl⟩)) := by
  dsimp only [V]
  after_reads_simp
  pointwise []
  rw [dif_pos hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab6_hi (c : Dev nD) (r : Fin 64) (l : Fin 128) (hl : ¬ l.val < 64) : @Eq EReal ((V m c main_v36 : S64x128.Idx → EReal) (ix2 r l)) (Cert.InprojSampleRefIdeal.Spec.COSR (ix2 r ⟨l.val - 64, by omega⟩)) := by
  dsimp only [V]
  after_reads_simp
  pointwise []
  rw [dif_neg hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

/-- The negated sines and the sines. -/
theorem tab7_lo (c : Dev nD) (r : Fin 64) (l : Fin 128) (hl : l.val < 64) : @Eq EReal ((V m c main_v38 : S64x128.Idx → EReal) (ix2 r l)) (-Cert.InprojSampleRefIdeal.Spec.SINR (ix2 r ⟨l.val, hl⟩)) := by
  dsimp only [V]
  after_reads_simp
  pointwise []
  rw [dif_pos hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

theorem tab7_hi (c : Dev nD) (r : Fin 64) (l : Fin 128) (hl : ¬ l.val < 64) : @Eq EReal ((V m c main_v38 : S64x128.Idx → EReal) (ix2 r l)) (Cert.InprojSampleRefIdeal.Spec.SINR (ix2 r ⟨l.val - 64, by omega⟩)) := by
  dsimp only [V]
  after_reads_simp
  pointwise []
  rw [dif_neg hl]
  try after_reads_simp
  pointwise [Cert.InprojSampleRefIdeal.Spec.COSM, Cert.InprojSampleRefIdeal.Spec.SINM, Cert.InprojSampleRefIdeal.Spec.ANGM, Cert.InprojSampleRefIdeal.Spec.COSR, Cert.InprojSampleRefIdeal.Spec.SINR, Cert.InprojSampleRefIdeal.Spec.ANGR, Cert.InprojSampleRefIdeal.Spec.POS]

end Cert.InprojSampleIdeal.Result

end
-- ==== Proof.InprojSampleRot.lean ====
/- The sampled rows' input projection: the rotated heads of a grid point are the reference's. -/
module

public import proofs.«01_k».proof.Proof.InprojSampleIdx
public import proofs.«01_k».proof.Proof.InprojSampleTab
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojSampleIdeal.Result

open Cert.InprojSampleIdeal Cert.InprojSampleIdeal.Gen

variable (m : (ℓ : Loc nD τ sig) → Buf (Elt Ideal) ℓ)

/-! A block of a table is the table at the block's rows. -/

theorem blk3_at (c : Dev nD) (t : Fin cfg0.N) (a : Fin 64) (l : Fin 128) :
    (iblk m c 3 t : S64x128.Idx → EReal) (ix2 a l) = (V m c main_v21 : S64x128.Idx → EReal) (ix2 (rowOf t a) l) := by
  have e : (win0_3.blk t).view.emb (ix2 a l) = ix2 (rowOf t a) l := by blk_point [idx t]
  show V m c main_v21 ((win0_3.blk t).view.emb (ix2 a l)) = _
  rw [e]

theorem blk4_at (c : Dev nD) (t : Fin cfg0.N) (a : Fin 64) (l : Fin 128) :
    (iblk m c 4 t : S64x128.Idx → EReal) (ix2 a l) = (V m c main_v23 : S64x128.Idx → EReal) (ix2 (rowOf t a) l) := by
  have e : (win0_4.blk t).view.emb (ix2 a l) = ix2 (rowOf t a) l := by blk_point [idx t]
  show V m c main_v23 ((win0_4.blk t).view.emb (ix2 a l)) = _
  rw [e]

theorem blk5_at (c : Dev nD) (t : Fin cfg0.N) (a : Fin 64) (l : Fin 128) :
    (iblk m c 5 t : S64x128.Idx → EReal) (ix2 a l) = (V m c main_v24 : S64x128.Idx → EReal) (ix2 (rowOf t a) l) := by
  have e : (win0_5.blk t).view.emb (ix2 a l) = ix2 (rowOf t a) l := by blk_point [idx t]
  show V m c main_v24 ((win0_5.blk t).view.emb (ix2 a l)) = _
  rw [e]

theorem blk6_at (c : Dev nD) (t : Fin cfg0.N) (a : Fin 64) (l : Fin 128) :
    (iblk m c 6 t : S64x128.Idx → EReal) (ix2 a l) = (V m c main_v36 : S64x128.Idx → EReal) (ix2 (rowOf t a) l) := by
  have e : (win0_6.blk t).view.emb (ix2 a l) = ix2 (rowOf t a) l := by blk_point [idx t]
  show V m c main_v36 ((win0_6.blk t).view.emb (ix2 a l)) = _
  rw [e]

theorem blk7_at (c : Dev nD) (t : Fin cfg0.N) (a : Fin 64) (l : Fin 128) :
    (iblk m c 7 t : S64x128.Idx → EReal) (ix2 a l) = (V m c main_v38 : S64x128.Idx → EReal) (ix2 (rowOf t a) l) := by
  have e : (win0_7.blk t).view.emb (ix2 a l) = ix2 (rowOf t a) l := by blk_point [idx t]
  show V m c main_v38 ((win0_7.blk t).view.emb (ix2 a l)) = _
  rw [e]

/-- A partly rotated head at an index. -/
theorem part_at (A : FVec Ideal S64x1024 .f32) (c s1 s2 : FVec Ideal S64x128 .f32) (j : Fin 8) (a : Fin 64) (l : Fin 128) :
    part A c s1 s2 j (ix2 a l) = (A (ix2 a ⟨j.val * 128 + l.val, by omega⟩) * c (ix2 a l)
        + A (ix2 a ⟨j.val * 128 + (l.val + 16) % 128, by omega⟩) * s1 (ix2 a l)
        + A (ix2 a ⟨j.val * 128 + (l.val + 112) % 128, by omega⟩) * s2 (ix2 a l) : EReal) := by
  unfold part head
  pointwise []
  have e0 : (⟨128 * j.val + l.val, by omega⟩ : Fin 1024) = ⟨j.val * 128 + l.val, by omega⟩ := Fin.ext (by show 128 * j.val + l.val = j.val * 128 + l.val; omega)
  have e1 : (⟨128 * j.val + (l.val + 128 - 112) % 128, by omega⟩ : Fin 1024) = ⟨j.val * 128 + (l.val + 16) % 128, by omega⟩ := Fin.ext (by show 128 * j.val + (l.val + 128 - 112) % 128 = j.val * 128 + (l.val + 16) % 128; omega)
  have e2 : (⟨128 * j.val + (l.val + 128 - 16) % 128, by omega⟩ : Fin 1024) = ⟨j.val * 128 + (l.val + 112) % 128, by omega⟩ := Fin.ext (by show 128 * j.val + (l.val + 128 - 16) % 128 = j.val * 128 + (l.val + 112) % 128; omega)
  rw [e0, e1, e2]

/-- A wholly rotated head at an index. -/
theorem full_at (A : FVec Ideal S64x1024 .f32) (c s : FVec Ideal S64x128 .f32) (k : EReal) (j : Fin 8) (a : Fin 64) (l : Fin 128) :
    full A c s k j (ix2 a l) = ((A (ix2 a ⟨j.val * 128 + l.val, by omega⟩) * c (ix2 a l)
        + A (ix2 a ⟨j.val * 128 + (l.val + 64) % 128, by omega⟩) * s (ix2 a l)) * k : EReal) := by
  unfold full head
  pointwise []
  have e0 : (⟨128 * j.val + l.val, by omega⟩ : Fin 1024) = ⟨j.val * 128 + l.val, by omega⟩ := Fin.ext (by show 128 * j.val + l.val = j.val * 128 + l.val; omega)
  have e1 : (⟨128 * j.val + (l.val + 128 - 64) % 128, by omega⟩ : Fin 1024) = ⟨j.val * 128 + (l.val + 64) % 128, by omega⟩ := Fin.ext (by show 128 * j.val + (l.val + 128 - 64) % 128 = j.val * 128 + (l.val + 64) % 128; omega)
  rw [e0, e1]

section
variable (c : Dev nD) (t : Fin cfg0.N)

/-- The product of a point at a head's column. -/
theorem prod_head (A : (⟨2, ![64, 1024]⟩ : Shape).Idx → EReal)
    (hA : ∀ (r : Fin 64) (q : Fin 1024), A (ix2 r q) = PR m c (ix2 r (colOf t q)))
    (a : Fin 64) (b : Fin 1024) : (prod m c t : S64x1024.Idx → EReal) (ix2 a b) = A (ix2 (rowOf t a) b) :=
  (prod_at m c t a b).trans (hA _ _).symm

/-- The partly rotated heads of a point. -/
theorem prodM_at (A : (⟨2, ![64, 1024]⟩ : Shape).Idx → EReal)
    (hA : ∀ (r : Fin 64) (q : Fin 1024), A (ix2 r q) = PR m c (ix2 r (colOf t q)))
    (j : Fin 8) (a : Fin 64) (l : Fin 128) :
    (prodM m c t j (ix2 a l) : EReal) = Cert.InprojSampleRefIdeal.Spec.ROTM A Cert.InprojSampleRefIdeal.Spec.COSM Cert.InprojSampleRefIdeal.Spec.SINM (ix3 (rowOf t a) j l) := by
  unfold prodM
  rw [part_at, blk3_at, blk4_at, blk5_at, prod_head m c t A hA, prod_head m c t A hA, prod_head m c t A hA]
  by_cases h1 : l.val < 16
  · rw [tab3_lo m c _ l h1, tab4_lo m c _ l h1, tab5_lo m c _ l h1, Cert.InprojSampleRefIdeal.Spec.rotM_lo _ _ _ _ _ _ h1, mul_zero, add_zero, mul_neg, ← sub_eq_add_neg]
    have e : (⟨j.val * 128 + (l.val + 16) % 128, by omega⟩ : Fin 1024) = ⟨j.val * 128 + (16 + l.val), by omega⟩ := Fin.ext (by show j.val * 128 + (l.val + 16) % 128 = j.val * 128 + (16 + l.val); omega)
    rw [e]
  · by_cases h2 : l.val - 16 < 16
    · rw [tab3_mid m c _ l h1 h2, tab4_mid m c _ l h1 h2, tab5_mid m c _ l h1 h2, Cert.InprojSampleRefIdeal.Spec.rotM_mid _ _ _ _ _ _ h1 h2, mul_zero, add_zero, add_comm]
      have e : (⟨j.val * 128 + (l.val + 112) % 128, by omega⟩ : Fin 1024) = ⟨j.val * 128 + (l.val - 16), by omega⟩ := Fin.ext (by show j.val * 128 + (l.val + 112) % 128 = j.val * 128 + (l.val - 16); omega)
      have e' : (⟨j.val * 128 + l.val, by omega⟩ : Fin 1024) = ⟨j.val * 128 + (16 + (l.val - 16)), by omega⟩ := Fin.ext (by show j.val * 128 + l.val = j.val * 128 + (16 + (l.val - 16)); omega)
      rw [e, e']
    · rw [tab3_hi m c _ l h1 h2, tab4_hi m c _ l h1 h2, tab5_hi m c _ l h1 h2, Cert.InprojSampleRefIdeal.Spec.rotM_hi _ _ _ _ _ _ h1 h2, mul_zero, mul_zero, add_zero, add_zero, mul_one]
      have e' : (⟨j.val * 128 + l.val, by omega⟩ : Fin 1024) = ⟨j.val * 128 + (32 + (l.val - 16 - 16)), by omega⟩ := Fin.ext (by show j.val * 128 + l.val = j.val * 128 + (32 + (l.val - 16 - 16)); omega)
      rw [e']

/-- The wholly rotated heads of a point, with the point's scale. -/
theorem prodR_at (A : (⟨2, ![64, 1024]⟩ : Shape).Idx → EReal)
    (hA : ∀ (r : Fin 64) (q : Fin 1024), A (ix2 r q) = PR m c (ix2 r (colOf t q)))
    (j : Fin 8) (a : Fin 64) (l : Fin 128) :
    (prodR m c t j (ix2 a l) : EReal) = Cert.InprojSampleRefIdeal.Spec.ROTR A Cert.InprojSampleRefIdeal.Spec.COSR Cert.InprojSampleRefIdeal.Spec.SINR (ix3 (rowOf t a) j l)
      * k0_pay46 (F := Ideal) (BitVec.ofNat 32 ((grid0.coords t) 1).val) := by
  unfold prodR
  rw [full_at, blk6_at, blk7_at, prod_head m c t A hA, prod_head m c t A hA]
  congr 1
  by_cases h1 : l.val < 64
  · rw [tab6_lo m c _ l h1, tab7_lo m c _ l h1, Cert.InprojSampleRefIdeal.Spec.rotR_lo _ _ _ _ _ _ h1, mul_neg, ← sub_eq_add_neg]
    have e : (⟨j.val * 128 + (l.val + 64) % 128, by omega⟩ : Fin 1024) = ⟨j.val * 128 + (64 + l.val), by omega⟩ := Fin.ext (by show j.val * 128 + (l.val + 64) % 128 = j.val * 128 + (64 + l.val); omega)
    rw [e]
  · rw [tab6_hi m c _ l h1, tab7_hi m c _ l h1, Cert.InprojSampleRefIdeal.Spec.rotR_hi _ _ _ _ _ _ h1, add_comm]
    have e : (⟨j.val * 128 + (l.val + 64) % 128, by omega⟩ : Fin 1024) = ⟨j.val * 128 + (l.val - 64), by omega⟩ := Fin.ext (by show j.val * 128 + (l.val + 64) % 128 = j.val * 128 + (l.val - 64); omega)
    have e' : (⟨j.val * 128 + l.val, by omega⟩ : Fin 1024) = ⟨j.val * 128 + (64 + (l.val - 64)), by omega⟩ := Fin.ext (by show j.val * 128 + l.val = j.val * 128 + (64 + (l.val - 64)); omega)
    rw [e, e']

end

/-- The scale is one at the queries' points -/
theorem scale_q (t : Fin cfg0.N) (h : t.val % 16 = 6) : (k0_pay46 (F := Ideal) (BitVec.ofNat 32 ((grid0.coords t) 1).val) : EReal) = 1 := by
  have e : ((grid0.coords t) 1).val = 6 := ((by decide +kernel : ∀ t : Fin grid0.N, ((grid0.coords t) 1).val = t.val % 16) t).trans h
  rw [e]
  unfold k0_pay46
  pointwise []
  rfl

/-- and the reciprocal root of the head's size at the keys'. -/
theorem scale_k (t : Fin cfg0.N) (h : t.val % 16 = 7) : (k0_pay46 (F := Ideal) (BitVec.ofNat 32 ((grid0.coords t) 1).val) : EReal) = Ideal.ofBits .f32 0x3DB504F3#32 := by
  have e : ((grid0.coords t) 1).val = 7 := ((by decide +kernel : ∀ t : Fin grid0.N, ((grid0.coords t) 1).val = t.val % 16) t).trans h
  rw [e]
  unfold k0_pay46
  pointwise []

end Cert.InprojSampleIdeal.Result

end
-- ==== Proof.InprojSampleProjection.lean ====
/- The sampled rows' input projection: what the call leaves in the projection is the reference's. -/
module

public import proofs.«01_k».proof.Proof.InprojSampleRot
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojSampleIdeal.Result

open Cert.InprojSampleIdeal Cert.InprojSampleIdeal.Gen

variable (m : (ℓ : Loc nD τ sig) → Buf (Elt Ideal) ℓ)

/-- Heads put back side by side. -/
theorem back_at (u : FVec Ideal ⟨3, ![64, 8, 128]⟩ .f32) (h : (⟨3, ![64, 8, 128]⟩ : Shape).ShapeCasts ⟨2, ![64, 1024]⟩) (r : Fin 64) (q : Fin 1024) :
    shapeCast ⟨2, ![64, 1024]⟩ u h (ix2 r q) = u (ix3 r ⟨q.val / 128, by omega⟩ ⟨q.val % 128, by omega⟩) := by
  pointwise []

/-- Heads stored row by row, from heads side by side -/
theorem stack_at (u : FVec Ideal ⟨2, ![64, 1024]⟩ .f32) (h : (⟨2, ![64, 1024]⟩ : Shape).ShapeCasts ⟨2, ![512, 128]⟩) (p : Fin 512) (l : Fin 128) :
    shapeCast ⟨2, ![512, 128]⟩ u h (ix2 p l) = u (ix2 ⟨p.val / 8, by omega⟩ ⟨p.val % 8 * 128 + l.val, by omega⟩) := by
  pointwise []

/-- and from heads of their own. -/
theorem stack3_at (u : FVec Ideal ⟨3, ![64, 8, 128]⟩ .f32) (h : (⟨3, ![64, 8, 128]⟩ : Shape).ShapeCasts ⟨2, ![512, 128]⟩) (p : Fin 512) (l : Fin 128) :
    shapeCast ⟨2, ![512, 128]⟩ u h (ix2 p l) = u (ix3 ⟨p.val / 8, by omega⟩ ⟨p.val % 8, by omega⟩ l) := by
  pointwise []

/-- A segment of the product at a point of that segment. -/
theorem seg_at (c : Dev nD) (t : Fin cfg0.N) (k : ℕ) (hk : t.val % 16 = k) (h : (⟨2, ![64, 16384]⟩ : Shape).Slices ![0, 1024 * k] ⟨2, ![64, 1024]⟩) (r : Fin 64) (q : Fin 1024) :
    extractStridedSlice ⟨2, ![64, 1024]⟩ ![0, 1024 * k] (PR m c) h (ix2 r q) = PR m c (ix2 r (colOf t q)) := by
  have ht := lt16 t
  have e : extractStridedSlice ⟨2, ![64, 1024]⟩ ![0, 1024 * k] (PR m c) h (ix2 r q) = PR m c (ix2 r ⟨1024 * k + q.val, by omega⟩) := by
    pointwise []
  rw [e]
  exact congrArg (fun z => PR m c (ix2 r z)) (Fin.ext (by show 1024 * k + q.val = t.val % 16 * 1024 + q.val; omega))

/-- The columns of a point, counted within its segment. -/
theorem col_sub (t : Fin cfg0.N) (b : Fin 1024) (k : ℕ) (hk : t.val % 16 = k) (hlt : (colOf t b).val - 1024 * k < 1024) :
    (⟨(colOf t b).val - 1024 * k, hlt⟩ : Fin 1024) = b :=
  Fin.ext (by show t.val % 16 * 1024 + b.val - 1024 * k = b.val; omega)

/-! What a point stores in its block of the projection, segment by segment. -/

theorem point8_0 (c : Dev nD) (t : Fin cfg0.N) (a : Fin 64) (b : Fin 1024) (hk : t.val % 16 = 0) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 0 := by show (t.val % 16 * 1024 + b.val) / 1024 = 0; omega
  have hz : (⟨(colOf t b).val - 0, by have := (colOf t b).isLt; omega⟩ : Fin 1024) = b := col_sub t b 0 hk _
  unfold Cert.InprojSampleRefIdeal.Spec.ZREF
  rw [Cert.InprojSampleRefIdeal.Spec.cat_0 _ _ _ _ _ _ _ _ _ _ _ hq, hz]
  have hA : ∀ (r : Fin 64) (q : Fin 1024), (extractStridedSlice Cert.InprojSampleRefIdeal.S64x1024 ![0, 0] (PR m c) Cert.InprojSampleRefIdeal.Gen.slices_S64x16384_S64x1024_0_0) (ix2 r q) = PR m c (ix2 r (colOf t q)) := fun r q => seg_at m c t 0 hk _ r q
  unfold zv
  rw [if_neg (by omega), if_neg (by omega)]
  exact (prod_at m c t a b).trans (hA _ _).symm

theorem point8_1 (c : Dev nD) (t : Fin cfg0.N) (a : Fin 64) (b : Fin 1024) (hk : t.val % 16 = 1) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 1 := by show (t.val % 16 * 1024 + b.val) / 1024 = 1; omega
  have hz : (⟨(colOf t b).val - 1024, by have := (colOf t b).isLt; omega⟩ : Fin 1024) = b := col_sub t b 1 hk _
  unfold Cert.InprojSampleRefIdeal.Spec.ZREF
  rw [Cert.InprojSampleRefIdeal.Spec.cat_1 _ _ _ _ _ _ _ _ _ _ _ hq, hz]
  have hA : ∀ (r : Fin 64) (q : Fin 1024), (extractStridedSlice Cert.InprojSampleRefIdeal.S64x1024 ![0, 1024] (PR m c) Cert.InprojSampleRefIdeal.Gen.slices_S64x16384_S64x1024_0_1024) (ix2 r q) = PR m c (ix2 r (colOf t q)) := fun r q => seg_at m c t 1 hk _ r q
  unfold zv
  rw [if_neg (by omega), if_neg (by omega)]
  exact (prod_at m c t a b).trans (hA _ _).symm

theorem point8_2 (c : Dev nD) (t : Fin cfg0.N) (a : Fin 64) (b : Fin 1024) (hk : t.val % 16 = 2) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 2 := by show (t.val % 16 * 1024 + b.val) / 1024 = 2; omega
  have hz : (⟨(colOf t b).val - 2048, by have := (colOf t b).isLt; omega⟩ : Fin 1024) = b := col_sub t b 2 hk _
  unfold Cert.InprojSampleRefIdeal.Spec.ZREF
  rw [Cert.InprojSampleRefIdeal.Spec.cat_2 _ _ _ _ _ _ _ _ _ _ _ hq, hz]
  have hA : ∀ (r : Fin 64) (q : Fin 1024), (extractStridedSlice Cert.InprojSampleRefIdeal.S64x1024 ![0, 2048] (PR m c) Cert.InprojSampleRefIdeal.Gen.slices_S64x16384_S64x1024_0_2048) (ix2 r q) = PR m c (ix2 r (colOf t q)) := fun r q => seg_at m c t 2 hk _ r q
  unfold zv
  rw [if_neg (by omega), if_neg (by omega)]
  exact (prod_at m c t a b).trans (hA _ _).symm

theorem point8_3 (c : Dev nD) (t : Fin cfg0.N) (a : Fin 64) (b : Fin 1024) (hk : t.val % 16 = 3) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 3 := by show (t.val % 16 * 1024 + b.val) / 1024 = 3; omega
  have hz : (⟨(colOf t b).val - 3072, by have := (colOf t b).isLt; omega⟩ : Fin 1024) = b := col_sub t b 3 hk _
  unfold Cert.InprojSampleRefIdeal.Spec.ZREF
  rw [Cert.InprojSampleRefIdeal.Spec.cat_3 _ _ _ _ _ _ _ _ _ _ _ hq, hz]
  have hA : ∀ (r : Fin 64) (q : Fin 1024), (extractStridedSlice Cert.InprojSampleRefIdeal.S64x1024 ![0, 3072] (PR m c) Cert.InprojSampleRefIdeal.Gen.slices_S64x16384_S64x1024_0_3072) (ix2 r q) = PR m c (ix2 r (colOf t q)) := fun r q => seg_at m c t 3 hk _ r q
  unfold zv
  rw [if_pos (by omega), cols_at _ ⟨b.val / 128, by omega⟩ a ⟨b.val % 128, by omega⟩ _ rfl (by show b.val = 128 * (b.val / 128) + b.val % 128; omega)]
  refine Eq.trans ?_ (back_at _ _ _ _).symm
  exact prodM_at m c t _ hA _ _ _

theorem point8_4 (c : Dev nD) (t : Fin cfg0.N) (a : Fin 64) (b : Fin 1024) (hk : t.val % 16 = 4) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 4 := by show (t.val % 16 * 1024 + b.val) / 1024 = 4; omega
  have hz : (⟨(colOf t b).val - 4096, by have := (colOf t b).isLt; omega⟩ : Fin 1024) = b := col_sub t b 4 hk _
  unfold Cert.InprojSampleRefIdeal.Spec.ZREF
  rw [Cert.InprojSampleRefIdeal.Spec.cat_4 _ _ _ _ _ _ _ _ _ _ _ hq, hz]
  have hA : ∀ (r : Fin 64) (q : Fin 1024), (extractStridedSlice Cert.InprojSampleRefIdeal.S64x1024 ![0, 4096] (PR m c) Cert.InprojSampleRefIdeal.Gen.slices_S64x16384_S64x1024_0_4096) (ix2 r q) = PR m c (ix2 r (colOf t q)) := fun r q => seg_at m c t 4 hk _ r q
  unfold zv
  rw [if_pos (by omega), cols_at _ ⟨b.val / 128, by omega⟩ a ⟨b.val % 128, by omega⟩ _ rfl (by show b.val = 128 * (b.val / 128) + b.val % 128; omega)]
  refine Eq.trans ?_ (back_at _ _ _ _).symm
  exact prodM_at m c t _ hA _ _ _

theorem point8_5 (c : Dev nD) (t : Fin cfg0.N) (a : Fin 64) (b : Fin 1024) (hk : t.val % 16 = 5) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 5 := by show (t.val % 16 * 1024 + b.val) / 1024 = 5; omega
  have hz : (⟨(colOf t b).val - 5120, by have := (colOf t b).isLt; omega⟩ : Fin 1024) = b := col_sub t b 5 hk _
  unfold Cert.InprojSampleRefIdeal.Spec.ZREF
  rw [Cert.InprojSampleRefIdeal.Spec.cat_5 _ _ _ _ _ _ _ _ _ _ _ hq, hz]
  have hA : ∀ (r : Fin 64) (q : Fin 1024), (extractStridedSlice Cert.InprojSampleRefIdeal.S64x1024 ![0, 5120] (PR m c) Cert.InprojSampleRefIdeal.Gen.slices_S64x16384_S64x1024_0_5120) (ix2 r q) = PR m c (ix2 r (colOf t q)) := fun r q => seg_at m c t 5 hk _ r q
  unfold zv
  rw [if_neg (by omega), if_neg (by omega)]
  exact (prod_at m c t a b).trans (hA _ _).symm

theorem point8_6 (c : Dev nD) (t : Fin cfg0.N) (a : Fin 64) (b : Fin 1024) (hk : t.val % 16 = 6) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 6 := by show (t.val % 16 * 1024 + b.val) / 1024 = 6; omega
  have hz : (⟨(colOf t b).val - 6144, by have := (colOf t b).isLt; omega⟩ : Fin 1024) = b := col_sub t b 6 hk _
  unfold Cert.InprojSampleRefIdeal.Spec.ZREF
  rw [Cert.InprojSampleRefIdeal.Spec.cat_6 _ _ _ _ _ _ _ _ _ _ _ hq, hz]
  have hA : ∀ (r : Fin 64) (q : Fin 1024), (extractStridedSlice Cert.InprojSampleRefIdeal.S64x1024 ![0, 6144] (PR m c) Cert.InprojSampleRefIdeal.Gen.slices_S64x16384_S64x1024_0_6144) (ix2 r q) = PR m c (ix2 r (colOf t q)) := fun r q => seg_at m c t 6 hk _ r q
  unfold zv
  rw [if_neg (by omega), if_pos (by omega), cols_at _ ⟨b.val / 128, by omega⟩ a ⟨b.val % 128, by omega⟩ _ rfl (by show b.val = 128 * (b.val / 128) + b.val % 128; omega)]
  refine Eq.trans ?_ (back_at _ _ _ _).symm
  refine (prodR_at m c t _ hA _ _ _).trans ?_
  rw [scale_q t hk]
  exact mul_one _

theorem point8_7 (c : Dev nD) (t : Fin cfg0.N) (a : Fin 64) (b : Fin 1024) (hk : t.val % 16 = 7) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have hq : (colOf t b).val / 1024 = 7 := by show (t.val % 16 * 1024 + b.val) / 1024 = 7; omega
  have hz : (⟨(colOf t b).val - 7168, by have := (colOf t b).isLt; omega⟩ : Fin 1024) = b := col_sub t b 7 hk _
  unfold Cert.InprojSampleRefIdeal.Spec.ZREF
  rw [Cert.InprojSampleRefIdeal.Spec.cat_7 _ _ _ _ _ _ _ _ _ _ _ hq, hz]
  have hA : ∀ (r : Fin 64) (q : Fin 1024), (extractStridedSlice Cert.InprojSampleRefIdeal.S64x1024 ![0, 7168] (PR m c) Cert.InprojSampleRefIdeal.Gen.slices_S64x16384_S64x1024_0_7168) (ix2 r q) = PR m c (ix2 r (colOf t q)) := fun r q => seg_at m c t 7 hk _ r q
  unfold zv
  rw [if_neg (by omega), if_pos (by omega), cols_at _ ⟨b.val / 128, by omega⟩ a ⟨b.val % 128, by omega⟩ _ rfl (by show b.val = 128 * (b.val / 128) + b.val % 128; omega)]
  refine Eq.trans ?_ (back_at _ _ _ _).symm
  refine (prodR_at m c t _ hA _ _ _).trans ?_
  rw [scale_k t hk]
  pointwise []

theorem point8_8 (c : Dev nD) (t : Fin cfg0.N) (a : Fin 64) (b : Fin 1024) (hk : 8 ≤ t.val % 16) :
    (zv m c t : S64x1024.Idx → EReal) (ix2 a b) = Cert.InprojSampleRefIdeal.Spec.ZREF (m ((c : Thread nD τ).loc main_arg0)) (m ((c : Thread nD τ).loc main_arg1)) (m ((c : Thread nD τ).loc main_arg2)) (ix2 (rowOf t a) (colOf t b)) := by
  have ht := lt16 t
  have hq : 8 ≤ (colOf t b).val / 1024 := by show 8 ≤ (t.val % 16 * 1024 + b.val) / 1024; omega
  unfold Cert.InprojSampleRefIdeal.Spec.ZREF
  rw [Cert.InprojSampleRefIdeal.Spec.cat_8 _ _ _ _ _ _ _ _ _ _ _ hq]
  unfold zv
  rw [if_neg (by omega), if_neg (by omega), prod_at]
  pointwise []
  exact congrArg (fun z => PR m c (ix2 (rowOf t a) z)) (Fin.ext (by show (colOf t b).val = 8192 + ((colOf t b).val - 8192); have : 8192 ≤ (colOf t b).val := by omega
                                                                    omega))

/-- After the call the first result is the whole projection. -/
theorem final8 (c : Dev nD) : (dats m 0 c).arrAt 8 (cfgs 0).N = Cert.InprojSampleRefIdeal.Spec.ZREF (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨a, b, rfl⟩ : ∃ (a : Fin 64) (b : Fin 1024), y = ix2 a b := ⟨y 0, y 1, eq_ix2 y⟩
  have e : ((cfg0.win 8).blk t).view.emb (ix2 a b) = ix2 (rowOf t a) (colOf t b) := by
    show (win0_8.blk t).view.emb (ix2 a b) = ix2 (rowOf t a) (colOf t b)
    blk_point [idx t]
  rw [e]
  have ht := lt16 t
  rcases (by omega : t.val % 16 = 0 ∨ t.val % 16 = 1 ∨ t.val % 16 = 2 ∨ t.val % 16 = 3 ∨ t.val % 16 = 4 ∨ t.val % 16 = 5 ∨ t.val % 16 = 6 ∨ t.val % 16 = 7 ∨ 8 ≤ t.val % 16) with h | h | h | h | h | h | h | h | h
  · exact point8_0 m c t a b h
  · exact point8_1 m c t a b h
  · exact point8_2 m c t a b h
  · exact point8_3 m c t a b h
  · exact point8_4 m c t a b h
  · exact point8_5 m c t a b h
  · exact point8_6 m c t a b h
  · exact point8_7 m c t a b h
  · exact point8_8 m c t a b h

end Cert.InprojSampleIdeal.Result

end
-- ==== Proof.InprojSampleHeads.lean ====
/- The sampled rows' input projection: what the call leaves in the four arrays of heads is the reference's. -/
module

public import proofs.«01_k».proof.Proof.InprojSampleProjection
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojSampleIdeal.Result

open Cert.InprojSampleIdeal Cert.InprojSampleIdeal.Gen

variable (m : (ℓ : Loc nD τ sig) → Buf (Elt Ideal) ℓ)

/-- A row of the array of heads from a row of a point's block. -/
abbrev headRow (t : Fin cfg0.N) (p : Fin 512) : Fin 512 := ⟨t.val / 16 * 512 + p.val, by have := lt16 t; omega⟩

/-- The point of segment `k` in a row block: its rows and its segment. -/
theorem seg_row (t : Fin cfg0.N) (k : ℕ) (hk : k < 16) (a : Fin 64) : rowOf (seg t k hk) a = rowOf t a :=
  Fin.ext (by show (t.val / 16 * 16 + k) / 16 * 64 + a.val = t.val / 16 * 64 + a.val; omega)
theorem seg_mod (t : Fin cfg0.N) (k : ℕ) (hk : k < 16) : (seg t k hk).val % 16 = k := by
  show (t.val / 16 * 16 + k) % 16 = k; omega

/-- A row of heads belongs to the row of the stream at an eighth of its number. -/
theorem headRow_row (t : Fin cfg0.N) (p : Fin 512) (h1 : (headRow t p).val / 8 < 64) (h2 : p.val / 8 < 64) : (⟨(headRow t p).val / 8, h1⟩ : Fin 64) = rowOf t ⟨p.val / 8, h2⟩ :=
  Fin.ext (by show (t.val / 16 * 512 + p.val) / 8 = t.val / 16 * 64 + p.val / 8; omega)

/-- A head of a segment at an index. -/
theorem head_seg (c : Dev nD) (t : Fin cfg0.N) (k : ℕ) (hk : k < 16) (h : (⟨2, ![64, 16384]⟩ : Shape).Slices ![0, 1024 * k] ⟨2, ![64, 1024]⟩) (j : Fin 8) (a : Fin 64) (l : Fin 128) :
    (head (prod m c (seg t k hk)) j (ix2 a l) : EReal)
      = extractStridedSlice ⟨2, ![64, 1024]⟩ ![0, 1024 * k] (PR m c) h (ix2 (rowOf t a) ⟨j.val * 128 + l.val, by omega⟩) := by
  rw [seg_at m c (seg t k hk) k (seg_mod t k hk), ← seg_row t k hk a, ← prod_at]
  unfold head
  pointwise []
  exact congrArg (fun z => prod m c (seg t k hk) (ix2 a z)) (Fin.ext (by show 128 * j.val + l.val = j.val * 128 + l.val; omega))

/-- The heads of a segment, stored row by row. -/
theorem rows_seg (c : Dev nD) (t : Fin cfg0.N) (k : ℕ) (hk : k < 16) (h : (⟨2, ![64, 16384]⟩ : Shape).Slices ![0, 1024 * k] ⟨2, ![64, 1024]⟩)
    (h' : (⟨2, ![64, 1024]⟩ : Shape).ShapeCasts ⟨2, ![512, 128]⟩) (p : Fin 512) (l : Fin 128) :
    (rows (head (prod m c (seg t k hk))) (ix2 p l) : EReal)
      = shapeCast ⟨2, ![512, 128]⟩ (extractStridedSlice ⟨2, ![64, 1024]⟩ ![0, 1024 * k] (PR m c) h) h' (ix2 (headRow t p) l) := by
  rw [rows_at _ ⟨p.val % 8, by omega⟩ ⟨p.val / 8, by omega⟩ l _ (by show p.val = 8 * (p.val / 8) + p.val % 8; omega) rfl]
  refine (head_seg m c t k hk h _ _ _).trans (Eq.trans ?_ (stack_at _ h' _ _).symm)
  have e : (⟨p.val % 8 * 128 + l.val, by omega⟩ : Fin 1024) = ⟨(headRow t p).val % 8 * 128 + l.val, by omega⟩ :=
    Fin.ext (by show p.val % 8 * 128 + l.val = (t.val / 16 * 512 + p.val) % 8 * 128 + l.val; omega)
  rw [headRow_row t p _ (by omega), e]

/-- The rotated heads of a segment, stored row by row. -/
theorem rowsM_seg (c : Dev nD) (t : Fin cfg0.N) (k : ℕ) (hk : k < 16) (h : (⟨2, ![64, 16384]⟩ : Shape).Slices ![0, 1024 * k] ⟨2, ![64, 1024]⟩)
    (h' : (⟨3, ![64, 8, 128]⟩ : Shape).ShapeCasts ⟨2, ![512, 128]⟩) (p : Fin 512) (l : Fin 128) :
    (rows (prodM m c (seg t k hk)) (ix2 p l) : EReal)
      = shapeCast ⟨2, ![512, 128]⟩ (Cert.InprojSampleRefIdeal.Spec.ROTM (extractStridedSlice ⟨2, ![64, 1024]⟩ ![0, 1024 * k] (PR m c) h) Cert.InprojSampleRefIdeal.Spec.COSM Cert.InprojSampleRefIdeal.Spec.SINM) h' (ix2 (headRow t p) l) := by
  rw [rows_at _ ⟨p.val % 8, by omega⟩ ⟨p.val / 8, by omega⟩ l _ (by show p.val = 8 * (p.val / 8) + p.val % 8; omega) rfl]
  refine (prodM_at m c (seg t k hk) _ (fun r q => seg_at m c (seg t k hk) k (seg_mod t k hk) h r q) _ _ _).trans (Eq.trans ?_ (stack3_at _ h' _ _).symm)
  have e : (⟨p.val % 8, by omega⟩ : Fin 8) = ⟨(headRow t p).val % 8, by omega⟩ :=
    Fin.ext (by show p.val % 8 = (t.val / 16 * 512 + p.val) % 8; omega)
  rw [headRow_row t p _ (by omega), seg_row, e]

/-- After the call result 1 is the first attention's keys. -/
theorem final9 (c : Dev nD) : (dats m 0 c).arrAt 9 (cfgs 0).N = Cert.InprojSampleRefIdeal.Spec.KAREF (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain ⟨a, b, rfl⟩ : ∃ (a : Fin 512) (b : Fin 128), y = ix2 a b := ⟨y 0, y 1, eq_ix2 y⟩
  have e : ((cfg0.win 9).blk t).view.emb (ix2 a b) = ix2 (headRow t a) b := by
    show (win0_9.blk t).view.emb (ix2 a b) = ix2 (headRow t a) b
    blk_point [idx t]
  rw [e]
  unfold kav
  exact rows_seg m c t 1 (by decide) _ _ a b

/-- After the call result 2 is its values. -/
theorem final10 (c : Dev nD) : (dats m 0 c).arrAt 10 (cfgs 0).N = Cert.InprojSampleRefIdeal.Spec.VAREF (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  obtain ⟨a, b, rfl⟩ : ∃ (a : Fin 512) (b : Fin 128), y = ix2 a b := ⟨y 0, y 1, eq_ix2 y⟩
  have e : ((cfg0.win 10).blk t).view.emb (ix2 a b) = ix2 (headRow t a) b := by
    show (win0_10.blk t).view.emb (ix2 a b) = ix2 (headRow t a) b
    blk_point [idx t]
  rw [e]
  unfold vav
  exact rows_seg m c t 2 (by decide) _ _ a b

/-- After the call result 3 is the block attention's rotated keys. -/
theorem final11 (c : Dev nD) : (dats m 0 c).arrAt 11 (cfgs 0).N = Cert.InprojSampleRefIdeal.Spec.KMREF (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  obtain ⟨a, b, rfl⟩ : ∃ (a : Fin 512) (b : Fin 128), y = ix2 a b := ⟨y 0, y 1, eq_ix2 y⟩
  have e : ((cfg0.win 11).blk t).view.emb (ix2 a b) = ix2 (headRow t a) b := by
    show (win0_11.blk t).view.emb (ix2 a b) = ix2 (headRow t a) b
    blk_point [idx t]
  rw [e]
  unfold kmv
  exact rowsM_seg m c t 4 (by decide) _ _ a b

/-- After the call result 4 is its values. -/
theorem final12 (c : Dev nD) : (dats m 0 c).arrAt 12 (cfgs 0).N = Cert.InprojSampleRefIdeal.Spec.VMREF (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  obtain ⟨a, b, rfl⟩ : ∃ (a : Fin 512) (b : Fin 128), y = ix2 a b := ⟨y 0, y 1, eq_ix2 y⟩
  have e : ((cfg0.win 12).blk t).view.emb (ix2 a b) = ix2 (headRow t a) b := by
    show (win0_12.blk t).view.emb (ix2 a b) = ix2 (headRow t a) b
    blk_point [idx t]
  rw [e]
  unfold vmv
  exact rows_seg m c t 5 (by decide) _ _ a b

end Cert.InprojSampleIdeal.Result

end
-- ==== Proof.InprojSamplePair.lean ====
/- The sampled rows' input projection computes its reference. -/
module

public import proofs.«01_k».proof.Defs
public import proofs.«01_k».proof.Proof.InprojSampleHeads
public import proofs.«01_k».proof.Proof.InprojSampleFrame
public import proofs.«01_k».proof.Proof.Gen.InprojSampleRefIdeal.Run
public import Idealize.ShloMosaic.Lib.Claim

@[expose] public section

set_option maxRecDepth 16384

noncomputable section

open Idealize.ShloMosaic Idealize.SL.Sem

namespace Cert.InprojSampleIdeal.Result

set_option maxHeartbeats 4000000 in
/-- The input projection computes its reference: the projection and the four arrays of heads. -/
theorem pair : Cert.algebraic_InprojSampleIdeal_InprojSampleRefIdeal := by
  pair_intro
  · run_from Cert.InprojSampleIdeal.Result.run_main m g
  · refine θ_run_mono (Cert.InprojSampleRefIdeal.Value.run m' g') ?_
    intro r h c
    have hc := h c
    have h0 := (hagree c).1
    have h1 := (hagree c).2.1
    have h2 := (hagree c).2.2
    refine ⟨?_, ?_, ?_, ?_, ?_, hc.2.2.2.2.2⟩
    · rw [hc.1]
      refine (Cert.InprojSampleRefIdeal.Spec.res0 m' c).trans ?_
      rw [h0, h1, h2]
      exact (final8 m c).symm
    · rw [hc.2.1, h0, h1, h2]
      exact (final9 m c).symm
    · rw [hc.2.2.1, h0, h1, h2]
      exact (final10 m c).symm
    · rw [hc.2.2.2.1]
      refine (Cert.InprojSampleRefIdeal.Spec.res3 m' c).trans ?_
      rw [h0, h1, h2]
      exact (final11 m c).symm
    · rw [hc.2.2.2.2.1, h0, h1, h2]
      exact (final12 m c).symm

end Cert.InprojSampleIdeal.Result

end
-- ==== Proof.RetentionSampleResult.lean ====
/- The state the retention kernel leaves after the sampled tokens. A sequence has eight rows, of which four are tokens; the
   keys' decay is zero on the others, so the state is the old one decayed, plus the decayed keys of four rows against their values. -/
module

public import proofs.«01_k».proof.Proof.Gen.RetentionSampleIdeal.Value
public import proofs.«01_k».proof.Proof.Gen.RetentionSampleRefIdeal.Run
public import proofs.«01_k».proof.Proof.RetentionSpec
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.RetentionSampleIdeal.Result

open Cert.RetentionSpec Cert.RetentionSampleIdeal Cert.RetentionSampleIdeal.Gen

/-- One head's state: its decay, the old entry, and a column of the keys, their decays and a column of the values. -/
def next {n : ℕ} (g s : EReal) (k d v : Fin n → EReal) : EReal := g * s + ∑ x : Fin n, k x * d x * v x

/-- The decay over the four tokens. -/
def whole (h : Fin 8) : EReal := Ideal.exp (Ideal.ofBits FTy.f32 1082130432#32 * logG h)

/-- The decay of the key of row `x`. -/
def tail (h : Fin 8) (x : ℕ) : EReal := Ideal.exp ((Ideal.ofBits FTy.f32 1077936128#32 - flt x) * logG h)

/-- An entry of the projections: row `x` of sequence `b`, column `e` of head `h`, from the columns at `base`. -/
def entry (z : (⟨2, ![64, 16384]⟩ : Shape).Idx → EReal) (base : ℕ) (hb : base ≤ 15360) (b : Fin 8) (h : Fin 8) (e : Fin 128) (x : Fin 8) : EReal :=
  z (ix2 ⟨b.val * 8 + x.val, by omega⟩ ⟨base + (h.val * 128 + e.val), by omega⟩)

/-- With a decay that is zero after the fourth row, eight rows are four. -/
theorem next_eight (g s : EReal) (k v : Fin 8 → EReal) (h : Fin 8) :
    next g s k (fun x => if x.val < 4 then tail h x.val else 0) v
      = next g s (fun x : Fin 4 => k (x.castLE (by decide))) (fun x : Fin 4 => tail h x.val) (fun x : Fin 4 => v (x.castLE (by decide))) := by
  unfold next
  rw [Fin.sum_univ_eight, Fin.sum_univ_four]
  have e4 : ¬ (4 : Fin 8).val < 4 := by decide
  have e5 : ¬ (5 : Fin 8).val < 4 := by decide
  have e6 : ¬ (6 : Fin 8).val < 4 := by decide
  have e7 : ¬ (7 : Fin 8).val < 4 := by decide
  have e0 : (0 : Fin 8).val < 4 := by decide
  have e1 : (1 : Fin 8).val < 4 := by decide
  have e2 : (2 : Fin 8).val < 4 := by decide
  have e3 : (3 : Fin 8).val < 4 := by decide
  dsimp only
  rw [if_neg e4, if_neg e5, if_neg e6, if_neg e7, if_pos e0, if_pos e1, if_pos e2, if_pos e3]
  simp only [mul_zero, zero_mul, add_zero]
  rfl

variable (m : (ℓ : Loc nD τ sig) → Buf (Elt Ideal) ℓ)

/-- Which block of its array each window takes at a grid point, decided over all the points. -/
theorem idx : ∀ t : Fin cfg0.N,
    win0_1.index t = ![(grid0.coords t 0).val, 14 + (grid0.coords t 1).val]
      ∧ win0_2.index t = ![(grid0.coords t 0).val, 16 + (grid0.coords t 1).val]
      ∧ win0_6.index t = ![(grid0.coords t 1).val, 0, 0]
      ∧ win0_7.index t = ![(grid0.coords t 1).val, 0, 0]
      ∧ win0_9.index t = ![(grid0.coords t 0).val, (grid0.coords t 1).val, 0, 0]
      ∧ win0_11.index t = ![(grid0.coords t 0).val, (grid0.coords t 1).val, 0, 0] :=
  (by decide +kernel : ∀ t : Fin grid0.N, _)

/-- The sequence of a grid point. -/
def sq (t : Fin cfg0.N) : Fin 8 := ⟨(grid0.coords t 0).val, (grid0.coords t 0).isLt⟩

/-- The `j`-th head of a grid point. -/
def hd (t : Fin cfg0.N) (j : Fin 4) : Fin 8 := ⟨4 * (grid0.coords t 1).val + j.val, by
  have : (grid0.coords t 1).val < 2 := (grid0.coords t 1).isLt
  omega⟩

/-- The projections and the old states. -/
abbrev zed (c : Dev nD) : (⟨2, ![64, 16384]⟩ : Shape).Idx → EReal := m ((c : Thread nD τ).loc main_arg0)
abbrev old (c : Dev nD) : (⟨4, ![8, 8, 128, 128]⟩ : Shape).Idx → EReal := m ((c : Thread nD τ).loc main_arg2)

/-- The keys at a point. -/
theorem tile_k (c : Dev nD) (t : Fin cfg0.N) (j : Fin 4) (r : Fin 8) (e : Fin 128) :
    (iblk m c 1 t : S8x512.Idx → EReal) (ix2 r ⟨128 * j.val + e.val, by omega⟩) = entry (zed m c) 7168 (by decide) (sq t) (hd t j) e r := by
  unfold entry sq hd
  blk_point [iblk, V, idx t]

/-- The values at a point. -/
theorem tile_v (c : Dev nD) (t : Fin cfg0.N) (j : Fin 4) (r : Fin 8) (e : Fin 128) :
    (iblk m c 2 t : S8x512.Idx → EReal) (ix2 r ⟨128 * j.val + e.val, by omega⟩) = entry (zed m c) 8192 (by decide) (sq t) (hd t j) e r := by
  unfold entry sq hd
  blk_point [iblk, V, idx t]

/-- The old states at a point. -/
theorem tile_s (c : Dev nD) (t : Fin cfg0.N) (j : Fin 4) (d e : Fin 128) :
    (iblk m c 9 t : S1x4x128x128.Idx → EReal) (ix4 0 j d e) = old m c (ix4 (sq t) (hd t j) d e) := by
  unfold sq hd
  blk_point [iblk, V, idx t]

/-- Which rows are tokens. -/
theorem lt4 (r : Fin 8) : FloatOps.sitofp (F := Ideal) FTy.f32 (BitVec.ofNat 32 r.val) < (Ideal.ofBits FTy.f32 1082130432#32 : EReal) ↔ r.val < 4 := by
  have h : (Ideal.ofBits FTy.f32 1082130432#32 : EReal) = ((4 : ℝ) : EReal) := by
    simp [Ideal.ofBits, Ideal.ieee, -EReal.coe_mul]; norm_num
  rw [h]
  show (((BitVec.ofNat 32 r.val).toInt : ℝ) : EReal) < _ ↔ _
  have hw : ∀ n : Fin 8, (BitVec.ofNat 32 n.val).toInt = (n.val : Int) := by decide
  rw [hw r, EReal.coe_lt_coe_iff]
  exact_mod_cast Iff.rfl

/-- The decay of the keys, as the host lays it out. -/
theorem V_main_v57 (c : Dev nD) (h : Fin 8) (r : Fin 8) (x : Fin 128) :
    (V m c main_v57 : S8x8x128.Idx → EReal) (ix3 h r x) = if r.val < 4 then tail h r.val else 0 := by
  dsimp only [V]
  simp only [List.flatten_cons, List.flatten_nil, List.append_nil]
  after_reads_simp
  simp only [StableHlo.TRef.ofBuf_toBuf, StableHlo.TRef.toBuf, StableHlo.TRef.ofBuf, cast_eq, id_eq]
  pointwise []
  by_cases hr : r.val < 4
  · rw [if_pos ((lt4 r).2 hr), if_pos hr]
    rfl
  · rw [if_neg (fun h' => hr ((lt4 r).1 h')), if_neg hr]

/-- The decay over the tokens, as the host lays it out. -/
theorem V_main_v60 (c : Dev nD) (h : Fin 8) (r : Fin 1) (x : Fin 128) : (V m c main_v60 : S8x1x128.Idx → EReal) (ix3 h r x) = whole h := by
  dsimp only [V]
  simp only [List.flatten_cons, List.flatten_nil, List.append_nil]
  after_reads_simp
  pointwise []
  rfl

/-- Where a block of the keys' decay lies. -/
theorem emb6 (t : Fin cfg0.N) (j : Fin 4) (r : Fin 8) (x : Fin 128) : (win0_6.blk t).view.emb (ix3 j r x) = ix3 (hd t j) r x := by
  unfold hd
  blk_point [idx t]

/-- The keys' decay of a head at a grid point. -/
theorem kdecay (c : Dev nD) (t : Fin cfg0.N) (j : Fin 4) (r : Fin 8) (x : Fin 128) :
    (iblk m c 6 t : S4x8x128.Idx → EReal) (ix3 j r x) = if r.val < 4 then tail (hd t j) r.val else 0 := by
  show V m c main_v57 ((win0_6.blk t).view.emb (ix3 j r x)) = _
  rw [emb6]
  exact V_main_v57 m c (hd t j) r x

/-- Where a block of the tokens' decay lies. -/
theorem emb7 (t : Fin cfg0.N) (j : Fin 4) (r : Fin 1) (x : Fin 128) : (win0_7.blk t).view.emb (ix3 j r x) = ix3 (hd t j) r x := by
  unfold hd
  blk_point [idx t]

/-- The tokens' decay of a head at a grid point. -/
theorem gdecay (c : Dev nD) (t : Fin cfg0.N) (j : Fin 4) (r : Fin 1) (x : Fin 128) :
    (iblk m c 7 t : S4x1x128.Idx → EReal) (ix3 j r x) = whole (hd t j) := by
  show V m c main_v60 ((win0_7.blk t).view.emb (ix3 j r x)) = _
  rw [emb7]
  exact V_main_v60 m c (hd t j) r x

/-- Where a state lies. -/
theorem emb11 (t : Fin cfg0.N) (j : Fin 4) (d e : Fin 128) :
    (win0_11.blk t).view.emb (ix4 0 j d e) = ix4 (sq t) (hd t j) d e := by
  unfold hd sq
  blk_point [idx t]

/-- One head's columns of a block. -/
theorem col (x : FVec Ideal S8x512 .f32) (off : Fin 2 → ℕ) (h : ∀ a, off a + S8x128.size a ≤ S8x512.size a) (j : Fin 4) (ho : off = ![0, 128 * j.val]) (r : Fin 8) (e : Fin 128) :
    View.ld (Val := Elt Ideal) (e' := .f32) x (Rect.unit (s := S8x512) off S8x128.size h) (ix2 r e) = x (ix2 r ⟨128 * j.val + e.val, by omega⟩) := by
  subst ho
  refine congrArg x (funext fun a => Fin.ext ?_)
  match a with
  | 0 => exact (Nat.zero_add _).trans (Nat.one_mul _)
  | 1 => exact congrArg (128 * j.val + ·) (Nat.one_mul _)

/-- One head's decay of the keys. -/
theorem tab (x : FVec Ideal S4x8x128 .f32) (j : Fin 4) (h : ∀ a, (![j.val, 0, 0] : Fin 3 → ℕ) a + S1x8x128.size a ≤ S4x8x128.size a) (r : Fin 8) (e : Fin 128) :
    View.ld (Val := Elt Ideal) (e' := .f32) x (Rect.unit (s := S4x8x128) ![j.val, 0, 0] S1x8x128.size h) (ix3 0 r e) = x (ix3 j r e) := by
  refine congrArg x (funext fun a => Fin.ext ?_)
  match a with
  | 0 => exact Nat.add_zero _
  | 1 => exact (Nat.zero_add _).trans (Nat.one_mul _)
  | 2 => exact (Nat.zero_add _).trans (Nat.one_mul _)

/-- One head's decay over the tokens. -/
theorem tot (x : FVec Ideal S4x1x128 .f32) (j : Fin 4) (h : ∀ a, (![j.val, 0, 0] : Fin 3 → ℕ) a + S1x1x128.size a ≤ S4x1x128.size a) (e : Fin 128) :
    View.ld (Val := Elt Ideal) (e' := .f32) x (Rect.unit (s := S4x1x128) ![j.val, 0, 0] S1x1x128.size h) (ix3 0 0 e) = x (ix3 j 0 e) := by
  refine congrArg x (funext fun a => Fin.ext ?_)
  match a with
  | 0 => exact Nat.add_zero _
  | 1 => rfl
  | 2 => exact (Nat.zero_add _).trans (Nat.one_mul _)

/-- One head's state in a block of states. -/
theorem place (j : Fin 4) (h : ∀ a, (![0, j.val, 0, 0] : Fin 4 → ℕ) a + S1x1x128x128.size a ≤ S1x4x128x128.size a) (a b : Fin 1) (d e : Fin 128) :
    (Rect.unit (s := S1x4x128x128) ![0, j.val, 0, 0] S1x1x128x128.size h).emb (ix4 a b d e) = ix4 0 j d e := by
  obtain rfl : a = 0 := Subsingleton.elim _ _
  obtain rfl : b = 0 := Subsingleton.elim _ _
  refine funext fun w => Fin.ext ?_
  match w with
  | 0 => rfl
  | 1 => exact Nat.add_zero _
  | 2 => exact (Nat.zero_add _).trans (Nat.one_mul _)
  | 3 => exact (Nat.zero_add _).trans (Nat.one_mul _)

/-- The new state of head 0 of a point. -/
theorem new0 (S : FVec Ideal S1x1x128x128 .f32) (k v : FVec Ideal S8x128 .f32) (gt : FVec Ideal S1x1x128 .f32) (kd : FVec Ideal S1x8x128 .f32) (a b : Fin 1) (d e : Fin 128) :
    k0_pay1 (F := Ideal) (k0_pay13 (F := Ideal) (k0_pay5 (F := Ideal) S) k (k0_pay10 (F := Ideal) v) gt kd) (ix4 a b d e)
      = next (gt (ix3 0 0 e)) (S (ix4 0 0 d e)) (fun x => k (ix2 x d)) (fun x => kd (ix3 0 x d)) (fun x => v (ix2 x e)) := by
  pointwise [k0_pay1, k0_pay13, k0_pay5, k0_pay10]
  rfl

/-- The new state of head 1 of a point. -/
theorem new1 (S : FVec Ideal S1x1x128x128 .f32) (k v : FVec Ideal S8x128 .f32) (gt : FVec Ideal S1x1x128 .f32) (kd : FVec Ideal S1x8x128 .f32) (a b : Fin 1) (d e : Fin 128) :
    k0_pay2 (F := Ideal) (k0_pay19 (F := Ideal) (k0_pay6 (F := Ideal) S) k v gt kd) (ix4 a b d e)
      = next (gt (ix3 0 0 e)) (S (ix4 0 0 d e)) (fun x => k (ix2 x d)) (fun x => kd (ix3 0 x d)) (fun x => v (ix2 x e)) := by
  pointwise [k0_pay2, k0_pay19, k0_pay6, k0_pay17]
  rfl

/-- The new state of head 2 of a point. -/
theorem new2 (S : FVec Ideal S1x1x128x128 .f32) (k v : FVec Ideal S8x128 .f32) (gt : FVec Ideal S1x1x128 .f32) (kd : FVec Ideal S1x8x128 .f32) (a b : Fin 1) (d e : Fin 128) :
    k0_pay3 (F := Ideal) (k0_pay25 (F := Ideal) (k0_pay7 (F := Ideal) S) k (k0_pay23 (F := Ideal) v) gt kd) (ix4 a b d e)
      = next (gt (ix3 0 0 e)) (S (ix4 0 0 d e)) (fun x => k (ix2 x d)) (fun x => kd (ix3 0 x d)) (fun x => v (ix2 x e)) := by
  pointwise [k0_pay3, k0_pay25, k0_pay7, k0_pay23]
  rfl

/-- The new state of head 3 of a point. -/
theorem new3 (S : FVec Ideal S1x1x128x128 .f32) (k v : FVec Ideal S8x128 .f32) (gt : FVec Ideal S1x1x128 .f32) (kd : FVec Ideal S1x8x128 .f32) (a b : Fin 1) (d e : Fin 128) :
    k0_pay4 (F := Ideal) (k0_pay32 (F := Ideal) (k0_pay8 (F := Ideal) S) k (k0_pay29 (F := Ideal) v) (k0_pay31 (F := Ideal) gt) kd) (ix4 a b d e)
      = next (gt (ix3 0 0 e)) (S (ix4 0 0 d e)) (fun x => k (ix2 x d)) (fun x => kd (ix3 0 x d)) (fun x => v (ix2 x e)) := by
  pointwise [k0_pay4, k0_pay32, k0_pay8, k0_pay29, k0_pay31]
  rfl

/-- What a point stores of the states. -/
theorem point11 (c : Dev nD) (t : Fin cfg0.N) (A : S1x4x128x128.Idx → EReal)
    (hA : ∀ (j : Fin 4) (d e : Fin 128), A (ix4 0 j d e)
      = next (whole (hd t j)) (old m c (ix4 (sq t) (hd t j) d e)) (entry (zed m c) 7168 (by decide) (sq t) (hd t j) d)
          (fun x => if x.val < 4 then tail (hd t j) x.val else 0) (entry (zed m c) 8192 (by decide) (sq t) (hd t j) e))
    (y : S1x4x128x128.Idx) : out0_11 (iblk m c 0 t) (iblk m c 1 t) (iblk m c 2 t) (iblk m c 3 t) (iblk m c 4 t) (iblk m c 5 t) (iblk m c 6 t) (iblk m c 7 t) (iblk m c 8 t) (iblk m c 9 t) y = A y := by
  unfold_out out0_11
  refine View.canon_apply_of_pieces (Val := Elt Ideal) (e := .f32) A _ ?_ y (cover0_11 _ _ _ _ y)
  intro p hp
  simp only [List.mem_cons, List.not_mem_nil, or_false] at hp
  rcases hp with rfl | rfl | rfl | rfl
  · intro x
    obtain ⟨a, b, d, e, rfl⟩ : ∃ (a b : Fin 1) (d e : Fin 128), x = ix4 a b d e := ⟨x 0, x 1, x 2, x 3, eq_ix4 x⟩
    refine (new3 _ _ _ _ _ a b d e).trans (Eq.trans ?_ ((hA 3 d e).symm.trans (congrArg A (place 3 (by decide) a b d e).symm)))
    have hs : View.ld (Val := Elt Ideal) (e' := .f32) (iblk m c 9 t : S1x4x128x128.Idx → EReal) r0_3 (ix4 0 0 d e) = old m c (ix4 (sq t) (hd t 3) d e) :=
      (congrArg (iblk m c 9 t : S1x4x128x128.Idx → EReal) (place 3 (by decide) 0 0 d e)).trans (tile_s m c t 3 d e)
    have hg := (tot (iblk m c 7 t) 3 (by decide) e).trans (gdecay m c t 3 0 e)
    have hk := funext fun x : Fin 8 => (col (iblk m c 1 t) k0_off4 k0_off4_inb 3 (by decide) x d).trans (tile_k m c t 3 x d)
    have hd := funext fun x : Fin 8 => (tab (iblk m c 6 t) 3 (by decide) x d).trans (kdecay m c t 3 x d)
    have hv := funext fun x : Fin 8 => (col (iblk m c 2 t) k0_off4 k0_off4_inb 3 (by decide) x e).trans (tile_v m c t 3 x e)
    exact congr (congr (congr (congr (congrArg next hg) hs) hk) hd) hv
  · intro x
    obtain ⟨a, b, d, e, rfl⟩ : ∃ (a b : Fin 1) (d e : Fin 128), x = ix4 a b d e := ⟨x 0, x 1, x 2, x 3, eq_ix4 x⟩
    refine (new2 _ _ _ _ _ a b d e).trans (Eq.trans ?_ ((hA 2 d e).symm.trans (congrArg A (place 2 (by decide) a b d e).symm)))
    have hs : View.ld (Val := Elt Ideal) (e' := .f32) (iblk m c 9 t : S1x4x128x128.Idx → EReal) r0_2 (ix4 0 0 d e) = old m c (ix4 (sq t) (hd t 2) d e) :=
      (congrArg (iblk m c 9 t : S1x4x128x128.Idx → EReal) (place 2 (by decide) 0 0 d e)).trans (tile_s m c t 2 d e)
    have hg := (tot (iblk m c 7 t) 2 (by decide) e).trans (gdecay m c t 2 0 e)
    have hk := funext fun x : Fin 8 => (col (iblk m c 1 t) k0_off3 k0_off3_inb 2 (by decide) x d).trans (tile_k m c t 2 x d)
    have hd := funext fun x : Fin 8 => (tab (iblk m c 6 t) 2 (by decide) x d).trans (kdecay m c t 2 x d)
    have hv := funext fun x : Fin 8 => (col (iblk m c 2 t) k0_off3 k0_off3_inb 2 (by decide) x e).trans (tile_v m c t 2 x e)
    exact congr (congr (congr (congr (congrArg next hg) hs) hk) hd) hv
  · intro x
    obtain ⟨a, b, d, e, rfl⟩ : ∃ (a b : Fin 1) (d e : Fin 128), x = ix4 a b d e := ⟨x 0, x 1, x 2, x 3, eq_ix4 x⟩
    refine (new1 _ _ _ _ _ a b d e).trans (Eq.trans ?_ ((hA 1 d e).symm.trans (congrArg A (place 1 (by decide) a b d e).symm)))
    have hs : View.ld (Val := Elt Ideal) (e' := .f32) (iblk m c 9 t : S1x4x128x128.Idx → EReal) r0_1 (ix4 0 0 d e) = old m c (ix4 (sq t) (hd t 1) d e) :=
      (congrArg (iblk m c 9 t : S1x4x128x128.Idx → EReal) (place 1 (by decide) 0 0 d e)).trans (tile_s m c t 1 d e)
    have hg := (tot (iblk m c 7 t) 1 (by decide) e).trans (gdecay m c t 1 0 e)
    have hk := funext fun x : Fin 8 => (col (iblk m c 1 t) k0_off2 k0_off2_inb 1 (by decide) x d).trans (tile_k m c t 1 x d)
    have hd := funext fun x : Fin 8 => (tab (iblk m c 6 t) 1 (by decide) x d).trans (kdecay m c t 1 x d)
    have hv := funext fun x : Fin 8 => (col (iblk m c 2 t) k0_off2 k0_off2_inb 1 (by decide) x e).trans (tile_v m c t 1 x e)
    exact congr (congr (congr (congr (congrArg next hg) hs) hk) hd) hv
  · intro x
    obtain ⟨a, b, d, e, rfl⟩ : ∃ (a b : Fin 1) (d e : Fin 128), x = ix4 a b d e := ⟨x 0, x 1, x 2, x 3, eq_ix4 x⟩
    refine (new0 _ _ _ _ _ a b d e).trans (Eq.trans ?_ ((hA 0 d e).symm.trans (congrArg A (place 0 (by decide) a b d e).symm)))
    have hs : View.ld (Val := Elt Ideal) (e' := .f32) (iblk m c 9 t : S1x4x128x128.Idx → EReal) r0_0 (ix4 0 0 d e) = old m c (ix4 (sq t) (hd t 0) d e) :=
      (congrArg (iblk m c 9 t : S1x4x128x128.Idx → EReal) (place 0 (by decide) 0 0 d e)).trans (tile_s m c t 0 d e)
    have hg := (tot (iblk m c 7 t) 0 (by decide) e).trans (gdecay m c t 0 0 e)
    have hk := funext fun x : Fin 8 => (col (iblk m c 1 t) k0_off1 k0_off1_inb 0 (by decide) x d).trans (tile_k m c t 0 x d)
    have hd := funext fun x : Fin 8 => (tab (iblk m c 6 t) 0 (by decide) x d).trans (kdecay m c t 0 x d)
    have hv := funext fun x : Fin 8 => (col (iblk m c 2 t) k0_off1 k0_off1_inb 0 (by decide) x e).trans (tile_v m c t 0 x e)
    exact congr (congr (congr (congr (congrArg next hg) hs) hk) hd) hv

/-- After the call the states are any array that holds them. -/
theorem final11 (c : Dev nD) (A : S8x8x128x128.Idx → EReal)
    (hA : ∀ (b h : Fin 8) (d e : Fin 128), A (ix4 b h d e)
      = next (whole h) (old m c (ix4 b h d e)) (fun x : Fin 4 => entry (zed m c) 7168 (by decide) b h d (x.castLE (by decide)))
          (fun x : Fin 4 => tail h x.val) (fun x : Fin 4 => entry (zed m c) 8192 (by decide) b h e (x.castLE (by decide)))) :
    (dats m 0 c).arrAt 11 (cfgs 0).N = A := by
  refine (dats m 0 c).arrAt_eq_of_covers 11 _ (by decide +kernel) fun t _ y => ?_
  blk_simp
  rw [after0_11]
  exact point11 m c t (fun y => A ((win0_11.blk t).view.emb y)) (fun j d e => (congrArg A (emb11 t j d e)).trans ((hA _ _ _ _).trans (next_eight _ _ _ _ _).symm)) y

end Cert.RetentionSampleIdeal.Result

namespace Cert.RetentionSampleRefIdeal.Result

open Cert.RetentionSpec Cert.RetentionSampleRefIdeal Cert.RetentionSampleRefIdeal.Gen Cert.RetentionSampleIdeal.Result

/-- The reference's new states, entry by entry. -/
theorem states (z : FVec Ideal S64x16384 .f32) (S : FVec Ideal S8x8x128x128 .f32) (b h : Fin 8) (d e : Fin 128) :
    (addf (mulf (broadcastInDim S8x8x128x128 ![0, 1, 2, 3] bcast_S1x8x1x1_S8x8x128x128_0_1_2_3 (broadcastInDim S1x8x1x1 ![1] bcast_S8_S1x8x1x1_1 (Host.exp (mulf (broadcastInDim S8 ![] bcast_S_S8 (constant S_ .f32 0x40800000#32)) (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))))))) S) (Host.dotGeneral dot_S8x4x8x128_S8x4x8x128_S8x8x128x128_1_1_3_3_02_02 none (mulf (shapeCast S8x4x8x128 (extractStridedSlice S8x4x1024 ![0, 0, 7168] (extractStridedSlice S8x4x16384 ![0, 0, 0] (shapeCast S8x8x16384 z shapeCasts_S64x16384_S8x8x16384) slices_S8x8x16384_S8x4x16384_0_0_0) slices_S8x4x16384_S8x4x1024_0_0_7168) shapeCasts_S8x4x1024_S8x4x8x128) (broadcastInDim S8x4x8x128 ![0, 1, 2, 3] bcast_S1x4x8x1_S8x4x8x128_0_1_2_3 (broadcastInDim S1x4x8x1 ![1, 2] bcast_S4x8_S1x4x8x1_1_2 (Host.exp (mulf (broadcastInDim S4x8 ![0, 1] bcast_S4x1_S4x8_0_1 (broadcastInDim S4x1 ![0] bcast_S4_S4x1_0 (subf (broadcastInDim S4 ![] bcast_S_S4 (constant S_ .f32 0x40400000#32)) (sitofp .f32 (iotaInDim S4 32 0))))) (broadcastInDim S4x8 ![0, 1] bcast_S1x8_S4x8_0_1 (broadcastInDim S1x8 ![1] bcast_S8_S1x8_1 (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0)))))))))))))) (shapeCast S8x4x8x128 (extractStridedSlice S8x4x1024 ![0, 0, 8192] (extractStridedSlice S8x4x16384 ![0, 0, 0] (shapeCast S8x8x16384 z shapeCasts_S64x16384_S8x8x16384) slices_S8x8x16384_S8x4x16384_0_0_0) slices_S8x4x16384_S8x4x1024_0_0_8192) shapeCasts_S8x4x1024_S8x4x8x128)) : FVec Ideal S8x8x128x128 .f32) (ix4 b h d e)
      = next (whole h) (S (ix4 b h d e)) (fun x : Fin 4 => entry z 7168 (by decide) b h d (x.castLE (by decide)))
          (fun x : Fin 4 => tail h x.val) (fun x : Fin 4 => entry z 8192 (by decide) b h e (x.castLE (by decide))) := by
  pointwise []
  rfl

/-- The reference's new states are the ones the call leaves. -/
theorem pair (z : FVec Ideal S64x16384 .f32) (S : FVec Ideal S8x8x128x128 .f32)
    (m : (ℓ : Loc RetentionSampleIdeal.nD RetentionSampleIdeal.τ RetentionSampleIdeal.sig) → Buf (Elt Ideal) ℓ) (c : Dev RetentionSampleIdeal.nD)
    (hz : z = RetentionSampleIdeal.Result.zed m c) (hS : S = RetentionSampleIdeal.Result.old m c) :
    (addf (mulf (broadcastInDim S8x8x128x128 ![0, 1, 2, 3] bcast_S1x8x1x1_S8x8x128x128_0_1_2_3 (broadcastInDim S1x8x1x1 ![1] bcast_S8_S1x8x1x1_1 (Host.exp (mulf (broadcastInDim S8 ![] bcast_S_S8 (constant S_ .f32 0x40800000#32)) (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))))))) S) (Host.dotGeneral dot_S8x4x8x128_S8x4x8x128_S8x8x128x128_1_1_3_3_02_02 none (mulf (shapeCast S8x4x8x128 (extractStridedSlice S8x4x1024 ![0, 0, 7168] (extractStridedSlice S8x4x16384 ![0, 0, 0] (shapeCast S8x8x16384 z shapeCasts_S64x16384_S8x8x16384) slices_S8x8x16384_S8x4x16384_0_0_0) slices_S8x4x16384_S8x4x1024_0_0_7168) shapeCasts_S8x4x1024_S8x4x8x128) (broadcastInDim S8x4x8x128 ![0, 1, 2, 3] bcast_S1x4x8x1_S8x4x8x128_0_1_2_3 (broadcastInDim S1x4x8x1 ![1, 2] bcast_S4x8_S1x4x8x1_1_2 (Host.exp (mulf (broadcastInDim S4x8 ![0, 1] bcast_S4x1_S4x8_0_1 (broadcastInDim S4x1 ![0] bcast_S4_S4x1_0 (subf (broadcastInDim S4 ![] bcast_S_S4 (constant S_ .f32 0x40400000#32)) (sitofp .f32 (iotaInDim S4 32 0))))) (broadcastInDim S4x8 ![0, 1] bcast_S1x8_S4x8_0_1 (broadcastInDim S1x8 ![1] bcast_S8_S1x8_1 (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0)))))))))))))) (shapeCast S8x4x8x128 (extractStridedSlice S8x4x1024 ![0, 0, 8192] (extractStridedSlice S8x4x16384 ![0, 0, 0] (shapeCast S8x8x16384 z shapeCasts_S64x16384_S8x8x16384) slices_S8x8x16384_S8x4x16384_0_0_0) slices_S8x4x16384_S8x4x1024_0_0_8192) shapeCasts_S8x4x1024_S8x4x8x128)) : FVec Ideal S8x8x128x128 .f32)
      = (RetentionSampleIdeal.Gen.dats m 0 c).arrAt 11 (RetentionSampleIdeal.cfgs 0).N := by
  subst hz hS
  exact (RetentionSampleIdeal.Result.final11 m c _ (states _ _)).symm

end Cert.RetentionSampleRefIdeal.Result

end
-- ==== Proof.lean ====
/- The certificate: every claim of `Cert.Claim`, put together from the result of each call (the modules
   `Proof/…Result.lean`) and the run of its reference. -/
module

public import proofs.«01_k».proof.Defs
public import proofs.«01_k».proof.Proof.Gen.Retention.Frame
public import proofs.«01_k».proof.Proof.Gen.RetentionIdeal.Value
public import proofs.«01_k».proof.Proof.RetentionPair
public import proofs.«01_k».proof.Proof.Gen.RetentionRefIdeal.Run
public import proofs.«01_k».proof.Proof.Gen.FfnUp.Frame
public import proofs.«01_k».proof.Proof.Gen.FfnUpIdeal.Value
public import proofs.«01_k».proof.Proof.FfnUpResult
public import proofs.«01_k».proof.Proof.Gen.FfnUpRefIdeal.Run
public import proofs.«01_k».proof.Proof.Gen.FfnDown.Frame
public import proofs.«01_k».proof.Proof.Gen.FfnDownIdeal.Value
public import proofs.«01_k».proof.Proof.FfnDownResult
public import proofs.«01_k».proof.Proof.Gen.FfnDownRefIdeal.Run
public import proofs.«01_k».proof.Proof.Gen.OutProj.Frame
public import proofs.«01_k».proof.Proof.Gen.OutProjIdeal.Value
public import proofs.«01_k».proof.Proof.OutProjResult
public import proofs.«01_k».proof.Proof.Gen.OutProjRefIdeal.Run
public import proofs.«01_k».proof.Proof.Gen.Merge.Frame
public import proofs.«01_k».proof.Proof.Gen.MergeIdeal.Value
public import proofs.«01_k».proof.Proof.MergeResult
public import proofs.«01_k».proof.Proof.Gen.MergeRefIdeal.Run
public import proofs.«01_k».proof.Proof.Gen.FinalNorm.Frame
public import proofs.«01_k».proof.Proof.Gen.FinalNormIdeal.Value
public import proofs.«01_k».proof.Proof.FinalNormResult
public import proofs.«01_k».proof.Proof.Gen.FinalNormRefIdeal.Run
public import proofs.«01_k».proof.Proof.Gen.Inproj
public import proofs.«01_k».proof.Proof.InprojFrame
public import proofs.«01_k».proof.Proof.InprojWords
public import proofs.«01_k».proof.Proof.InprojPair
public import proofs.«01_k».proof.Proof.Gen.InprojRefIdeal.Run
public import proofs.«01_k».proof.Proof.Gen.FinalNormSample.Frame
public import proofs.«01_k».proof.Proof.Gen.FinalNormSampleIdeal.Value
public import proofs.«01_k».proof.Proof.FinalNormSampleResult
public import proofs.«01_k».proof.Proof.Gen.FinalNormSampleRefIdeal.Run
public import proofs.«01_k».proof.Proof.Gen.InprojSample
public import proofs.«01_k».proof.Proof.InprojSampleFrame
public import proofs.«01_k».proof.Proof.InprojSampleWords
public import proofs.«01_k».proof.Proof.InprojSamplePair
public import proofs.«01_k».proof.Proof.Gen.InprojSampleRefIdeal.Run
public import proofs.«01_k».proof.Proof.Gen.RetentionSample.Frame
public import proofs.«01_k».proof.Proof.Gen.RetentionSampleIdeal.Value
public import proofs.«01_k».proof.Proof.RetentionSampleResult
public import proofs.«01_k».proof.Proof.Gen.RetentionSampleRefIdeal.Run
public import Idealize.ShloMosaic.Lib.Claim

@[expose] public section

set_option maxRecDepth 16384

noncomputable section

namespace Cert.Proof

open Idealize.ShloMosaic Idealize.SL.Sem

set_option maxHeartbeats 4000000 in
/-- The retention call computes its reference: the gated, normalised branch and the final state. -/
theorem value_Retention : Cert.algebraic_RetentionIdeal_RetentionRefIdeal := by
  pair_intro
  · run_from Cert.RetentionIdeal.Gen.run_main m g
    exact Cert.RetentionIdeal.Result.arg1_kept m c
  · refine θ_run_mono (Cert.RetentionRefIdeal.Value.run m' g') ?_
    intro r h c
    have hc := h c
    have p9 := Cert.RetentionIdeal.Result.pair9 m m' c (hagree c).1 (hagree c).2
    have p10 := Cert.RetentionIdeal.Result.pair10 m m' c (hagree c).1
    refine ⟨?_, ?_, hc.2.2.1, hc.2.2.2⟩
    · rw [hc.1]
      exact p9.symm
    · rw [hc.2.1]
      exact p10.symm

/-- The up projection computes its reference. -/
theorem value_FfnUp : Cert.algebraic_FfnUpIdeal_FfnUpRefIdeal := by
  pair_intro
  · run_from Cert.FfnUpIdeal.Gen.run_main m g
  · run_from Cert.FfnUpRefIdeal.Value.run m' g'
    exact (Cert.FfnUpIdeal.Result.final m c).symm

/-- The down projection computes its reference. -/
theorem value_FfnDown : Cert.algebraic_FfnDownIdeal_FfnDownRefIdeal := by
  pair_intro
  · run_from Cert.FfnDownIdeal.Gen.run_main m g
  · run_from Cert.FfnDownRefIdeal.Value.run m' g'
    exact (Cert.FfnDownIdeal.Result.final m c).symm

/-- The output projection computes its reference. -/
theorem value_OutProj : Cert.algebraic_OutProjIdeal_OutProjRefIdeal := by
  pair_intro
  · run_from Cert.OutProjIdeal.Gen.run_main m g
  · run_from Cert.OutProjRefIdeal.Value.run m' g'
    exact (Cert.OutProjIdeal.Result.final m c).symm

/-- The gated merge computes its reference. -/
theorem value_Merge : Cert.algebraic_MergeIdeal_MergeRefIdeal := by
  pair_intro
  · run_from Cert.MergeIdeal.Gen.run_main m g
  · run_from Cert.MergeRefIdeal.Value.run m' g'
    exact (Cert.MergeIdeal.Result.final m c).symm

/-- The final norm computes its reference. -/
theorem value_FinalNorm : Cert.algebraic_FinalNormIdeal_FinalNormRefIdeal := by
  pair_intro
  · run_from Cert.FinalNormIdeal.Gen.run_main m g
  · run_from Cert.FinalNormRefIdeal.Value.run m' g'
    exact (Cert.FinalNormIdeal.Result.final m c).symm

/-- The input projection computes its reference: the projection and the four arrays of heads. -/
theorem value_Inproj : Cert.algebraic_InprojIdeal_InprojRefIdeal := Cert.InprojIdeal.Result.pair

/-- The final norm of the sampled rows computes its reference. -/
theorem value_FinalNormSample : Cert.algebraic_FinalNormSampleIdeal_FinalNormSampleRefIdeal := by
  pair_intro
  · run_from Cert.FinalNormSampleIdeal.Gen.run_main m g
  · run_from Cert.FinalNormSampleRefIdeal.Value.run m' g'
    exact (Cert.FinalNormSampleIdeal.Result.final m c).symm

/-- The input projection of the sampled rows computes its reference: the projection and the four arrays of heads. -/
theorem value_InprojSample : Cert.algebraic_InprojSampleIdeal_InprojSampleRefIdeal := Cert.InprojSampleIdeal.Result.pair

set_option maxHeartbeats 4000000 in
/-- The retention call on the sampled rows leaves the states of its reference. -/
theorem value_RetentionSample : Cert.algebraic_RetentionSampleIdeal_RetentionSampleRefIdeal := by
  pair_intro
  · run_from Cert.RetentionSampleIdeal.Gen.run_main m g
    exact Cert.RetentionSampleIdeal.Gen.V_main_arg1 m c
  · refine θ_run_mono (Cert.RetentionSampleRefIdeal.Value.run m' g') ?_
    intro r h c
    have hc := h c
    refine ⟨?_, hc.2.1, hc.2.2.1, hc.2.2.2⟩
    rw [hc.1]
    exact Cert.RetentionSampleRefIdeal.Result.pair _ _ m c (hagree c).1 (hagree c).2.2

/-- The reference of Retention leaves its arguments as they were; it has no semaphore. -/
theorem frame_RetentionRef : Cert.quiescent_RetentionRefIdeal := fun m g _ =>
  (θ_run Cert.RetentionRefIdeal.defs _ _).mono (fun r h => ⟨fun c => (h c).2.2, sem_eq_zero_of_no_sems (by decide) r.2⟩)
    (Cert.RetentionRefIdeal.Value.run m g)

/-- The reference of FfnUp leaves its arguments as they were; it has no semaphore. -/
theorem frame_FfnUpRef : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run m g)

/-- The reference of FfnDown leaves its arguments as they were; it has no semaphore. -/
theorem frame_FfnDownRef : Cert.quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run m g)

/-- The reference of OutProj leaves its arguments as they were; it has no semaphore. -/
theorem frame_OutProjRef : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run m g)

/-- The reference of Merge leaves its arguments as they were; it has no semaphore. -/
theorem frame_MergeRef : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The reference of FinalNorm leaves its arguments as they were; it has no semaphore. -/
theorem frame_FinalNormRef : Cert.quiescent_FinalNormRefIdeal := fun m g _ =>
  (θ_run Cert.FinalNormRefIdeal.defs _ _).mono (fun r h => ⟨fun c => (h c).2, sem_eq_zero_of_no_sems (by decide) r.2⟩)
    (Cert.FinalNormRefIdeal.Value.run m g)

/-- The reference of Inproj leaves its arguments as they were; it has no semaphore. -/
theorem frame_InprojRef : Cert.quiescent_InprojRefIdeal := fun m g _ =>
  (θ_run Cert.InprojRefIdeal.defs _ _).mono (fun r h => ⟨fun c => (h c).2.2.2.2.2, sem_eq_zero_of_no_sems (by decide) r.2⟩)
    (Cert.InprojRefIdeal.Value.run m g)

/-- The reference of FinalNormSample leaves its arguments as they were; it has no semaphore. -/
theorem frame_FinalNormSampleRef : Cert.quiescent_FinalNormSampleRefIdeal := fun m g _ =>
  (θ_run Cert.FinalNormSampleRefIdeal.defs _ _).mono (fun r h => ⟨fun c => (h c).2, sem_eq_zero_of_no_sems (by decide) r.2⟩)
    (Cert.FinalNormSampleRefIdeal.Value.run m g)

/-- The reference of InprojSample leaves its arguments as they were; it has no semaphore. -/
theorem frame_InprojSampleRef : Cert.quiescent_InprojSampleRefIdeal := fun m g _ =>
  (θ_run Cert.InprojSampleRefIdeal.defs _ _).mono (fun r h => ⟨fun c => (h c).2.2.2.2.2, sem_eq_zero_of_no_sems (by decide) r.2⟩)
    (Cert.InprojSampleRefIdeal.Value.run m g)

/-- The reference of RetentionSample leaves its arguments as they were; it has no semaphore. -/
theorem frame_RetentionSampleRef : Cert.quiescent_RetentionSampleRefIdeal := fun m g _ =>
  (θ_run Cert.RetentionSampleRefIdeal.defs _ _).mono (fun r h => ⟨fun c => (h c).2, sem_eq_zero_of_no_sems (by decide) r.2⟩)
    (Cert.RetentionSampleRefIdeal.Value.run m g)

theorem claim : Cert.Claim :=
  ⟨Cert.Retention.Gen.facts,
    Cert.RetentionIdeal.Gen.facts,
    Cert.RetentionRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.OutProj.Gen.facts,
    Cert.OutProjIdeal.Gen.facts,
    Cert.OutProjRefIdeal.Gen.facts,
    Cert.Merge.Gen.facts,
    Cert.MergeIdeal.Gen.facts,
    Cert.MergeRefIdeal.Gen.facts,
    Cert.FinalNorm.Gen.facts,
    Cert.FinalNormIdeal.Gen.facts,
    Cert.FinalNormRefIdeal.Gen.facts,
    Cert.Inproj.Gen.facts,
    Cert.InprojIdeal.Gen.facts,
    Cert.InprojRefIdeal.Gen.facts,
    Cert.FinalNormSample.Gen.facts,
    Cert.FinalNormSampleIdeal.Gen.facts,
    Cert.FinalNormSampleRefIdeal.Gen.facts,
    Cert.InprojSample.Gen.facts,
    Cert.InprojSampleIdeal.Gen.facts,
    Cert.InprojSampleRefIdeal.Gen.facts,
    Cert.RetentionSample.Gen.facts,
    Cert.RetentionSampleIdeal.Gen.facts,
    Cert.RetentionSampleRefIdeal.Gen.facts,
    fun m ρ _ => Cert.Retention.Gen.frame m ρ,
    fun m ρ _ => Cert.RetentionIdeal.Gen.frame m ρ,
    frame_RetentionRef,
    fun m ρ _ => Cert.FfnUp.Gen.frame m ρ,
    fun m ρ _ => Cert.FfnUpIdeal.Gen.frame m ρ,
    frame_FfnUpRef,
    fun m ρ _ => Cert.FfnDown.Gen.frame m ρ,
    fun m ρ _ => Cert.FfnDownIdeal.Gen.frame m ρ,
    frame_FfnDownRef,
    fun m ρ _ => Cert.OutProj.Gen.frame m ρ,
    fun m ρ _ => Cert.OutProjIdeal.Gen.frame m ρ,
    frame_OutProjRef,
    fun m ρ _ => Cert.Merge.Gen.frame m ρ,
    fun m ρ _ => Cert.MergeIdeal.Gen.frame m ρ,
    frame_MergeRef,
    fun m ρ _ => Cert.FinalNorm.Gen.frame m ρ,
    fun m ρ _ => Cert.FinalNormIdeal.Gen.frame m ρ,
    frame_FinalNormRef,
    Cert.InprojIdeal.Words.frame,
    fun m ρ _ => Cert.InprojIdeal.Result.frame m ρ,
    frame_InprojRef,
    fun m ρ _ => Cert.FinalNormSample.Gen.frame m ρ,
    fun m ρ _ => Cert.FinalNormSampleIdeal.Gen.frame m ρ,
    frame_FinalNormSampleRef,
    Cert.InprojSampleIdeal.Words.frame,
    fun m ρ _ => Cert.InprojSampleIdeal.Result.frame m ρ,
    frame_InprojSampleRef,
    fun m ρ _ => Cert.RetentionSample.Gen.frame m ρ,
    fun m ρ _ => Cert.RetentionSampleIdeal.Gen.frame m ρ,
    frame_RetentionSampleRef,
    trivial,
    value_Retention,
    trivial,
    value_FfnUp,
    trivial,
    value_FfnDown,
    trivial,
    value_OutProj,
    trivial,
    value_Merge,
    trivial,
    value_FinalNorm,
    trivial,
    value_Inproj,
    trivial,
    value_FinalNormSample,
    trivial,
    value_InprojSample,
    trivial,
    value_RetentionSample⟩

end Cert.Proof

end
